-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_gain_and_ds [hPre_finite_gain_and_ds : Cert.Pre_finite_gain_and_ds.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_gain_and_ds.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite_gain_and_ds.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_gain_and_ds [hPre_finite_gain_and_ds : Cert.Pre_finite_gain_and_ds.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_gain_and_ds.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite_gain_and_ds.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_gain_and_ds [hKernel7Ideal : Cert.Kernel7Ideal.Facts] [hPre_finite_gain_and_ds : Cert.Pre_finite_gain_and_ds.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_gain_and_ds m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_gain_and_ds [hReference7Ideal : Cert.Reference7Ideal.Facts] [hPre_finite_gain_and_ds : Cert.Pre_finite_gain_and_ds.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_gain_and_ds m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite_gain_and_ds [hKernel7Ideal : Cert.Kernel7Ideal.Facts] [hReference7Ideal : Cert.Reference7Ideal.Facts] [hPre_finite_gain_and_ds : Cert.Pre_finite_gain_and_ds.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_gain_and_ds m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_v61) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v14_0)) (v1 : (c : Dev Cert.Kernel8Ideal.nD) → Buf (Elt Ideal) ((c.tc : Thread Cert.Kernel8Ideal.nD Cert.Kernel8Ideal.τ).loc Cert.Kernel8Ideal.main_v14_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_0) = v0 c
          ∧ r.2.mem ((c.tc : Thread Cert.Kernel8Ideal.nD Cert.Kernel8Ideal.τ).loc Cert.Kernel8Ideal.main_v14_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v582) = v0 c
          ∧ r.2.mem ((c.tc : Thread Cert.Reference8Ideal.nD Cert.Reference8Ideal.τ).loc Cert.Reference8Ideal.main_v583) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v8)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v8) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)) →
    ∃ (v0 : (c : Dev Cert.Kernel17Ideal.nD) → Buf (Elt Ideal) ((c.tc : Thread Cert.Kernel17Ideal.nD Cert.Kernel17Ideal.τ).loc Cert.Kernel17Ideal.main_v7)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v7) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v16) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)) →
    ∃ (v0 : (c : Dev Cert.Kernel18Ideal.nD) → Buf (Elt Ideal) ((c.tc : Thread Cert.Kernel18Ideal.nD Cert.Kernel18Ideal.τ).loc Cert.Kernel18Ideal.main_v12)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v12) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v10) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite_inputs : Cert.Pre_finite_inputs.Facts) (hPre_finite_gain_and_ds : Cert.Pre_finite_gain_and_ds.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_gain_and_ds (hKernel7Ideal := hKernel7Ideal) (hPre_finite_gain_and_ds := hPre_finite_gain_and_ds)
    ∧ quiescent_Reference7Ideal (hReference7Ideal := hReference7Ideal)
    ∧ quiescent_Reference7Ideal_pre_finite_gain_and_ds (hReference7Ideal := hReference7Ideal) (hPre_finite_gain_and_ds := hPre_finite_gain_and_ds)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_gain_and_ds (hKernel7Ideal := hKernel7Ideal) (hReference7Ideal := hReference7Ideal) (hPre_finite_gain_and_ds := hPre_finite_gain_and_ds)
    ∧ preserves_Kernel8_Kernel8Ideal
    ∧ algebraic_Kernel8Ideal_Reference8Ideal (hKernel8Ideal := hKernel8Ideal) (hReference8Ideal := hReference8Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite_gain_and_ds.lean ====
abbrev S8192x1024 : Shape := ⟨2, ![8192, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S1x1024 .f32) (main_arg2 : FVec F S1x1024 .f32) (main_arg3 : FVec F S1x1024 .f32) (main_arg4 : FVec F S8192x1024 .f32) : IVec S1x1024 1 × IVec S8192x1024 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S8192x1024 .f32 := Host.absf main_arg4
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  (main_v2, main_v5)
-- ==== Pre_finite_inputs.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024x2816 .f32) (main_arg2 : FVec F S1024x2816 .f32) (main_arg3 : FVec F S2816x1024 .f32) (main_arg4 : FVec F S8192x1024 .f32) : IVec S8192x1024 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Kernel.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S1024x1024 : Shape := ⟨2, ![1024, 1024]⟩
abbrev S256x1024 : Shape := ⟨2, ![256, 1024]⟩
abbrev S2x1024x256 : Shape := ⟨3, ![2, 1024, 256]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 15
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S1x8192x2816, .f32⟩
  | .hbm, ⟨9, _⟩ => ⟨S2x8192x2816, .f32⟩
  | .hbm, ⟨10, _⟩ => ⟨S2x8192x2816, .bf16⟩
  | .hbm, ⟨11, _⟩ => ⟨S8192x1024, .bf16⟩
  | .hbm, ⟨12, _⟩ => ⟨S2816x1024, .bf16⟩
  | .hbm, ⟨13, _⟩ => ⟨S2x8192x2816, .bf16⟩
  | .hbm, ⟨14, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S2x1024x256, .bf16⟩
  | .local _ .vmem, ⟨5, _⟩ => ⟨S2x1024x256, .bf16⟩
  | .local _ .vmem, ⟨6, _⟩ => ⟨S2x1024x256, .bf16⟩
  | .local _ .vmem, ⟨7, _⟩ => ⟨S2x1024x256, .bf16⟩
  | .local _ .vmem, ⟨8, _⟩ => ⟨S1024x256, .bf16⟩
  | .local _ .vmem, ⟨9, _⟩ => ⟨S1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S1x8192x2816, .f32⟩
  | .hbm, ⟨36, _⟩ => ⟨S1x8192x2816, .f32⟩
  | .hbm, ⟨37, _⟩ => ⟨S2x8192x2816, .f32⟩
  | .hbm, ⟨38, _⟩ => ⟨S2x8192x2816, .bf16⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel3.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 20
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S8192x1024, .bf16⟩
  | .hbm, ⟨19, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v6 : BitVec 1 := Scalar.cmpi .eq arg2 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S1024x2816, .f32⟩
  | .hbm, ⟨25, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]
-- ==== Kernel4.lean ====
abbrev S8192x1024 : Shape := ⟨2, ![8192, 1024]⟩
abbrev S1024x2816 : Shape := ⟨2, ![1024, 2816]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S2x1024x2816 : Shape := ⟨3, ![2, 1024, 2816]⟩
abbrev S512x1024 : Shape := ⟨2, ![512, 1024]⟩
abbrev S1x512x1408 : Shape := ⟨3, ![1, 512, 1408]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 11
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x1024, .bf16⟩
  | .hbm, ⟨6, _⟩ => ⟨S1x8192x2816, .f32⟩
  | .hbm, ⟨7, _⟩ => ⟨S1x8192x2816, .f32⟩
  | .hbm, ⟨8, _⟩ => ⟨S2x8192x2816, .f32⟩
  | .hbm, ⟨9, _⟩ => ⟨S2x8192x2816, .bf16⟩
  | .hbm, ⟨10, _⟩ => ⟨S2x1024x2816, .f32⟩
  | .local _ .vmem, ⟨0, _⟩ => ⟨S512x1024, .bf16⟩
  | .local _ .vmem, ⟨1, _⟩ => ⟨S512x1024, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 16], ![false, false, false, false]⟩

def k0_cond3 (i : grid0.Coords) : BitVec 1 :=
  let arg3 : BitVec 32 := BitVec.ofNat 32 (i 3).val
  let c15_i32 : BitVec 32 := 15#32
  let v6 : BitVec 1 := Scalar.cmpi .eq arg3 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference4Ideal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩
abbrev S1x1024x2816 : Shape := ⟨3, ![1, 1024, 2816]⟩
abbrev S2x1024x2816 : Shape := ⟨3, ![2, 1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S1x1024x2816, .f32⟩
  | .hbm, ⟨12, _⟩ => ⟨S1x1024x2816, .f32⟩
  | .hbm, ⟨13, _⟩ => ⟨S2x1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S8192x1024 : Shape := ⟨2, ![8192, 1024]⟩
abbrev S1024x2816 : Shape := ⟨2, ![1024, 2816]⟩
abbrev S8192x2816 : Shape := ⟨2, ![8192, 2816]⟩
abbrev S1x1024x2816 : Shape := ⟨3, ![1, 1024, 2816]⟩
abbrev S2x1024x2816 : Shape := ⟨3, ![2, 1024, 2816]⟩
abbrev S1x8192x2816 : Shape := ⟨3, ![1, 8192, 2816]⟩
abbrev S2x8192x2816 : Shape := ⟨3, ![2, 8192, 2816]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S1024x2816, .bf16⟩
  | .hbm, ⟨6, _⟩ => ⟨S1024x2816, .bf16⟩
  | .hbm, ⟨7, _⟩ => ⟨S1x1024x2816, .bf16⟩
  | .hbm, ⟨8, _⟩ => ⟨S1x1024x2816, .bf16⟩
  | .hbm, ⟨9, _⟩ => ⟨S2x1024x2816, .bf16⟩
  | .hbm, ⟨10, _⟩ => ⟨S1x8192x2816, .f32⟩
  | .hbm, ⟨11, _⟩ => ⟨S1x8192x2816, .f32⟩
  | .hbm, ⟨12, _⟩ => ⟨S2x8192x2816, .f32⟩
  | .hbm, ⟨13, _⟩ => ⟨S2x8192x2816, .bf16⟩
  | .hbm, ⟨14, _⟩ => ⟨S8192x1024, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S512x2816 : Shape := ⟨2, ![512, 2816]⟩
abbrev S512x1024 : Shape := ⟨2, ![512, 1024]⟩

abbrev nBuf : Space → Nat
  | .hbm => 20
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S2816x1024, .bf16⟩
  | .hbm, ⟨19, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S3x1x1024 : Shape := ⟨3, ![3, 1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1x1x1024 : Shape := ⟨3, ![1, 1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S3x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S3x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_27 : BitVec 32 := 0#32
  let v68 : BitVec 1 := Scalar.cmpi .ne v67 c0_i32_27
  v68

def k0_cond2 (i : grid0.Coords) : BitVec 1 :=
  let arg0 : BitVec 32 := BitVec.ofNat 32 (i 0).val
  let c0_i32_28 : BitVec 32 := 0#32
  let v69 : BitVec 1 := Scalar.cmpi .sgt arg0 c0_i32_28
  let v70 : BitVec 32 := Scalar.extui v69
  let c0_i32_29 : BitVec 32 := 0#32
  let v71 : BitVec 1 := Scalar.cmpi .ne v70 c0_i32_29
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1x1024 : Shape := ⟨3, ![1, 1, 1024]⟩
abbrev S3x1x1024 : Shape := ⟨3, ![3, 1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S1x1x1024, .f32⟩
  | .hbm, ⟨94, _⟩ => ⟨S1x1x1024, .f32⟩
  | .hbm, ⟨95, _⟩ => ⟨S1x1x1024, .f32⟩
  | .hbm, ⟨96, _⟩ => ⟨S3x1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v25_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v25_1 : Ref sig .tc := ⟨.hbm, 47, rfl⟩
abbrev main_v25_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_13 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]
-- ==== Kernel8.lean ====
abbrev S8192x1024 : Shape := ⟨2, ![8192, 1024]⟩
abbrev S31x1024 : Shape := ⟨2, ![31, 1024]⟩
abbrev S_ : Shape := ⟨0, ![]⟩
abbrev S2x4096x1024 : Shape := ⟨3, ![2, 4096, 1024]⟩
abbrev S1x8192x1024 : Shape := ⟨3, ![1, 8192, 1024]⟩
abbrev S2x8192x1024 : Shape := ⟨3, ![2, 8192, 1024]⟩
abbrev S32x1024 : Shape := ⟨2, ![32, 1024]⟩
abbrev S1x256x1024 : Shape := ⟨3, ![1, 256, 1024]⟩
abbrev S1x32x1024 : Shape := ⟨3, ![1, 32, 1024]⟩
abbrev S2x256x1024 : Shape := ⟨3, ![2, 256, 1024]⟩
abbrev S256x1024 : Shape := ⟨2, ![256, 1024]⟩
abbrev S288x1024 : Shape := ⟨2, ![288, 1024]⟩
abbrev S1x1024 : Shape := ⟨2, ![1, 1024]⟩
abbrev S1024 : Shape := ⟨1, ![1024]⟩

abbrev nBuf : Space → Nat
  | .hbm => 24
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S31x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S2x4096x1024, .f32⟩
  | .hbm, ⟨14, _⟩ => ⟨S2x4096x1024, .f32⟩
  | .hbm, ⟨15, _⟩ => ⟨S1x8192x1024, .f32⟩
  | .hbm, ⟨16, _⟩ => ⟨S1x8192x1024, .f32⟩
  | .hbm, ⟨17, _⟩ => ⟨S2x8192x1024, .f32⟩
  | .hbm, ⟨18, _⟩ => ⟨S2x8192x1024, .bf16⟩
  | .hbm, ⟨19, _⟩ => ⟨S_, .i32⟩
  | .hbm, ⟨20, _⟩ => ⟨S_, .f32⟩
  | .hbm, ⟨21, _⟩ => ⟨S32x1024, .f32⟩
  | .hbm, ⟨22, _⟩ => ⟨S2x8192x1024, .bf16⟩
  | .hbm, ⟨23, _⟩ => ⟨S32x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x32x1024, .f32⟩
  | .local _ .vmem, ⟨7, _⟩ => ⟨S1x32x1024, .f32⟩
  | .local _ .vmem, ⟨8, _⟩ => ⟨S2x256x1024, .bf16⟩
  | .local _ .vmem, ⟨9, _⟩ => ⟨S2x256x1024, .bf16⟩
  | .local _ .vmem, ⟨10, _⟩ => ⟨S32x1024, .f32⟩
  | .local _ .vmem, ⟨11, _⟩ => ⟨S2x256x1024, .bf16⟩
  | .local _ .vmem, ⟨12, _⟩ => ⟨S2x256x1024, .bf16⟩
  | .local _ .vmem, ⟨13, _⟩ => ⟨S32x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference8Ideal.lean ====
abbrev S8192x1024 : Shape := ⟨2, ![8192, 1024]⟩
abbrev S31x1024 : Shape := ⟨2, ![31, 1024]⟩
abbrev S_ : Shape := ⟨0, ![]⟩
abbrev S2x4096x1024 : Shape := ⟨3, ![2, 4096, 1024]⟩
abbrev S2x30x1024 : Shape := ⟨3, ![2, 30, 1024]⟩
abbrev S2x4126x1024 : Shape := ⟨3, ![2, 4126, 1024]⟩
abbrev S1x1024 : Shape := ⟨2, ![1, 1024]⟩
abbrev S1024 : Shape := ⟨1, ![1024]⟩
abbrev S1x1x1024 : Shape := ⟨3, ![1, 1, 1024]⟩
abbrev S1x8192x1024 : Shape := ⟨3, ![1, 8192, 1024]⟩
abbrev S2x8192x1024 : Shape := ⟨3, ![2, 8192, 1024]⟩
abbrev S32x1024 : Shape := ⟨2, ![32, 1024]⟩

abbrev nBuf : Space → Nat
  | .hbm => 720
  | .vmem => 0
  | .smem => 0
  | _ => 0

abbrev hbmTy0_0 (i : Nat) : BufTy := match i % 128 with
  | 0 => ⟨S8192x1024, .f32⟩
  | 1 => ⟨S8192x1024, .f32⟩
  | 2 => ⟨S31x1024, .f32⟩
  | 3 => ⟨S8192x1024, .f32⟩
  | 4 => ⟨S8192x1024, .f32⟩
  | 5 => ⟨S8192x1024, .f32⟩
  | 6 => ⟨S_, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S8192x1024, .f32⟩
  | 17 => ⟨S2x4096x1024, .f32⟩
  | 18 => ⟨S_, .f32⟩
  | 19 => ⟨S2x30x1024, .f32⟩
  | 20 => ⟨S2x4126x1024, .f32⟩
  | 21 => ⟨S_, .f32⟩
  | 22 => ⟨S2x30x1024, .f32⟩
  | 23 => ⟨S2x4096x1024, .f32⟩
  | 24 => ⟨S1x1024, .f32⟩
  | 25 => ⟨S1024, .f32⟩
  | 26 => ⟨S1x1x1024, .f32⟩
  | 27 => ⟨S2x4096x1024, .f32⟩
  | 28 => ⟨S2x4096x1024, .f32⟩
  | 29 => ⟨S_, .f32⟩
  | 30 => ⟨S2x4096x1024, .f32⟩
  | 31 => ⟨S2x4096x1024, .f32⟩
  | 32 => ⟨S2x4096x1024, .f32⟩
  | 33 => ⟨S1x1024, .f32⟩
  | 34 => ⟨S1024, .f32⟩
  | 35 => ⟨S1x1x1024, .f32⟩
  | 36 => ⟨S2x4096x1024, .f32⟩
  | 37 => ⟨S2x4096x1024, .f32⟩
  | 38 => ⟨S2x4096x1024, .f32⟩
  | 39 => ⟨S2x4096x1024, .f32⟩
  | 40 => ⟨S1x1024, .f32⟩
  | 41 => ⟨S1024, .f32⟩
  | 42 => ⟨S1x1x1024, .f32⟩
  | 43 => ⟨S2x4096x1024, .f32⟩
  | 44 => ⟨S2x4096x1024, .f32⟩
  | 45 => ⟨S2x4096x1024, .f32⟩
  | 46 => ⟨S2x4096x1024, .f32⟩
  | 47 => ⟨S1x1024, .f32⟩
  | 48 => ⟨S1024, .f32⟩
  | 49 => ⟨S1x1x1024, .f32⟩
  | 50 => ⟨S2x4096x1024, .f32⟩
  | 51 => ⟨S2x4096x1024, .f32⟩
  | 52 => ⟨S2x4096x1024, .f32⟩
  | 53 => ⟨S2x4096x1024, .f32⟩
  | 54 => ⟨S1x1024, .f32⟩
  | 55 => ⟨S1024, .f32⟩
  | 56 => ⟨S1x1x1024, .f32⟩
  | 57 => ⟨S2x4096x1024, .f32⟩
  | 58 => ⟨S2x4096x1024, .f32⟩
  | 59 => ⟨S2x4096x1024, .f32⟩
  | 60 => ⟨S2x4096x1024, .f32⟩
  | 61 => ⟨S1x1024, .f32⟩
  | 62 => ⟨S1024, .f32⟩
  | 63 => ⟨S1x1x1024, .f32⟩
  | 64 => ⟨S2x4096x1024, .f32⟩
  | 65 => ⟨S2x4096x1024, .f32⟩
  | 66 => ⟨S2x4096x1024, .f32⟩
  | 67 => ⟨S2x4096x1024, .f32⟩
  | 68 => ⟨S1x1024, .f32⟩
  | 69 => ⟨S1024, .f32⟩
  | 70 => ⟨S1x1x1024, .f32⟩
  | 71 => ⟨S2x4096x1024, .f32⟩
  | 72 => ⟨S2x4096x1024, .f32⟩
  | 73 => ⟨S2x4096x1024, .f32⟩
  | 74 => ⟨S2x4096x1024, .f32⟩
  | 75 => ⟨S1x1024, .f32⟩
  | 76 => ⟨S1024, .f32⟩
  | 77 => ⟨S1x1x1024, .f32⟩
  | 78 => ⟨S2x4096x1024, .f32⟩
  | 79 => ⟨S2x4096x1024, .f32⟩
  | 80 => ⟨S2x4096x1024, .f32⟩
  | 81 => ⟨S2x4096x1024, .f32⟩
  | 82 => ⟨S1x1024, .f32⟩
  | 83 => ⟨S1024, .f32⟩
  | 84 => ⟨S1x1x1024, .f32⟩
  | 85 => ⟨S2x4096x1024, .f32⟩
  | 86 => ⟨S2x4096x1024, .f32⟩
  | 87 => ⟨S2x4096x1024, .f32⟩
  | 88 => ⟨S2x4096x1024, .f32⟩
  | 89 => ⟨S1x1024, .f32⟩
  | 90 => ⟨S1024, .f32⟩
  | 91 => ⟨S1x1x1024, .f32⟩
  | 92 => ⟨S2x4096x1024, .f32⟩
  | 93 => ⟨S2x4096x1024, .f32⟩
  | 94 => ⟨S2x4096x1024, .f32⟩
  | 95 => ⟨S2x4096x1024, .f32⟩
  | 96 => ⟨S1x1024, .f32⟩
  | 97 => ⟨S1024, .f32⟩
  | 98 => ⟨S1x1x1024, .f32⟩
  | 99 => ⟨S2x4096x1024, .f32⟩
  | 100 => ⟨S2x4096x1024, .f32⟩
  | 101 => ⟨S2x4096x1024, .f32⟩
  | 102 => ⟨S2x4096x1024, .f32⟩
  | 103 => ⟨S1x1024, .f32⟩
  | 104 => ⟨S1024, .f32⟩
  | 105 => ⟨S1x1x1024, .f32⟩
  | 106 => ⟨S2x4096x1024, .f32⟩
  | 107 => ⟨S2x4096x1024, .f32⟩
  | 108 => ⟨S2x4096x1024, .f32⟩
  | 109 => ⟨S2x4096x1024, .f32⟩
  | 110 => ⟨S1x1024, .f32⟩
  | 111 => ⟨S1024, .f32⟩
  | 112 => ⟨S1x1x1024, .f32⟩
  | 113 => ⟨S2x4096x1024, .f32⟩
  | 114 => ⟨S2x4096x1024, .f32⟩
  | 115 => ⟨S2x4096x1024, .f32⟩
  | 116 => ⟨S2x4096x1024, .f32⟩
  | 117 => ⟨S1x1024, .f32⟩
  | 118 => ⟨S1024, .f32⟩
  | 119 => ⟨S1x1x1024, .f32⟩
  | 120 => ⟨S2x4096x1024, .f32⟩
  | 121 => ⟨S2x4096x1024, .f32⟩
  | 122 => ⟨S2x4096x1024, .f32⟩
  | 123 => ⟨S2x4096x1024, .f32⟩
  | 124 => ⟨S1x1024, .f32⟩
  | 125 => ⟨S1024, .f32⟩
  | 126 => ⟨S1x1x1024, .f32⟩
  | 127 => ⟨S2x4096x1024, .f32⟩
  | _ => ⟨S8192x1024, .f32⟩

abbrev hbmTy0_1 (i : Nat) : BufTy := match i % 128 with
  | 0 => ⟨S2x4096x1024, .f32⟩
  | 1 => ⟨S2x4096x1024, .f32⟩
  | 2 => ⟨S2x4096x1024, .f32⟩
  | 3 => ⟨S1x1024, .f32⟩
  | 4 => ⟨S1024, .f32⟩
  | 5 => ⟨S1x1x1024, .f32⟩
  | 6 => ⟨S2x4096x1024, .f32⟩
  | 7 => ⟨S2x4096x1024, .f32⟩
  | 8 => ⟨S2x4096x1024, .f32⟩
  | 9 => ⟨S2x4096x1024, .f32⟩
  | 10 => ⟨S1x1024, .f32⟩
  | 11 => ⟨S1024, .f32⟩
  | 12 => ⟨S1x1x1024, .f32⟩
  | 13 => ⟨S2x4096x1024, .f32⟩
  | 14 => ⟨S2x4096x1024, .f32⟩
  | 15 => ⟨S2x4096x1024, .f32⟩
  | 16 => ⟨S2x4096x1024, .f32⟩
  | 17 => ⟨S1x1024, .f32⟩
  | 18 => ⟨S1024, .f32⟩
  | 19 => ⟨S1x1x1024, .f32⟩
  | 20 => ⟨S2x4096x1024, .f32⟩
  | 21 => ⟨S2x4096x1024, .f32⟩
  | 22 => ⟨S2x4096x1024, .f32⟩
  | 23 => ⟨S2x4096x1024, .f32⟩
  | 24 => ⟨S1x1024, .f32⟩
  | 25 => ⟨S1024, .f32⟩
  | 26 => ⟨S1x1x1024, .f32⟩
  | 27 => ⟨S2x4096x1024, .f32⟩
  | 28 => ⟨S2x4096x1024, .f32⟩
  | 29 => ⟨S2x4096x1024, .f32⟩
  | 30 => ⟨S2x4096x1024, .f32⟩
  | 31 => ⟨S1x1024, .f32⟩
  | 32 => ⟨S1024, .f32⟩
  | 33 => ⟨S1x1x1024, .f32⟩
  | 34 => ⟨S2x4096x1024, .f32⟩
  | 35 => ⟨S2x4096x1024, .f32⟩
  | 36 => ⟨S2x4096x1024, .f32⟩
  | 37 => ⟨S2x4096x1024, .f32⟩
  | 38 => ⟨S1x1024, .f32⟩
  | 39 => ⟨S1024, .f32⟩
  | 40 => ⟨S1x1x1024, .f32⟩
  | 41 => ⟨S2x4096x1024, .f32⟩
  | 42 => ⟨S2x4096x1024, .f32⟩
  | 43 => ⟨S2x4096x1024, .f32⟩
  | 44 => ⟨S2x4096x1024, .f32⟩
  | 45 => ⟨S1x1024, .f32⟩
  | 46 => ⟨S1024, .f32⟩
  | 47 => ⟨S1x1x1024, .f32⟩
  | 48 => ⟨S2x4096x1024, .f32⟩
  | 49 => ⟨S2x4096x1024, .f32⟩
  | 50 => ⟨S2x4096x1024, .f32⟩
  | 51 => ⟨S2x4096x1024, .f32⟩
  | 52 => ⟨S1x1024, .f32⟩
  | 53 => ⟨S1024, .f32⟩
  | 54 => ⟨S1x1x1024, .f32⟩
  | 55 => ⟨S2x4096x1024, .f32⟩
  | 56 => ⟨S2x4096x1024, .f32⟩
  | 57 => ⟨S2x4096x1024, .f32⟩
  | 58 => ⟨S2x4096x1024, .f32⟩
  | 59 => ⟨S1x1024, .f32⟩
  | 60 => ⟨S1024, .f32⟩
  | 61 => ⟨S1x1x1024, .f32⟩
  | 62 => ⟨S2x4096x1024, .f32⟩
  | 63 => ⟨S2x4096x1024, .f32⟩
  | 64 => ⟨S2x4096x1024, .f32⟩
  | 65 => ⟨S2x4096x1024, .f32⟩
  | 66 => ⟨S1x1024, .f32⟩
  | 67 => ⟨S1024, .f32⟩
  | 68 => ⟨S1x1x1024, .f32⟩
  | 69 => ⟨S2x4096x1024, .f32⟩
  | 70 => ⟨S2x4096x1024, .f32⟩
  | 71 => ⟨S2x4096x1024, .f32⟩
  | 72 => ⟨S2x4096x1024, .f32⟩
  | 73 => ⟨S1x1024, .f32⟩
  | 74 => ⟨S1024, .f32⟩
  | 75 => ⟨S1x1x1024, .f32⟩
  | 76 => ⟨S2x4096x1024, .f32⟩
  | 77 => ⟨S2x4096x1024, .f32⟩
  | 78 => ⟨S2x4096x1024, .f32⟩
  | 79 => ⟨S2x4096x1024, .f32⟩
  | 80 => ⟨S1x1024, .f32⟩
  | 81 => ⟨S1024, .f32⟩
  | 82 => ⟨S1x1x1024, .f32⟩
  | 83 => ⟨S2x4096x1024, .f32⟩
  | 84 => ⟨S2x4096x1024, .f32⟩
  | 85 => ⟨S2x4096x1024, .f32⟩
  | 86 => ⟨S2x4096x1024, .f32⟩
  | 87 => ⟨S1x1024, .f32⟩
  | 88 => ⟨S1024, .f32⟩
  | 89 => ⟨S1x1x1024, .f32⟩
  | 90 => ⟨S2x4096x1024, .f32⟩
  | 91 => ⟨S2x4096x1024, .f32⟩
  | 92 => ⟨S2x4096x1024, .f32⟩
  | 93 => ⟨S2x4096x1024, .f32⟩
  | 94 => ⟨S1x1024, .f32⟩
  | 95 => ⟨S1024, .f32⟩
  | 96 => ⟨S1x1x1024, .f32⟩
  | 97 => ⟨S2x4096x1024, .f32⟩
  | 98 => ⟨S2x4096x1024, .f32⟩
  | 99 => ⟨S2x4096x1024, .f32⟩
  | 100 => ⟨S2x4096x1024, .f32⟩
  | 101 => ⟨S1x1024, .f32⟩
  | 102 => ⟨S1024, .f32⟩
  | 103 => ⟨S1x1x1024, .f32⟩
  | 104 => ⟨S2x4096x1024, .f32⟩
  | 105 => ⟨S2x4096x1024, .f32⟩
  | 106 => ⟨S2x4096x1024, .f32⟩
  | 107 => ⟨S2x4096x1024, .f32⟩
  | 108 => ⟨S1x1024, .f32⟩
  | 109 => ⟨S1024, .f32⟩
  | 110 => ⟨S1x1x1024, .f32⟩
  | 111 => ⟨S2x4096x1024, .f32⟩
  | 112 => ⟨S2x4096x1024, .f32⟩
  | 113 => ⟨S2x4096x1024, .f32⟩
  | 114 => ⟨S8192x1024, .f32⟩
  | 115 => ⟨S2x4096x1024, .f32⟩
  | 116 => ⟨S2x4096x1024, .f32⟩
  | 117 => ⟨S_, .f32⟩
  | 118 => ⟨S1024, .f32⟩
  | 119 => ⟨S1x1x1024, .f32⟩
  | 120 => ⟨S2x4096x1024, .f32⟩
  | 121 => ⟨S2x4096x1024, .f32⟩
  | 122 => ⟨S_, .f32⟩
  | 123 => ⟨S1024, .f32⟩
  | 124 => ⟨S1x1024, .f32⟩
  | 125 => ⟨S_, .f32⟩
  | 126 => ⟨S31x1024, .f32⟩
  | 127 => ⟨S_, .f32⟩
  | _ => ⟨S8192x1024, .f32⟩

abbrev hbmTy0_2 (i : Nat) : BufTy := match i % 128 with
  | 0 => ⟨S2x4126x1024, .f32⟩
  | 1 => ⟨S2x4096x1024, .f32⟩
  | 2 => ⟨S_, .f32⟩
  | 3 => ⟨S1024, .f32⟩
  | 4 => ⟨S1x1x1024, .f32⟩
  | 5 => ⟨S2x4096x1024, .f32⟩
  | 6 => ⟨S2x4096x1024, .f32⟩
  | 7 => ⟨S_, .f32⟩
  | 8 => ⟨S1024, .f32⟩
  | 9 => ⟨S1x1024, .f32⟩
  | 10 => ⟨S_, .f32⟩
  | 11 => ⟨S31x1024, .f32⟩
  | 12 => ⟨S31x1024, .f32⟩
  | 13 => ⟨S_, .f32⟩
  | 14 => ⟨S2x4126x1024, .f32⟩
  | 15 => ⟨S2x4126x1024, .f32⟩
  | 16 => ⟨S2x4096x1024, .f32⟩
  | 17 => ⟨S_, .f32⟩
  | 18 => ⟨S1024, .f32⟩
  | 19 => ⟨S1x1x1024, .f32⟩
  | 20 => ⟨S2x4096x1024, .f32⟩
  | 21 => ⟨S2x4096x1024, .f32⟩
  | 22 => ⟨S_, .f32⟩
  | 23 => ⟨S1024, .f32⟩
  | 24 => ⟨S1x1024, .f32⟩
  | 25 => ⟨S_, .f32⟩
  | 26 => ⟨S31x1024, .f32⟩
  | 27 => ⟨S31x1024, .f32⟩
  | 28 => ⟨S_, .f32⟩
  | 29 => ⟨S2x4126x1024, .f32⟩
  | 30 => ⟨S2x4126x1024, .f32⟩
  | 31 => ⟨S2x4096x1024, .f32⟩
  | 32 => ⟨S_, .f32⟩
  | 33 => ⟨S1024, .f32⟩
  | 34 => ⟨S1x1x1024, .f32⟩
  | 35 => ⟨S2x4096x1024, .f32⟩
  | 36 => ⟨S2x4096x1024, .f32⟩
  | 37 => ⟨S_, .f32⟩
  | 38 => ⟨S1024, .f32⟩
  | 39 => ⟨S1x1024, .f32⟩
  | 40 => ⟨S_, .f32⟩
  | 41 => ⟨S31x1024, .f32⟩
  | 42 => ⟨S31x1024, .f32⟩
  | 43 => ⟨S_, .f32⟩
  | 44 => ⟨S2x4126x1024, .f32⟩
  | 45 => ⟨S2x4126x1024, .f32⟩
  | 46 => ⟨S2x4096x1024, .f32⟩
  | 47 => ⟨S_, .f32⟩
  | 48 => ⟨S1024, .f32⟩
  | 49 => ⟨S1x1x1024, .f32⟩
  | 50 => ⟨S2x4096x1024, .f32⟩
  | 51 => ⟨S2x4096x1024, .f32⟩
  | 52 => ⟨S_, .f32⟩
  | 53 => ⟨S1024, .f32⟩
  | 54 => ⟨S1x1024, .f32⟩
  | 55 => ⟨S_, .f32⟩
  | 56 => ⟨S31x1024, .f32⟩
  | 57 => ⟨S31x1024, .f32⟩
  | 58 => ⟨S_, .f32⟩
  | 59 => ⟨S2x4126x1024, .f32⟩
  | 60 => ⟨S2x4126x1024, .f32⟩
  | 61 => ⟨S2x4096x1024, .f32⟩
  | 62 => ⟨S_, .f32⟩
  | 63 => ⟨S1024, .f32⟩
  | 64 => ⟨S1x1x1024, .f32⟩
  | 65 => ⟨S2x4096x1024, .f32⟩
  | 66 => ⟨S2x4096x1024, .f32⟩
  | 67 => ⟨S_, .f32⟩
  | 68 => ⟨S1024, .f32⟩
  | 69 => ⟨S1x1024, .f32⟩
  | 70 => ⟨S_, .f32⟩
  | 71 => ⟨S31x1024, .f32⟩
  | 72 => ⟨S31x1024, .f32⟩
  | 73 => ⟨S_, .f32⟩
  | 74 => ⟨S2x4126x1024, .f32⟩
  | 75 => ⟨S2x4126x1024, .f32⟩
  | 76 => ⟨S2x4096x1024, .f32⟩
  | 77 => ⟨S_, .f32⟩
  | 78 => ⟨S1024, .f32⟩
  | 79 => ⟨S1x1x1024, .f32⟩
  | 80 => ⟨S2x4096x1024, .f32⟩
  | 81 => ⟨S2x4096x1024, .f32⟩
  | 82 => ⟨S_, .f32⟩
  | 83 => ⟨S1024, .f32⟩
  | 84 => ⟨S1x1024, .f32⟩
  | 85 => ⟨S_, .f32⟩
  | 86 => ⟨S31x1024, .f32⟩
  | 87 => ⟨S31x1024, .f32⟩
  | 88 => ⟨S_, .f32⟩
  | 89 => ⟨S2x4126x1024, .f32⟩
  | 90 => ⟨S2x4126x1024, .f32⟩
  | 91 => ⟨S2x4096x1024, .f32⟩
  | 92 => ⟨S_, .f32⟩
  | 93 => ⟨S1024, .f32⟩
  | 94 => ⟨S1x1x1024, .f32⟩
  | 95 => ⟨S2x4096x1024, .f32⟩
  | 96 => ⟨S2x4096x1024, .f32⟩
  | 97 => ⟨S_, .f32⟩
  | 98 => ⟨S1024, .f32⟩
  | 99 => ⟨S1x1024, .f32⟩
  | 100 => ⟨S_, .f32⟩
  | 101 => ⟨S31x1024, .f32⟩
  | 102 => ⟨S31x1024, .f32⟩
  | 103 => ⟨S_, .f32⟩
  | 104 => ⟨S2x4126x1024, .f32⟩
  | 105 => ⟨S2x4126x1024, .f32⟩
  | 106 => ⟨S2x4096x1024, .f32⟩
  | 107 => ⟨S_, .f32⟩
  | 108 => ⟨S1024, .f32⟩
  | 109 => ⟨S1x1x1024, .f32⟩
  | 110 => ⟨S2x4096x1024, .f32⟩
  | 111 => ⟨S2x4096x1024, .f32⟩
  | 112 => ⟨S_, .f32⟩
  | 113 => ⟨S1024, .f32⟩
  | 114 => ⟨S1x1024, .f32⟩
  | 115 => ⟨S_, .f32⟩
  | 116 => ⟨S31x1024, .f32⟩
  | 117 => ⟨S31x1024, .f32⟩
  | 118 => ⟨S_, .f32⟩
  | 119 => ⟨S2x4126x1024, .f32⟩
  | 120 => ⟨S2x4126x1024, .f32⟩
  | 121 => ⟨S2x4096x1024, .f32⟩
  | 122 => ⟨S_, .f32⟩
  | 123 => ⟨S1024, .f32⟩
  | 124 => ⟨S1x1x1024, .f32⟩
  | 125 => ⟨S2x4096x1024, .f32⟩
  | 126 => ⟨S2x4096x1024, .f32⟩
  | 127 => ⟨S_, .f32⟩
  | _ => ⟨S8192x1024, .f32⟩

abbrev hbmTy0_3 (i : Nat) : BufTy := match i % 128 with
  | 0 => ⟨S1024, .f32⟩
  | 1 => ⟨S1x1024, .f32⟩
  | 2 => ⟨S_, .f32⟩
  | 3 => ⟨S31x1024, .f32⟩
  | 4 => ⟨S31x1024, .f32⟩
  | 5 => ⟨S_, .f32⟩
  | 6 => ⟨S2x4126x1024, .f32⟩
  | 7 => ⟨S2x4126x1024, .f32⟩
  | 8 => ⟨S2x4096x1024, .f32⟩
  | 9 => ⟨S_, .f32⟩
  | 10 => ⟨S1024, .f32⟩
  | 11 => ⟨S1x1x1024, .f32⟩
  | 12 => ⟨S2x4096x1024, .f32⟩
  | 13 => ⟨S2x4096x1024, .f32⟩
  | 14 => ⟨S_, .f32⟩
  | 15 => ⟨S1024, .f32⟩
  | 16 => ⟨S1x1024, .f32⟩
  | 17 => ⟨S_, .f32⟩
  | 18 => ⟨S31x1024, .f32⟩
  | 19 => ⟨S31x1024, .f32⟩
  | 20 => ⟨S_, .f32⟩
  | 21 => ⟨S2x4126x1024, .f32⟩
  | 22 => ⟨S2x4126x1024, .f32⟩
  | 23 => ⟨S2x4096x1024, .f32⟩
  | 24 => ⟨S_, .f32⟩
  | 25 => ⟨S1024, .f32⟩
  | 26 => ⟨S1x1x1024, .f32⟩
  | 27 => ⟨S2x4096x1024, .f32⟩
  | 28 => ⟨S2x4096x1024, .f32⟩
  | 29 => ⟨S_, .f32⟩
  | 30 => ⟨S1024, .f32⟩
  | 31 => ⟨S1x1024, .f32⟩
  | 32 => ⟨S_, .f32⟩
  | 33 => ⟨S31x1024, .f32⟩
  | 34 => ⟨S31x1024, .f32⟩
  | 35 => ⟨S_, .f32⟩
  | 36 => ⟨S2x4126x1024, .f32⟩
  | 37 => ⟨S2x4126x1024, .f32⟩
  | 38 => ⟨S2x4096x1024, .f32⟩
  | 39 => ⟨S_, .f32⟩
  | 40 => ⟨S1024, .f32⟩
  | 41 => ⟨S1x1x1024, .f32⟩
  | 42 => ⟨S2x4096x1024, .f32⟩
  | 43 => ⟨S2x4096x1024, .f32⟩
  | 44 => ⟨S_, .f32⟩
  | 45 => ⟨S1024, .f32⟩
  | 46 => ⟨S1x1024, .f32⟩
  | 47 => ⟨S_, .f32⟩
  | 48 => ⟨S31x1024, .f32⟩
  | 49 => ⟨S31x1024, .f32⟩
  | 50 => ⟨S_, .f32⟩
  | 51 => ⟨S2x4126x1024, .f32⟩
  | 52 => ⟨S2x4126x1024, .f32⟩
  | 53 => ⟨S2x4096x1024, .f32⟩
  | 54 => ⟨S_, .f32⟩
  | 55 => ⟨S1024, .f32⟩
  | 56 => ⟨S1x1x1024, .f32⟩
  | 57 => ⟨S2x4096x1024, .f32⟩
  | 58 => ⟨S2x4096x1024, .f32⟩
  | 59 => ⟨S_, .f32⟩
  | 60 => ⟨S1024, .f32⟩
  | 61 => ⟨S1x1024, .f32⟩
  | 62 => ⟨S_, .f32⟩
  | 63 => ⟨S31x1024, .f32⟩
  | 64 => ⟨S31x1024, .f32⟩
  | 65 => ⟨S_, .f32⟩
  | 66 => ⟨S2x4126x1024, .f32⟩
  | 67 => ⟨S2x4126x1024, .f32⟩
  | 68 => ⟨S2x4096x1024, .f32⟩
  | 69 => ⟨S_, .f32⟩
  | 70 => ⟨S1024, .f32⟩
  | 71 => ⟨S1x1x1024, .f32⟩
  | 72 => ⟨S2x4096x1024, .f32⟩
  | 73 => ⟨S2x4096x1024, .f32⟩
  | 74 => ⟨S_, .f32⟩
  | 75 => ⟨S1024, .f32⟩
  | 76 => ⟨S1x1024, .f32⟩
  | 77 => ⟨S_, .f32⟩
  | 78 => ⟨S31x1024, .f32⟩
  | 79 => ⟨S31x1024, .f32⟩
  | 80 => ⟨S_, .f32⟩
  | 81 => ⟨S2x4126x1024, .f32⟩
  | 82 => ⟨S2x4126x1024, .f32⟩
  | 83 => ⟨S2x4096x1024, .f32⟩
  | 84 => ⟨S_, .f32⟩
  | 85 => ⟨S1024, .f32⟩
  | 86 => ⟨S1x1x1024, .f32⟩
  | 87 => ⟨S2x4096x1024, .f32⟩
  | 88 => ⟨S2x4096x1024, .f32⟩
  | 89 => ⟨S_, .f32⟩
  | 90 => ⟨S1024, .f32⟩
  | 91 => ⟨S1x1024, .f32⟩
  | 92 => ⟨S_, .f32⟩
  | 93 => ⟨S31x1024, .f32⟩
  | 94 => ⟨S31x1024, .f32⟩
  | 95 => ⟨S_, .f32⟩
  | 96 => ⟨S2x4126x1024, .f32⟩
  | 97 => ⟨S2x4126x1024, .f32⟩
  | 98 => ⟨S2x4096x1024, .f32⟩
  | 99 => ⟨S_, .f32⟩
  | 100 => ⟨S1024, .f32⟩
  | 101 => ⟨S1x1x1024, .f32⟩
  | 102 => ⟨S2x4096x1024, .f32⟩
  | 103 => ⟨S2x4096x1024, .f32⟩
  | 104 => ⟨S_, .f32⟩
  | 105 => ⟨S1024, .f32⟩
  | 106 => ⟨S1x1024, .f32⟩
  | 107 => ⟨S_, .f32⟩
  | 108 => ⟨S31x1024, .f32⟩
  | 109 => ⟨S31x1024, .f32⟩
  | 110 => ⟨S_, .f32⟩
  | 111 => ⟨S2x4126x1024, .f32⟩
  | 112 => ⟨S2x4126x1024, .f32⟩
  | 113 => ⟨S2x4096x1024, .f32⟩
  | 114 => ⟨S_, .f32⟩
  | 115 => ⟨S1024, .f32⟩
  | 116 => ⟨S1x1x1024, .f32⟩
  | 117 => ⟨S2x4096x1024, .f32⟩
  | 118 => ⟨S2x4096x1024, .f32⟩
  | 119 => ⟨S_, .f32⟩
  | 120 => ⟨S1024, .f32⟩
  | 121 => ⟨S1x1024, .f32⟩
  | 122 => ⟨S_, .f32⟩
  | 123 => ⟨S31x1024, .f32⟩
  | 124 => ⟨S31x1024, .f32⟩
  | 125 => ⟨S_, .f32⟩
  | 126 => ⟨S2x4126x1024, .f32⟩
  | 127 => ⟨S2x4126x1024, .f32⟩
  | _ => ⟨S8192x1024, .f32⟩

abbrev hbmTy0_4 (i : Nat) : BufTy := match i % 128 with
  | 0 => ⟨S2x4096x1024, .f32⟩
  | 1 => ⟨S_, .f32⟩
  | 2 => ⟨S1024, .f32⟩
  | 3 => ⟨S1x1x1024, .f32⟩
  | 4 => ⟨S2x4096x1024, .f32⟩
  | 5 => ⟨S2x4096x1024, .f32⟩
  | 6 => ⟨S_, .f32⟩
  | 7 => ⟨S1024, .f32⟩
  | 8 => ⟨S1x1024, .f32⟩
  | 9 => ⟨S_, .f32⟩
  | 10 => ⟨S31x1024, .f32⟩
  | 11 => ⟨S31x1024, .f32⟩
  | 12 => ⟨S_, .f32⟩
  | 13 => ⟨S2x4126x1024, .f32⟩
  | 14 => ⟨S2x4126x1024, .f32⟩
  | 15 => ⟨S2x4096x1024, .f32⟩
  | 16 => ⟨S_, .f32⟩
  | 17 => ⟨S1024, .f32⟩
  | 18 => ⟨S1x1x1024, .f32⟩
  | 19 => ⟨S2x4096x1024, .f32⟩
  | 20 => ⟨S2x4096x1024, .f32⟩
  | 21 => ⟨S_, .f32⟩
  | 22 => ⟨S1024, .f32⟩
  | 23 => ⟨S1x1024, .f32⟩
  | 24 => ⟨S_, .f32⟩
  | 25 => ⟨S31x1024, .f32⟩
  | 26 => ⟨S31x1024, .f32⟩
  | 27 => ⟨S_, .f32⟩
  | 28 => ⟨S2x4126x1024, .f32⟩
  | 29 => ⟨S2x4126x1024, .f32⟩
  | 30 => ⟨S2x4096x1024, .f32⟩
  | 31 => ⟨S_, .f32⟩
  | 32 => ⟨S1024, .f32⟩
  | 33 => ⟨S1x1x1024, .f32⟩
  | 34 => ⟨S2x4096x1024, .f32⟩
  | 35 => ⟨S2x4096x1024, .f32⟩
  | 36 => ⟨S_, .f32⟩
  | 37 => ⟨S1024, .f32⟩
  | 38 => ⟨S1x1024, .f32⟩
  | 39 => ⟨S_, .f32⟩
  | 40 => ⟨S31x1024, .f32⟩
  | 41 => ⟨S31x1024, .f32⟩
  | 42 => ⟨S_, .f32⟩
  | 43 => ⟨S2x4126x1024, .f32⟩
  | 44 => ⟨S2x4126x1024, .f32⟩
  | 45 => ⟨S2x4096x1024, .f32⟩
  | 46 => ⟨S_, .f32⟩
  | 47 => ⟨S1024, .f32⟩
  | 48 => ⟨S1x1x1024, .f32⟩
  | 49 => ⟨S2x4096x1024, .f32⟩
  | 50 => ⟨S2x4096x1024, .f32⟩
  | 51 => ⟨S_, .f32⟩
  | 52 => ⟨S1024, .f32⟩
  | 53 => ⟨S1x1024, .f32⟩
  | 54 => ⟨S_, .f32⟩
  | 55 => ⟨S31x1024, .f32⟩
  | 56 => ⟨S31x1024, .f32⟩
  | 57 => ⟨S_, .f32⟩
  | 58 => ⟨S2x4126x1024, .f32⟩
  | 59 => ⟨S2x4126x1024, .f32⟩
  | 60 => ⟨S2x4096x1024, .f32⟩
  | 61 => ⟨S_, .f32⟩
  | 62 => ⟨S1024, .f32⟩
  | 63 => ⟨S1x1x1024, .f32⟩
  | 64 => ⟨S2x4096x1024, .f32⟩
  | 65 => ⟨S2x4096x1024, .f32⟩
  | 66 => ⟨S_, .f32⟩
  | 67 => ⟨S1024, .f32⟩
  | 68 => ⟨S1x1024, .f32⟩
  | 69 => ⟨S_, .f32⟩
  | 70 => ⟨S31x1024, .f32⟩
  | 71 => ⟨S31x1024, .f32⟩
  | 72 => ⟨S_, .f32⟩
  | 73 => ⟨S2x4126x1024, .f32⟩
  | 74 => ⟨S2x4126x1024, .f32⟩
  | 75 => ⟨S2x4096x1024, .f32⟩
  | 76 => ⟨S_, .f32⟩
  | 77 => ⟨S1024, .f32⟩
  | 78 => ⟨S1x1x1024, .f32⟩
  | 79 => ⟨S2x4096x1024, .f32⟩
  | 80 => ⟨S2x4096x1024, .f32⟩
  | 81 => ⟨S_, .f32⟩
  | 82 => ⟨S1024, .f32⟩
  | 83 => ⟨S1x1024, .f32⟩
  | 84 => ⟨S_, .f32⟩
  | 85 => ⟨S31x1024, .f32⟩
  | 86 => ⟨S31x1024, .f32⟩
  | 87 => ⟨S_, .f32⟩
  | 88 => ⟨S2x4126x1024, .f32⟩
  | 89 => ⟨S2x4126x1024, .f32⟩
  | 90 => ⟨S2x4096x1024, .f32⟩
  | 91 => ⟨S_, .f32⟩
  | 92 => ⟨S1024, .f32⟩
  | 93 => ⟨S1x1x1024, .f32⟩
  | 94 => ⟨S2x4096x1024, .f32⟩
  | 95 => ⟨S2x4096x1024, .f32⟩
  | 96 => ⟨S_, .f32⟩
  | 97 => ⟨S1024, .f32⟩
  | 98 => ⟨S1x1024, .f32⟩
  | 99 => ⟨S_, .f32⟩
  | 100 => ⟨S31x1024, .f32⟩
  | 101 => ⟨S31x1024, .f32⟩
  | 102 => ⟨S_, .f32⟩
  | 103 => ⟨S2x4126x1024, .f32⟩
  | 104 => ⟨S2x4126x1024, .f32⟩
  | 105 => ⟨S2x4096x1024, .f32⟩
  | 106 => ⟨S_, .f32⟩
  | 107 => ⟨S1024, .f32⟩
  | 108 => ⟨S1x1x1024, .f32⟩
  | 109 => ⟨S2x4096x1024, .f32⟩
  | 110 => ⟨S2x4096x1024, .f32⟩
  | 111 => ⟨S_, .f32⟩
  | 112 => ⟨S1024, .f32⟩
  | 113 => ⟨S1x1024, .f32⟩
  | 114 => ⟨S_, .f32⟩
  | 115 => ⟨S31x1024, .f32⟩
  | 116 => ⟨S31x1024, .f32⟩
  | 117 => ⟨S_, .f32⟩
  | 118 => ⟨S2x4126x1024, .f32⟩
  | 119 => ⟨S2x4126x1024, .f32⟩
  | 120 => ⟨S2x4096x1024, .f32⟩
  | 121 => ⟨S_, .f32⟩
  | 122 => ⟨S1024, .f32⟩
  | 123 => ⟨S1x1x1024, .f32⟩
  | 124 => ⟨S2x4096x1024, .f32⟩
  | 125 => ⟨S2x4096x1024, .f32⟩
  | 126 => ⟨S_, .f32⟩
  | 127 => ⟨S1024, .f32⟩
  | _ => ⟨S8192x1024, .f32⟩

abbrev hbmTy0_5 (i : Nat) : BufTy := match i % 128 with
  | 0 => ⟨S1x1024, .f32⟩
  | 1 => ⟨S_, .f32⟩
  | 2 => ⟨S31x1024, .f32⟩
  | 3 => ⟨S31x1024, .f32⟩
  | 4 => ⟨S_, .f32⟩
  | 5 => ⟨S2x4126x1024, .f32⟩
  | 6 => ⟨S2x4126x1024, .f32⟩
  | 7 => ⟨S2x4096x1024, .f32⟩
  | 8 => ⟨S_, .f32⟩
  | 9 => ⟨S1024, .f32⟩
  | 10 => ⟨S1x1x1024, .f32⟩
  | 11 => ⟨S2x4096x1024, .f32⟩
  | 12 => ⟨S2x4096x1024, .f32⟩
  | 13 => ⟨S_, .f32⟩
  | 14 => ⟨S1024, .f32⟩
  | 15 => ⟨S1x1024, .f32⟩
  | 16 => ⟨S_, .f32⟩
  | 17 => ⟨S31x1024, .f32⟩
  | 18 => ⟨S31x1024, .f32⟩
  | 19 => ⟨S_, .f32⟩
  | 20 => ⟨S2x4126x1024, .f32⟩
  | 21 => ⟨S2x4126x1024, .f32⟩
  | 22 => ⟨S2x4096x1024, .f32⟩
  | 23 => ⟨S_, .f32⟩
  | 24 => ⟨S1024, .f32⟩
  | 25 => ⟨S1x1x1024, .f32⟩
  | 26 => ⟨S2x4096x1024, .f32⟩
  | 27 => ⟨S2x4096x1024, .f32⟩
  | 28 => ⟨S_, .f32⟩
  | 29 => ⟨S1024, .f32⟩
  | 30 => ⟨S1x1024, .f32⟩
  | 31 => ⟨S_, .f32⟩
  | 32 => ⟨S31x1024, .f32⟩
  | 33 => ⟨S31x1024, .f32⟩
  | 34 => ⟨S_, .f32⟩
  | 35 => ⟨S2x4126x1024, .f32⟩
  | 36 => ⟨S2x4126x1024, .f32⟩
  | 37 => ⟨S2x4096x1024, .f32⟩
  | 38 => ⟨S_, .f32⟩
  | 39 => ⟨S1024, .f32⟩
  | 40 => ⟨S1x1x1024, .f32⟩
  | 41 => ⟨S2x4096x1024, .f32⟩
  | 42 => ⟨S2x4096x1024, .f32⟩
  | 43 => ⟨S_, .f32⟩
  | 44 => ⟨S1024, .f32⟩
  | 45 => ⟨S1x1024, .f32⟩
  | 46 => ⟨S_, .f32⟩
  | 47 => ⟨S31x1024, .f32⟩
  | 48 => ⟨S31x1024, .f32⟩
  | 49 => ⟨S_, .f32⟩
  | 50 => ⟨S2x4126x1024, .f32⟩
  | 51 => ⟨S2x4126x1024, .f32⟩
  | 52 => ⟨S2x4096x1024, .f32⟩
  | 53 => ⟨S_, .f32⟩
  | 54 => ⟨S1024, .f32⟩
  | 55 => ⟨S1x1x1024, .f32⟩
  | 56 => ⟨S2x4096x1024, .f32⟩
  | 57 => ⟨S2x4096x1024, .f32⟩
  | 58 => ⟨S_, .f32⟩
  | 59 => ⟨S1024, .f32⟩
  | 60 => ⟨S1x1024, .f32⟩
  | 61 => ⟨S_, .f32⟩
  | 62 => ⟨S31x1024, .f32⟩
  | 63 => ⟨S31x1024, .f32⟩
  | 64 => ⟨S_, .f32⟩
  | 65 => ⟨S2x4126x1024, .f32⟩
  | 66 => ⟨S2x4126x1024, .f32⟩
  | 67 => ⟨S2x30x1024, .f32⟩
  | 68 => ⟨S2x4096x1024, .f32⟩
  | 69 => ⟨S8192x1024, .f32⟩
  | 70 => ⟨S8192x1024, .f32⟩
  | 71 => ⟨S8192x1024, .f32⟩
  | 72 => ⟨S8192x1024, .f32⟩
  | 73 => ⟨S1x8192x1024, .f32⟩
  | 74 => ⟨S1x8192x1024, .f32⟩
  | 75 => ⟨S2x8192x1024, .f32⟩
  | 76 => ⟨S2x8192x1024, .bf16⟩
  | 77 => ⟨S_, .i32⟩
  | 78 => ⟨S_, .f32⟩
  | 79 => ⟨S32x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_cst_5 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_6 : Ref sig .tc := ⟨.hbm, 250, rfl⟩
abbrev main_v239 : Ref sig .tc := ⟨.hbm, 251, rfl⟩
abbrev main_v240 : Ref sig .tc := ⟨.hbm, 252, rfl⟩
abbrev main_cst_7 : Ref sig .tc := ⟨.hbm, 253, rfl⟩
abbrev main_v241 : Ref sig .tc := ⟨.hbm, 254, rfl⟩
abbrev main_cst_8 : Ref sig .tc := ⟨.hbm, 255, rfl⟩
abbrev main_v242 : Ref sig .tc := ⟨.hbm, 256, rfl⟩
abbrev main_v243 : Ref sig .tc := ⟨.hbm, 257, rfl⟩
abbrev main_cst_9 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_cst_10 : Ref sig .tc := ⟨.hbm, 263, rfl⟩
abbrev main_v248 : Ref sig .tc := ⟨.hbm, 264, rfl⟩
abbrev main_v249 : Ref sig .tc := ⟨.hbm, 265, rfl⟩
abbrev main_cst_11 : Ref sig .tc := ⟨.hbm, 266, rfl⟩
abbrev main_v250 : Ref sig .tc := ⟨.hbm, 267, rfl⟩
abbrev main_v251 : Ref sig .tc := ⟨.hbm, 268, rfl⟩
abbrev main_cst_12 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_cst_13 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_cst_14 : Ref sig .tc := ⟨.hbm, 278, rfl⟩
abbrev main_v259 : Ref sig .tc := ⟨.hbm, 279, rfl⟩
abbrev main_v260 : Ref sig .tc := ⟨.hbm, 280, rfl⟩
abbrev main_cst_15 : Ref sig .tc := ⟨.hbm, 281, rfl⟩
abbrev main_v261 : Ref sig .tc := ⟨.hbm, 282, rfl⟩
abbrev main_v262 : Ref sig .tc := ⟨.hbm, 283, rfl⟩
abbrev main_cst_16 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_cst_17 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_cst_18 : Ref sig .tc := ⟨.hbm, 293, rfl⟩
abbrev main_v270 : Ref sig .tc := ⟨.hbm, 294, rfl⟩
abbrev main_v271 : Ref sig .tc := ⟨.hbm, 295, rfl⟩
abbrev main_cst_19 : Ref sig .tc := ⟨.hbm, 296, rfl⟩
abbrev main_v272 : Ref sig .tc := ⟨.hbm, 297, rfl⟩
abbrev main_v273 : Ref sig .tc := ⟨.hbm, 298, rfl⟩
abbrev main_cst_20 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_cst_21 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_cst_22 : Ref sig .tc := ⟨.hbm, 308, rfl⟩
abbrev main_v281 : Ref sig .tc := ⟨.hbm, 309, rfl⟩
abbrev main_v282 : Ref sig .tc := ⟨.hbm, 310, rfl⟩
abbrev main_cst_23 : Ref sig .tc := ⟨.hbm, 311, rfl⟩
abbrev main_v283 : Ref sig .tc := ⟨.hbm, 312, rfl⟩
abbrev main_v284 : Ref sig .tc := ⟨.hbm, 313, rfl⟩
abbrev main_cst_24 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_cst_25 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_cst_26 : Ref sig .tc := ⟨.hbm, 323, rfl⟩
abbrev main_v292 : Ref sig .tc := ⟨.hbm, 324, rfl⟩
abbrev main_v293 : Ref sig .tc := ⟨.hbm, 325, rfl⟩
abbrev main_cst_27 : Ref sig .tc := ⟨.hbm, 326, rfl⟩
abbrev main_v294 : Ref sig .tc := ⟨.hbm, 327, rfl⟩
abbrev main_v295 : Ref sig .tc := ⟨.hbm, 328, rfl⟩
abbrev main_cst_28 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_cst_29 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_cst_30 : Ref sig .tc := ⟨.hbm, 338, rfl⟩
abbrev main_v303 : Ref sig .tc := ⟨.hbm, 339, rfl⟩
abbrev main_v304 : Ref sig .tc := ⟨.hbm, 340, rfl⟩
abbrev main_cst_31 : Ref sig .tc := ⟨.hbm, 341, rfl⟩
abbrev main_v305 : Ref sig .tc := ⟨.hbm, 342, rfl⟩
abbrev main_v306 : Ref sig .tc := ⟨.hbm, 343, rfl⟩
abbrev main_cst_32 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_cst_33 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_cst_34 : Ref sig .tc := ⟨.hbm, 353, rfl⟩
abbrev main_v314 : Ref sig .tc := ⟨.hbm, 354, rfl⟩
abbrev main_v315 : Ref sig .tc := ⟨.hbm, 355, rfl⟩
abbrev main_cst_35 : Ref sig .tc := ⟨.hbm, 356, rfl⟩
abbrev main_v316 : Ref sig .tc := ⟨.hbm, 357, rfl⟩
abbrev main_v317 : Ref sig .tc := ⟨.hbm, 358, rfl⟩
abbrev main_cst_36 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_cst_37 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_cst_38 : Ref sig .tc := ⟨.hbm, 368, rfl⟩
abbrev main_v325 : Ref sig .tc := ⟨.hbm, 369, rfl⟩
abbrev main_v326 : Ref sig .tc := ⟨.hbm, 370, rfl⟩
abbrev main_cst_39 : Ref sig .tc := ⟨.hbm, 371, rfl⟩
abbrev main_v327 : Ref sig .tc := ⟨.hbm, 372, rfl⟩
abbrev main_v328 : Ref sig .tc := ⟨.hbm, 373, rfl⟩
abbrev main_cst_40 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_cst_41 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_cst_42 : Ref sig .tc := ⟨.hbm, 383, rfl⟩
abbrev main_v336 : Ref sig .tc := ⟨.hbm, 384, rfl⟩
abbrev main_v337 : Ref sig .tc := ⟨.hbm, 385, rfl⟩
abbrev main_cst_43 : Ref sig .tc := ⟨.hbm, 386, rfl⟩
abbrev main_v338 : Ref sig .tc := ⟨.hbm, 387, rfl⟩
abbrev main_v339 : Ref sig .tc := ⟨.hbm, 388, rfl⟩
abbrev main_cst_44 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_cst_45 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_cst_46 : Ref sig .tc := ⟨.hbm, 398, rfl⟩
abbrev main_v347 : Ref sig .tc := ⟨.hbm, 399, rfl⟩
abbrev main_v348 : Ref sig .tc := ⟨.hbm, 400, rfl⟩
abbrev main_cst_47 : Ref sig .tc := ⟨.hbm, 401, rfl⟩
abbrev main_v349 : Ref sig .tc := ⟨.hbm, 402, rfl⟩
abbrev main_v350 : Ref sig .tc := ⟨.hbm, 403, rfl⟩
abbrev main_cst_48 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_cst_49 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_cst_50 : Ref sig .tc := ⟨.hbm, 413, rfl⟩
abbrev main_v358 : Ref sig .tc := ⟨.hbm, 414, rfl⟩
abbrev main_v359 : Ref sig .tc := ⟨.hbm, 415, rfl⟩
abbrev main_cst_51 : Ref sig .tc := ⟨.hbm, 416, rfl⟩
abbrev main_v360 : Ref sig .tc := ⟨.hbm, 417, rfl⟩
abbrev main_v361 : Ref sig .tc := ⟨.hbm, 418, rfl⟩
abbrev main_cst_52 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_cst_53 : Ref sig .tc := ⟨.hbm, 423, rfl⟩
abbrev main_v365 : Ref sig .tc := ⟨.hbm, 424, rfl⟩
abbrev main_v366 : Ref sig .tc := ⟨.hbm, 425, rfl⟩
abbrev main_v367 : Ref sig .tc := ⟨.hbm, 426, rfl⟩
abbrev main_v368 : Ref sig .tc := ⟨.hbm, 427, rfl⟩
abbrev main_cst_54 : Ref sig .tc := ⟨.hbm, 428, rfl⟩
abbrev main_v369 : Ref sig .tc := ⟨.hbm, 429, rfl⟩
abbrev main_v370 : Ref sig .tc := ⟨.hbm, 430, rfl⟩
abbrev main_cst_55 : Ref sig .tc := ⟨.hbm, 431, rfl⟩
abbrev main_v371 : Ref sig .tc := ⟨.hbm, 432, rfl⟩
abbrev main_v372 : Ref sig .tc := ⟨.hbm, 433, rfl⟩
abbrev main_cst_56 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_cst_57 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_cst_58 : Ref sig .tc := ⟨.hbm, 443, rfl⟩
abbrev main_v380 : Ref sig .tc := ⟨.hbm, 444, rfl⟩
abbrev main_v381 : Ref sig .tc := ⟨.hbm, 445, rfl⟩
abbrev main_cst_59 : Ref sig .tc := ⟨.hbm, 446, rfl⟩
abbrev main_v382 : Ref sig .tc := ⟨.hbm, 447, rfl⟩
abbrev main_v383 : Ref sig .tc := ⟨.hbm, 448, rfl⟩
abbrev main_cst_60 : Ref sig .tc := ⟨.hbm, 449, rfl⟩
abbrev main_v384 : Ref sig .tc := ⟨.hbm, 450, rfl⟩
abbrev main_v385 : Ref sig .tc := ⟨.hbm, 451, rfl⟩
abbrev main_v386 : Ref sig .tc := ⟨.hbm, 452, rfl⟩
abbrev main_cst_61 : Ref sig .tc := ⟨.hbm, 453, rfl⟩
abbrev main_v387 : Ref sig .tc := ⟨.hbm, 454, rfl⟩
abbrev main_v388 : Ref sig .tc := ⟨.hbm, 455, rfl⟩
abbrev main_v389 : Ref sig .tc := ⟨.hbm, 456, rfl⟩
abbrev main_v390 : Ref sig .tc := ⟨.hbm, 457, rfl⟩
abbrev main_cst_62 : Ref sig .tc := ⟨.hbm, 458, rfl⟩
abbrev main_v391 : Ref sig .tc := ⟨.hbm, 459, rfl⟩
abbrev main_v392 : Ref sig .tc := ⟨.hbm, 460, rfl⟩
abbrev main_cst_63 : Ref sig .tc := ⟨.hbm, 461, rfl⟩
abbrev main_v393 : Ref sig .tc := ⟨.hbm, 462, rfl⟩
abbrev main_v394 : Ref sig .tc := ⟨.hbm, 463, rfl⟩
abbrev main_cst_64 : Ref sig .tc := ⟨.hbm, 464, rfl⟩
abbrev main_v395 : Ref sig .tc := ⟨.hbm, 465, rfl⟩
abbrev main_v396 : Ref sig .tc := ⟨.hbm, 466, rfl⟩
abbrev main_v397 : Ref sig .tc := ⟨.hbm, 467, rfl⟩
abbrev main_cst_65 : Ref sig .tc := ⟨.hbm, 468, rfl⟩
abbrev main_v398 : Ref sig .tc := ⟨.hbm, 469, rfl⟩
abbrev main_v399 : Ref sig .tc := ⟨.hbm, 470, rfl⟩
abbrev main_v400 : Ref sig .tc := ⟨.hbm, 471, rfl⟩
abbrev main_v401 : Ref sig .tc := ⟨.hbm, 472, rfl⟩
abbrev main_cst_66 : Ref sig .tc := ⟨.hbm, 473, rfl⟩
abbrev main_v402 : Ref sig .tc := ⟨.hbm, 474, rfl⟩
abbrev main_v403 : Ref sig .tc := ⟨.hbm, 475, rfl⟩
abbrev main_cst_67 : Ref sig .tc := ⟨.hbm, 476, rfl⟩
abbrev main_v404 : Ref sig .tc := ⟨.hbm, 477, rfl⟩
abbrev main_v405 : Ref sig .tc := ⟨.hbm, 478, rfl⟩
abbrev main_cst_68 : Ref sig .tc := ⟨.hbm, 479, rfl⟩
abbrev main_v406 : Ref sig .tc := ⟨.hbm, 480, rfl⟩
abbrev main_v407 : Ref sig .tc := ⟨.hbm, 481, rfl⟩
abbrev main_v408 : Ref sig .tc := ⟨.hbm, 482, rfl⟩
abbrev main_cst_69 : Ref sig .tc := ⟨.hbm, 483, rfl⟩
abbrev main_v409 : Ref sig .tc := ⟨.hbm, 484, rfl⟩
abbrev main_v410 : Ref sig .tc := ⟨.hbm, 485, rfl⟩
abbrev main_v411 : Ref sig .tc := ⟨.hbm, 486, rfl⟩
abbrev main_v412 : Ref sig .tc := ⟨.hbm, 487, rfl⟩
abbrev main_cst_70 : Ref sig .tc := ⟨.hbm, 488, rfl⟩
abbrev main_v413 : Ref sig .tc := ⟨.hbm, 489, rfl⟩
abbrev main_v414 : Ref sig .tc := ⟨.hbm, 490, rfl⟩
abbrev main_cst_71 : Ref sig .tc := ⟨.hbm, 491, rfl⟩
abbrev main_v415 : Ref sig .tc := ⟨.hbm, 492, rfl⟩
abbrev main_v416 : Ref sig .tc := ⟨.hbm, 493, rfl⟩
abbrev main_cst_72 : Ref sig .tc := ⟨.hbm, 494, rfl⟩
abbrev main_v417 : Ref sig .tc := ⟨.hbm, 495, rfl⟩
abbrev main_v418 : Ref sig .tc := ⟨.hbm, 496, rfl⟩
abbrev main_v419 : Ref sig .tc := ⟨.hbm, 497, rfl⟩
abbrev main_cst_73 : Ref sig .tc := ⟨.hbm, 498, rfl⟩
abbrev main_v420 : Ref sig .tc := ⟨.hbm, 499, rfl⟩
abbrev main_v421 : Ref sig .tc := ⟨.hbm, 500, rfl⟩
abbrev main_v422 : Ref sig .tc := ⟨.hbm, 501, rfl⟩
abbrev main_v423 : Ref sig .tc := ⟨.hbm, 502, rfl⟩
abbrev main_cst_74 : Ref sig .tc := ⟨.hbm, 503, rfl⟩
abbrev main_v424 : Ref sig .tc := ⟨.hbm, 504, rfl⟩
abbrev main_v425 : Ref sig .tc := ⟨.hbm, 505, rfl⟩
abbrev main_cst_75 : Ref sig .tc := ⟨.hbm, 506, rfl⟩
abbrev main_v426 : Ref sig .tc := ⟨.hbm, 507, rfl⟩
abbrev main_v427 : Ref sig .tc := ⟨.hbm, 508, rfl⟩
abbrev main_cst_76 : Ref sig .tc := ⟨.hbm, 509, rfl⟩
abbrev main_v428 : Ref sig .tc := ⟨.hbm, 510, rfl⟩
abbrev main_v429 : Ref sig .tc := ⟨.hbm, 511, rfl⟩
abbrev main_v430 : Ref sig .tc := ⟨.hbm, 512, rfl⟩
abbrev main_cst_77 : Ref sig .tc := ⟨.hbm, 513, rfl⟩
abbrev main_v431 : Ref sig .tc := ⟨.hbm, 514, rfl⟩
abbrev main_v432 : Ref sig .tc := ⟨.hbm, 515, rfl⟩
abbrev main_v433 : Ref sig .tc := ⟨.hbm, 516, rfl⟩
abbrev main_v434 : Ref sig .tc := ⟨.hbm, 517, rfl⟩
abbrev main_cst_78 : Ref sig .tc := ⟨.hbm, 518, rfl⟩
abbrev main_v435 : Ref sig .tc := ⟨.hbm, 519, rfl⟩
abbrev main_v436 : Ref sig .tc := ⟨.hbm, 520, rfl⟩
abbrev main_cst_79 : Ref sig .tc := ⟨.hbm, 521, rfl⟩
abbrev main_v437 : Ref sig .tc := ⟨.hbm, 522, rfl⟩
abbrev main_v438 : Ref sig .tc := ⟨.hbm, 523, rfl⟩
abbrev main_cst_80 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_cst_81 : Ref sig .tc := ⟨.hbm, 528, rfl⟩
abbrev main_v442 : Ref sig .tc := ⟨.hbm, 529, rfl⟩
abbrev main_v443 : Ref sig .tc := ⟨.hbm, 530, rfl⟩
abbrev main_v444 : Ref sig .tc := ⟨.hbm, 531, rfl⟩
abbrev main_v445 : Ref sig .tc := ⟨.hbm, 532, rfl⟩
abbrev main_cst_82 : Ref sig .tc := ⟨.hbm, 533, rfl⟩
abbrev main_v446 : Ref sig .tc := ⟨.hbm, 534, rfl⟩
abbrev main_v447 : Ref sig .tc := ⟨.hbm, 535, rfl⟩
abbrev main_cst_83 : Ref sig .tc := ⟨.hbm, 536, rfl⟩
abbrev main_v448 : Ref sig .tc := ⟨.hbm, 537, rfl⟩
abbrev main_v449 : Ref sig .tc := ⟨.hbm, 538, rfl⟩
abbrev main_cst_84 : Ref sig .tc := ⟨.hbm, 539, rfl⟩
abbrev main_v450 : Ref sig .tc := ⟨.hbm, 540, rfl⟩
abbrev main_v451 : Ref sig .tc := ⟨.hbm, 541, rfl⟩
abbrev main_v452 : Ref sig .tc := ⟨.hbm, 542, rfl⟩
abbrev main_cst_85 : Ref sig .tc := ⟨.hbm, 543, rfl⟩
abbrev main_v453 : Ref sig .tc := ⟨.hbm, 544, rfl⟩
abbrev main_v454 : Ref sig .tc := ⟨.hbm, 545, rfl⟩
abbrev main_v455 : Ref sig .tc := ⟨.hbm, 546, rfl⟩
abbrev main_v456 : Ref sig .tc := ⟨.hbm, 547, rfl⟩
abbrev main_cst_86 : Ref sig .tc := ⟨.hbm, 548, rfl⟩
abbrev main_v457 : Ref sig .tc := ⟨.hbm, 549, rfl⟩
abbrev main_v458 : Ref sig .tc := ⟨.hbm, 550, rfl⟩
abbrev main_cst_87 : Ref sig .tc := ⟨.hbm, 551, rfl⟩
abbrev main_v459 : Ref sig .tc := ⟨.hbm, 552, rfl⟩
abbrev main_v460 : Ref sig .tc := ⟨.hbm, 553, rfl⟩
abbrev main_cst_88 : Ref sig .tc := ⟨.hbm, 554, rfl⟩
abbrev main_v461 : Ref sig .tc := ⟨.hbm, 555, rfl⟩
abbrev main_v462 : Ref sig .tc := ⟨.hbm, 556, rfl⟩
abbrev main_v463 : Ref sig .tc := ⟨.hbm, 557, rfl⟩
abbrev main_cst_89 : Ref sig .tc := ⟨.hbm, 558, rfl⟩
abbrev main_v464 : Ref sig .tc := ⟨.hbm, 559, rfl⟩
abbrev main_v465 : Ref sig .tc := ⟨.hbm, 560, rfl⟩
abbrev main_v466 : Ref sig .tc := ⟨.hbm, 561, rfl⟩
abbrev main_v467 : Ref sig .tc := ⟨.hbm, 562, rfl⟩
abbrev main_cst_90 : Ref sig .tc := ⟨.hbm, 563, rfl⟩
abbrev main_v468 : Ref sig .tc := ⟨.hbm, 564, rfl⟩
abbrev main_v469 : Ref sig .tc := ⟨.hbm, 565, rfl⟩
abbrev main_cst_91 : Ref sig .tc := ⟨.hbm, 566, rfl⟩
abbrev main_v470 : Ref sig .tc := ⟨.hbm, 567, rfl⟩
abbrev main_v471 : Ref sig .tc := ⟨.hbm, 568, rfl⟩
abbrev main_cst_92 : Ref sig .tc := ⟨.hbm, 569, rfl⟩
abbrev main_v472 : Ref sig .tc := ⟨.hbm, 570, rfl⟩
abbrev main_v473 : Ref sig .tc := ⟨.hbm, 571, rfl⟩
abbrev main_v474 : Ref sig .tc := ⟨.hbm, 572, rfl⟩
abbrev main_cst_93 : Ref sig .tc := ⟨.hbm, 573, rfl⟩
abbrev main_v475 : Ref sig .tc := ⟨.hbm, 574, rfl⟩
abbrev main_v476 : Ref sig .tc := ⟨.hbm, 575, rfl⟩
abbrev main_v477 : Ref sig .tc := ⟨.hbm, 576, rfl⟩
abbrev main_v478 : Ref sig .tc := ⟨.hbm, 577, rfl⟩
abbrev main_cst_94 : Ref sig .tc := ⟨.hbm, 578, rfl⟩
abbrev main_v479 : Ref sig .tc := ⟨.hbm, 579, rfl⟩
abbrev main_v480 : Ref sig .tc := ⟨.hbm, 580, rfl⟩
abbrev main_cst_95 : Ref sig .tc := ⟨.hbm, 581, rfl⟩
abbrev main_v481 : Ref sig .tc := ⟨.hbm, 582, rfl⟩
abbrev main_v482 : Ref sig .tc := ⟨.hbm, 583, rfl⟩
abbrev main_cst_96 : Ref sig .tc := ⟨.hbm, 584, rfl⟩
abbrev main_v483 : Ref sig .tc := ⟨.hbm, 585, rfl⟩
abbrev main_v484 : Ref sig .tc := ⟨.hbm, 586, rfl⟩
abbrev main_v485 : Ref sig .tc := ⟨.hbm, 587, rfl⟩
abbrev main_cst_97 : Ref sig .tc := ⟨.hbm, 588, rfl⟩
abbrev main_v486 : Ref sig .tc := ⟨.hbm, 589, rfl⟩
abbrev main_v487 : Ref sig .tc := ⟨.hbm, 590, rfl⟩
abbrev main_v488 : Ref sig .tc := ⟨.hbm, 591, rfl⟩
abbrev main_v489 : Ref sig .tc := ⟨.hbm, 592, rfl⟩
abbrev main_cst_98 : Ref sig .tc := ⟨.hbm, 593, rfl⟩
abbrev main_v490 : Ref sig .tc := ⟨.hbm, 594, rfl⟩
abbrev main_v491 : Ref sig .tc := ⟨.hbm, 595, rfl⟩
abbrev main_cst_99 : Ref sig .tc := ⟨.hbm, 596, rfl⟩
abbrev main_v492 : Ref sig .tc := ⟨.hbm, 597, rfl⟩
abbrev main_v493 : Ref sig .tc := ⟨.hbm, 598, rfl⟩
abbrev main_cst_100 : Ref sig .tc := ⟨.hbm, 599, rfl⟩
abbrev main_v494 : Ref sig .tc := ⟨.hbm, 600, rfl⟩
abbrev main_v495 : Ref sig .tc := ⟨.hbm, 601, rfl⟩
abbrev main_v496 : Ref sig .tc := ⟨.hbm, 602, rfl⟩
abbrev main_cst_101 : Ref sig .tc := ⟨.hbm, 603, rfl⟩
abbrev main_v497 : Ref sig .tc := ⟨.hbm, 604, rfl⟩
abbrev main_v498 : Ref sig .tc := ⟨.hbm, 605, rfl⟩
abbrev main_v499 : Ref sig .tc := ⟨.hbm, 606, rfl⟩
abbrev main_v500 : Ref sig .tc := ⟨.hbm, 607, rfl⟩
abbrev main_cst_102 : Ref sig .tc := ⟨.hbm, 608, rfl⟩
abbrev main_v501 : Ref sig .tc := ⟨.hbm, 609, rfl⟩
abbrev main_v502 : Ref sig .tc := ⟨.hbm, 610, rfl⟩
abbrev main_cst_103 : Ref sig .tc := ⟨.hbm, 611, rfl⟩
abbrev main_v503 : Ref sig .tc := ⟨.hbm, 612, rfl⟩
abbrev main_v504 : Ref sig .tc := ⟨.hbm, 613, rfl⟩
abbrev main_cst_104 : Ref sig .tc := ⟨.hbm, 614, rfl⟩
abbrev main_v505 : Ref sig .tc := ⟨.hbm, 615, rfl⟩
abbrev main_v506 : Ref sig .tc := ⟨.hbm, 616, rfl⟩
abbrev main_v507 : Ref sig .tc := ⟨.hbm, 617, rfl⟩
abbrev main_cst_105 : Ref sig .tc := ⟨.hbm, 618, rfl⟩
abbrev main_v508 : Ref sig .tc := ⟨.hbm, 619, rfl⟩
abbrev main_v509 : Ref sig .tc := ⟨.hbm, 620, rfl⟩
abbrev main_v510 : Ref sig .tc := ⟨.hbm, 621, rfl⟩
abbrev main_v511 : Ref sig .tc := ⟨.hbm, 622, rfl⟩
abbrev main_cst_106 : Ref sig .tc := ⟨.hbm, 623, rfl⟩
abbrev main_v512 : Ref sig .tc := ⟨.hbm, 624, rfl⟩
abbrev main_v513 : Ref sig .tc := ⟨.hbm, 625, rfl⟩
abbrev main_cst_107 : Ref sig .tc := ⟨.hbm, 626, rfl⟩
abbrev main_v514 : Ref sig .tc := ⟨.hbm, 627, rfl⟩
abbrev main_v515 : Ref sig .tc := ⟨.hbm, 628, rfl⟩
abbrev main_cst_108 : Ref sig .tc := ⟨.hbm, 629, rfl⟩
abbrev main_v516 : Ref sig .tc := ⟨.hbm, 630, rfl⟩
abbrev main_v517 : Ref sig .tc := ⟨.hbm, 631, rfl⟩
abbrev main_v518 : Ref sig .tc := ⟨.hbm, 632, rfl⟩
abbrev main_cst_109 : Ref sig .tc := ⟨.hbm, 633, rfl⟩
abbrev main_v519 : Ref sig .tc := ⟨.hbm, 634, rfl⟩
abbrev main_v520 : Ref sig .tc := ⟨.hbm, 635, rfl⟩
abbrev main_v521 : Ref sig .tc := ⟨.hbm, 636, rfl⟩
abbrev main_v522 : Ref sig .tc := ⟨.hbm, 637, rfl⟩
abbrev main_cst_110 : Ref sig .tc := ⟨.hbm, 638, rfl⟩
abbrev main_v523 : Ref sig .tc := ⟨.hbm, 639, rfl⟩
abbrev main_v524 : Ref sig .tc := ⟨.hbm, 640, rfl⟩
abbrev main_cst_111 : Ref sig .tc := ⟨.hbm, 641, rfl⟩
abbrev main_v525 : Ref sig .tc := ⟨.hbm, 642, rfl⟩
abbrev main_v526 : Ref sig .tc := ⟨.hbm, 643, rfl⟩
abbrev main_cst_112 : Ref sig .tc := ⟨.hbm, 644, rfl⟩
abbrev main_v527 : Ref sig .tc := ⟨.hbm, 645, rfl⟩
abbrev main_v528 : Ref sig .tc := ⟨.hbm, 646, rfl⟩
abbrev main_v529 : Ref sig .tc := ⟨.hbm, 647, rfl⟩
abbrev main_cst_113 : Ref sig .tc := ⟨.hbm, 648, rfl⟩
abbrev main_v530 : Ref sig .tc := ⟨.hbm, 649, rfl⟩
abbrev main_v531 : Ref sig .tc := ⟨.hbm, 650, rfl⟩
abbrev main_v532 : Ref sig .tc := ⟨.hbm, 651, rfl⟩
abbrev main_v533 : Ref sig .tc := ⟨.hbm, 652, rfl⟩
abbrev main_cst_114 : Ref sig .tc := ⟨.hbm, 653, rfl⟩
abbrev main_v534 : Ref sig .tc := ⟨.hbm, 654, rfl⟩
abbrev main_v535 : Ref sig .tc := ⟨.hbm, 655, rfl⟩
abbrev main_cst_115 : Ref sig .tc := ⟨.hbm, 656, rfl⟩
abbrev main_v536 : Ref sig .tc := ⟨.hbm, 657, rfl⟩
abbrev main_v537 : Ref sig .tc := ⟨.hbm, 658, rfl⟩
abbrev main_cst_116 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_cst_117 : Ref sig .tc := ⟨.hbm, 663, rfl⟩
abbrev main_v541 : Ref sig .tc := ⟨.hbm, 664, rfl⟩
abbrev main_v542 : Ref sig .tc := ⟨.hbm, 665, rfl⟩
abbrev main_v543 : Ref sig .tc := ⟨.hbm, 666, rfl⟩
abbrev main_v544 : Ref sig .tc := ⟨.hbm, 667, rfl⟩
abbrev main_cst_118 : Ref sig .tc := ⟨.hbm, 668, rfl⟩
abbrev main_v545 : Ref sig .tc := ⟨.hbm, 669, rfl⟩
abbrev main_v546 : Ref sig .tc := ⟨.hbm, 670, rfl⟩
abbrev main_cst_119 : Ref sig .tc := ⟨.hbm, 671, rfl⟩
abbrev main_v547 : Ref sig .tc := ⟨.hbm, 672, rfl⟩
abbrev main_v548 : Ref sig .tc := ⟨.hbm, 673, rfl⟩
abbrev main_cst_120 : Ref sig .tc := ⟨.hbm, 674, rfl⟩
abbrev main_v549 : Ref sig .tc := ⟨.hbm, 675, rfl⟩
abbrev main_v550 : Ref sig .tc := ⟨.hbm, 676, rfl⟩
abbrev main_v551 : Ref sig .tc := ⟨.hbm, 677, rfl⟩
abbrev main_cst_121 : Ref sig .tc := ⟨.hbm, 678, rfl⟩
abbrev main_v552 : Ref sig .tc := ⟨.hbm, 679, rfl⟩
abbrev main_v553 : Ref sig .tc := ⟨.hbm, 680, rfl⟩
abbrev main_v554 : Ref sig .tc := ⟨.hbm, 681, rfl⟩
abbrev main_v555 : Ref sig .tc := ⟨.hbm, 682, rfl⟩
abbrev main_cst_122 : Ref sig .tc := ⟨.hbm, 683, rfl⟩
abbrev main_v556 : Ref sig .tc := ⟨.hbm, 684, rfl⟩
abbrev main_v557 : Ref sig .tc := ⟨.hbm, 685, rfl⟩
abbrev main_cst_123 : Ref sig .tc := ⟨.hbm, 686, rfl⟩
abbrev main_v558 : Ref sig .tc := ⟨.hbm, 687, rfl⟩
abbrev main_v559 : Ref sig .tc := ⟨.hbm, 688, rfl⟩
abbrev main_cst_124 : Ref sig .tc := ⟨.hbm, 689, rfl⟩
abbrev main_v560 : Ref sig .tc := ⟨.hbm, 690, rfl⟩
abbrev main_v561 : Ref sig .tc := ⟨.hbm, 691, rfl⟩
abbrev main_v562 : Ref sig .tc := ⟨.hbm, 692, rfl⟩
abbrev main_cst_125 : Ref sig .tc := ⟨.hbm, 693, rfl⟩
abbrev main_v563 : Ref sig .tc := ⟨.hbm, 694, rfl⟩
abbrev main_v564 : Ref sig .tc := ⟨.hbm, 695, rfl⟩
abbrev main_v565 : Ref sig .tc := ⟨.hbm, 696, rfl⟩
abbrev main_v566 : Ref sig .tc := ⟨.hbm, 697, rfl⟩
abbrev main_cst_126 : Ref sig .tc := ⟨.hbm, 698, rfl⟩
abbrev main_v567 : Ref sig .tc := ⟨.hbm, 699, rfl⟩
abbrev main_v568 : Ref sig .tc := ⟨.hbm, 700, rfl⟩
abbrev main_cst_127 : Ref sig .tc := ⟨.hbm, 701, rfl⟩
abbrev main_v569 : Ref sig .tc := ⟨.hbm, 702, rfl⟩
abbrev main_v570 : Ref sig .tc := ⟨.hbm, 703, rfl⟩
abbrev main_cst_128 : Ref sig .tc := ⟨.hbm, 704, rfl⟩
abbrev main_v571 : Ref sig .tc := ⟨.hbm, 705, rfl⟩
abbrev main_v572 : Ref sig .tc := ⟨.hbm, 706, rfl⟩
abbrev main_v573 : Ref sig .tc := ⟨.hbm, 707, rfl⟩
abbrev main_v574 : Ref sig .tc := ⟨.hbm, 708, rfl⟩
abbrev main_v575 : Ref sig .tc := ⟨.hbm, 709, rfl⟩
abbrev main_v576 : Ref sig .tc := ⟨.hbm, 710, rfl⟩
abbrev main_v577 : Ref sig .tc := ⟨.hbm, 711, rfl⟩
abbrev main_v578 : Ref sig .tc := ⟨.hbm, 712, rfl⟩
abbrev main_v579 : Ref sig .tc := ⟨.hbm, 713, rfl⟩
abbrev main_v580 : Ref sig .tc := ⟨.hbm, 714, rfl⟩
abbrev main_v581 : Ref sig .tc := ⟨.hbm, 715, rfl⟩
abbrev main_v582 : Ref sig .tc := ⟨.hbm, 716, rfl⟩
abbrev main_c : Ref sig .tc := ⟨.hbm, 717, rfl⟩
abbrev main_call0_v0 : Ref sig .tc := ⟨.hbm, 718, rfl⟩
abbrev main_v583 : Ref sig .tc := ⟨.hbm, 719, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v6 : BitVec 1 := Scalar.cmpi .eq arg2 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S1x8192x1024 : Shape := ⟨3, ![1, 8192, 1024]⟩
abbrev S2x8192x1024 : Shape := ⟨3, ![2, 8192, 1024]⟩
abbrev S2x1024x1024 : Shape := ⟨3, ![2, 1024, 1024]⟩
abbrev S512x1024 : Shape := ⟨2, ![512, 1024]⟩
abbrev S1x512x1024 : Shape := ⟨3, ![1, 512, 1024]⟩
abbrev S1x1024x1024 : Shape := ⟨3, ![1, 1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x8192x1024, .f32⟩
  | .hbm, ⟨7, _⟩ => ⟨S1x8192x1024, .f32⟩
  | .hbm, ⟨8, _⟩ => ⟨S2x8192x1024, .f32⟩
  | .hbm, ⟨9, _⟩ => ⟨S2x8192x1024, .bf16⟩
  | .hbm, ⟨10, _⟩ => ⟨S2x1024x1024, .f32⟩
  | .local _ .vmem, ⟨0, _⟩ => ⟨S512x1024, .bf16⟩
  | .local _ .vmem, ⟨1, _⟩ => ⟨S512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 1, 16], ![false, false, false, false]⟩

def k0_cond3 (i : grid0.Coords) : BitVec 1 :=
  let arg3 : BitVec 32 := BitVec.ofNat 32 (i 3).val
  let c15_i32 : BitVec 32 := 15#32
  let v6 : BitVec 1 := Scalar.cmpi .eq arg3 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference15Ideal.lean ====
abbrev S8192x1024 : Shape := ⟨2, ![8192, 1024]⟩
abbrev S1024x1024 : Shape := ⟨2, ![1024, 1024]⟩
abbrev S1x1024x1024 : Shape := ⟨3, ![1, 1024, 1024]⟩
abbrev S2x1024x1024 : Shape := ⟨3, ![2, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1x1024x1024, .f32⟩
  | .hbm, ⟨12, _⟩ => ⟨S1x1024x1024, .f32⟩
  | .hbm, ⟨13, _⟩ => ⟨S2x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S1x8192x1024 : Shape := ⟨3, ![1, 8192, 1024]⟩
abbrev S2x8192x1024 : Shape := ⟨3, ![2, 8192, 1024]⟩
abbrev S1x1024x1024 : Shape := ⟨3, ![1, 1024, 1024]⟩
abbrev S2x1024x1024 : Shape := ⟨3, ![2, 1024, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S1x8192x1024, .f32⟩
  | .hbm, ⟨6, _⟩ => ⟨S1x8192x1024, .f32⟩
  | .hbm, ⟨7, _⟩ => ⟨S2x8192x1024, .f32⟩
  | .hbm, ⟨8, _⟩ => ⟨S2x8192x1024, .bf16⟩
  | .hbm, ⟨9, _⟩ => ⟨S1x1024x1024, .f32⟩
  | .hbm, ⟨10, _⟩ => ⟨S1x1024x1024, .f32⟩
  | .hbm, ⟨11, _⟩ => ⟨S2x1024x1024, .f32⟩
  | .hbm, ⟨12, _⟩ => ⟨S2x1024x1024, .bf16⟩
  | .hbm, ⟨13, _⟩ => ⟨S8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S1x8192x1024 : Shape := ⟨3, ![1, 8192, 1024]⟩
abbrev S4x8192x1024 : Shape := ⟨3, ![4, 8192, 1024]⟩
abbrev S4x1024x1024 : Shape := ⟨3, ![4, 1024, 1024]⟩
abbrev S512x1024 : Shape := ⟨2, ![512, 1024]⟩
abbrev S1x512x1024 : Shape := ⟨3, ![1, 512, 1024]⟩
abbrev S1x1024x1024 : Shape := ⟨3, ![1, 1024, 1024]⟩

abbrev nBuf : Space → Nat
  | .hbm => 17
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S1x8192x1024, .f32⟩
  | .hbm, ⟨11, _⟩ => ⟨S1x8192x1024, .f32⟩
  | .hbm, ⟨12, _⟩ => ⟨S1x8192x1024, .f32⟩
  | .hbm, ⟨13, _⟩ => ⟨S1x8192x1024, .f32⟩
  | .hbm, ⟨14, _⟩ => ⟨S4x8192x1024, .f32⟩
  | .hbm, ⟨15, _⟩ => ⟨S4x8192x1024, .bf16⟩
  | .hbm, ⟨16, _⟩ => ⟨S4x1024x1024, .f32⟩
  | .local _ .vmem, ⟨0, _⟩ => ⟨S512x1024, .bf16⟩
  | .local _ .vmem, ⟨1, _⟩ => ⟨S512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 16], ![false, false, false, false]⟩

def k0_cond3 (i : grid0.Coords) : BitVec 1 :=
  let arg3 : BitVec 32 := BitVec.ofNat 32 (i 3).val
  let c15_i32 : BitVec 32 := 15#32
  let v6 : BitVec 1 := Scalar.cmpi .eq arg3 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference17Ideal.lean ====
abbrev S8192x1024 : Shape := ⟨2, ![8192, 1024]⟩
abbrev S1024x1024 : Shape := ⟨2, ![1024, 1024]⟩
abbrev S1x1024x1024 : Shape := ⟨3, ![1, 1024, 1024]⟩
abbrev S4x1024x1024 : Shape := ⟨3, ![4, 1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1x1024x1024, .f32⟩
  | .hbm, ⟨22, _⟩ => ⟨S1x1024x1024, .f32⟩
  | .hbm, ⟨23, _⟩ => ⟨S1x1024x1024, .f32⟩
  | .hbm, ⟨24, _⟩ => ⟨S1x1024x1024, .f32⟩
  | .hbm, ⟨25, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩
abbrev S1x8192x1024 : Shape := ⟨3, ![1, 8192, 1024]⟩
abbrev S4x8192x1024 : Shape := ⟨3, ![4, 8192, 1024]⟩
abbrev S1x1024x1024 : Shape := ⟨3, ![1, 1024, 1024]⟩
abbrev S4x1024x1024 : Shape := ⟨3, ![4, 1024, 1024]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1x8192x1024, .f32⟩
  | .hbm, ⟨10, _⟩ => ⟨S1x8192x1024, .f32⟩
  | .hbm, ⟨11, _⟩ => ⟨S1x8192x1024, .f32⟩
  | .hbm, ⟨12, _⟩ => ⟨S1x8192x1024, .f32⟩
  | .hbm, ⟨13, _⟩ => ⟨S4x8192x1024, .f32⟩
  | .hbm, ⟨14, _⟩ => ⟨S4x8192x1024, .bf16⟩
  | .hbm, ⟨15, _⟩ => ⟨S1x1024x1024, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S4x1024x1024, .f32⟩
  | .hbm, ⟨20, _⟩ => ⟨S4x1024x1024, .bf16⟩
  | .hbm, ⟨21, _⟩ => ⟨S8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x1024 : Shape := ⟨2, ![1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== Kernel19.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S1024x3072, .bf16⟩
  | .hbm, ⟨4, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S8192x3072, .bf16⟩
  | .hbm, ⟨5, _⟩ => ⟨S1024x3072, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond3 (i : grid0.Coords) : BitVec 1 :=
  let arg2 : BitVec 32 := BitVec.ofNat 32 (i 2).val
  let c15_i32 : BitVec 32 := 15#32
  let v6 : BitVec 1 := Scalar.cmpi .eq arg2 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .f32⟩
  | .hbm, ⟨4, _⟩ => ⟨S3072x1024, .f32⟩
  | .hbm, ⟨5, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel22.lean ====
abbrev S8192x1024 : Shape := ⟨2, ![8192, 1024]⟩
abbrev S1024x3072 : Shape := ⟨2, ![1024, 3072]⟩
abbrev S1024x128 : Shape := ⟨2, ![1024, 128]⟩
abbrev S8192x3072 : Shape := ⟨2, ![8192, 3072]⟩
abbrev S8192x128 : Shape := ⟨2, ![8192, 128]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1024x128, .f32⟩
  | .hbm, ⟨3, _⟩ => ⟨S8192x3072, .f32⟩
  | .hbm, ⟨4, _⟩ => ⟨S8192x128, .f32⟩
  | .hbm, ⟨5, _⟩ => ⟨S8192x3072, .bf16⟩
  | .hbm, ⟨6, _⟩ => ⟨S1024x3072, .bf16⟩
  | .hbm, ⟨7, _⟩ => ⟨S1024x128, .bf16⟩
  | .hbm, ⟨8, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x128, .f32⟩
  | .local _ .vmem, ⟨4, _⟩ => ⟨S1024x128, .f32⟩
  | .local _ .vmem, ⟨5, _⟩ => ⟨S1024x128, .bf16⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference22Ideal.lean ====
abbrev S8192x1024 : Shape := ⟨2, ![8192, 1024]⟩
abbrev S1024x3072 : Shape := ⟨2, ![1024, 3072]⟩
abbrev S1024x128 : Shape := ⟨2, ![1024, 128]⟩
abbrev S8192x3072 : Shape := ⟨2, ![8192, 3072]⟩
abbrev S8192x128 : Shape := ⟨2, ![8192, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1024x128, .f32⟩
  | .hbm, ⟨3, _⟩ => ⟨S8192x3072, .f32⟩
  | .hbm, ⟨4, _⟩ => ⟨S8192x128, .f32⟩
  | .hbm, ⟨5, _⟩ => ⟨S8192x3072, .f32⟩
  | .hbm, ⟨6, _⟩ => ⟨S8192x128, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel23.lean ====
abbrev S8192x1024 : Shape := ⟨2, ![8192, 1024]⟩
abbrev S1024x128 : Shape := ⟨2, ![1024, 128]⟩
abbrev S8192x128 : Shape := ⟨2, ![8192, 128]⟩
abbrev S512x1024 : Shape := ⟨2, ![512, 1024]⟩
abbrev S512x128 : Shape := ⟨2, ![512, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | .hbm, ⟨3, _⟩ => ⟨S8192x1024, .bf16⟩
  | .hbm, ⟨4, _⟩ => ⟨S1024x128, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1024x128, .f32⟩
  | .local _ .vmem, ⟨5, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v6 : BitVec 1 := Scalar.cmpi .eq arg2 c15_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S8192x1024 : Shape := ⟨2, ![8192, 1024]⟩
abbrev S1024x128 : Shape := ⟨2, ![1024, 128]⟩
abbrev S8192x128 : Shape := ⟨2, ![8192, 128]⟩
abbrev S128x1024 : Shape := ⟨2, ![128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | .hbm, ⟨3, _⟩ => ⟨S8192x128, .f32⟩
  | .hbm, ⟨4, _⟩ => ⟨S128x1024, .f32⟩
  | .hbm, ⟨5, _⟩ => ⟨S1024x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Common.lean ====
/-
  Index bookkeeping and laws of extended real numbers that the value modules share.
-/
module

public import Idealize.ShloMosaic.Lib.Pipeline.ValueKit
public import Idealize.ShloMosaic.Lib.Pointwise
public import Idealize.ShloMosaic.Lib.IdealHost

@[expose] public section

set_option maxRecDepth 16384

noncomputable section

namespace Cert.Common

open Idealize.ShloMosaic

/-- An index of a unit-stride rectangle of a matrix, placed in the matrix. -/
theorem emb2 {n0 n1 : Nat} (off size : Fin 2 → Nat) (inb) (x : (Rect.unit (s := ⟨2, ![n0, n1]⟩) off size inb).shape.Idx)
    (i : Fin n0) (j : Fin n1) (hi : (i : Nat) = off 0 + x 0) (hj : (j : Nat) = off 1 + x 1) :
    (Rect.unit (s := ⟨2, ![n0, n1]⟩) off size inb).emb x = ix2 i j := by
  funext a; apply Fin.ext
  rw [ValueKit.rect_emb_unit_val]
  match a with
  | ⟨0, _⟩ => exact hi.symm
  | ⟨1, _⟩ => exact hj.symm

/-- The same for a stack of matrices. -/
theorem emb3 {n0 n1 n2 : Nat} (off size : Fin 3 → Nat) (inb)
    (x : (Rect.unit (s := ⟨3, ![n0, n1, n2]⟩) off size inb).shape.Idx)
    (i : Fin n0) (j : Fin n1) (k : Fin n2) (hi : (i : Nat) = off 0 + x 0) (hj : (j : Nat) = off 1 + x 1)
    (hk : (k : Nat) = off 2 + x 2) :
    (Rect.unit (s := ⟨3, ![n0, n1, n2]⟩) off size inb).emb x = ix3 i j k := by
  funext a; apply Fin.ext
  rw [ValueKit.rect_emb_unit_val]
  match a with
  | ⟨0, _⟩ => exact hi.symm
  | ⟨1, _⟩ => exact hj.symm
  | ⟨2, _⟩ => exact hk.symm

/-! ## Laws of extended real numbers -/

theorem ofBits_half : Ideal.ofBits .f32 0x3F000000#32 = (((1 : ℝ) / 2 : ℝ) : EReal) := by
  simp [Ideal.ofBits, Ideal.ieee]; rw [← EReal.coe_mul]; norm_num

theorem ofBits_inf : Ideal.ofBits .f32 0x7F800000#32 = ⊤ := by
  simp [Ideal.ofBits, Ideal.ieee]

/-- A nonnegative real factor goes into a sum. -/
theorem coe_mul_sum {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih => rw [Finset.sum_insert ha, Finset.sum_insert ha, EReal.left_distrib_of_nonneg_of_ne_top (EReal.coe_nonneg.mpr hr) (EReal.coe_ne_top r), ih]

/-- A value is finite when it is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type} (s : Finset ι) (f : ι → EReal) (h : ∀ k ∈ s, IsReal (f k)) : IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-- What the precondition's comparison says of an element: it is a real number. -/
theorem finite_of_lt {x : Ideal .f32}
    (h : BitVec.ofBool (decide ((FloatOps.absf x : Ideal .f32) < Ideal.ofBits .f32 0x7F800000#32)) = 1#1) : IsReal x := by
  have h' : max (x : EReal) (-x) < ⊤ := by
    by_contra hn
    have : ¬ ((FloatOps.absf x : Ideal .f32) < Ideal.ofBits .f32 0x7F800000#32) := by rw [ofBits_inf]; exact hn
    simp [this] at h
  change IsReal (x : EReal)
  generalize (x : EReal) = z at *
  induction z using EReal.rec with
  | bot => simp at h'
  | top => simp at h'
  | coe r => exact ⟨r, rfl⟩

end Cert.Common

end
-- ==== Proof.Tiles.lean ====
/-
  A product accumulated over the tiles of its contraction: the running sum a carried buffer holds, and the whole sum.
-/
module

public import proofs.«01_k».proof.Proof.Common

@[expose] public section

noncomputable section

namespace Cert.Common

open Idealize.ShloMosaic

/-- A quantity restarted at every point a multiple of `q`, and at the others of a run but the last added to, is the sum of
    what the run's points up to this one contributed. -/
theorem run_sum {N : ℕ} (q : ℕ) (hq : 2 ≤ q) (s : (n : ℕ) → n < N → EReal) (p : ℕ → EReal)
    (h0 : ∀ n h, n % q = 0 → s n h = p n)
    (hs : ∀ n (h : n < N) (h' : n - 1 < N), n % q ≠ 0 → n % q ≠ q - 1 → s n h = s (n - 1) h' + p n) :
    ∀ n h, n % q ≠ q - 1 → s n h = ∑ j ∈ Finset.range (n % q + 1), p (n - n % q + j) := by
  intro n
  induction n with
  | zero => intro h _; rw [h0 0 h (Nat.zero_mod q)]; simp
  | succ n ih =>
    intro h hl
    by_cases hz : (n + 1) % q = 0
    · rw [h0 _ _ hz, hz]; simp
    · have hm : (n + 1) % q = n % q + 1 := by
        have hlt := Nat.mod_lt n (show 0 < q by omega)
        have h1 := Nat.add_mod n 1 q
        rw [Nat.mod_eq_of_lt (show 1 < q by omega)] at h1
        by_cases hc : n % q + 1 = q
        · rw [hc, Nat.mod_self] at h1; exact absurd h1 hz
        · rw [Nat.mod_eq_of_lt (show n % q + 1 < q by omega)] at h1; exact h1
      have hle := Nat.mod_le n q
      rw [hs (n + 1) h (by omega) hz hl]
      have := ih (by omega) (by have := Nat.mod_lt (n + 1) (show 0 < q by omega); omega)
      simp only [Nat.add_sub_cancel] at this ⊢
      rw [this, hm, Finset.sum_range_succ _ (n % q + 1)]
      congr 1
      · exact Finset.sum_congr rfl fun j _ => by congr 1; omega
      · congr 1; omega

/-- A whole sum as the sum of its tiles, the tiles numbered by natural numbers. -/
theorem tiles_sum (J T : ℕ) {N : ℕ} (hN : J * T = N) (f : Fin N → EReal) (g : ℕ → EReal)
    (hg : ∀ j (hj : j < J), g j = ∑ t : Fin T, f ⟨j * T + t, by
      subst hN; have := t.isLt; calc j * T + t < j * T + T := by omega
        _ = (j + 1) * T := by rw [Nat.add_mul, Nat.one_mul]
        _ ≤ J * T := Nat.mul_le_mul_right _ (by omega)⟩) :
    ∑ j ∈ Finset.range J, g j = ∑ k : Fin N, f k := by
  rw [Idealize.ShloMosaic.Fin.sum_univ_tiles J T hN f, Finset.sum_range]
  exact Finset.sum_congr rfl fun j _ => hg j j.isLt

end Cert.Common

end
-- ==== Proof.ConvDh.lean ====
/-
  The gradient of the convolution module's input: da · Waᵀ + db · Wbᵀ, the two products being two grid points of one block.
-/
module

public import proofs.«01_k».proof.Defs
public import proofs.«01_k».proof.Proof.Tiles
public import proofs.«01_k».proof.Proof.Gen.Kernel16Ideal.Value
public import proofs.«01_k».proof.Proof.Gen.Reference16Ideal.Run
public import Idealize.ShloMosaic.Lib.Claim

@[expose] public section

set_option maxRecDepth 16384

noncomputable section

namespace Cert.ConvDh

open Cert.Common Cert.Kernel16Ideal Cert.Kernel16Ideal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-! ## What a grid point leaves -/

section
variable (c : Dev nD) (i : grid0.Coords) (a3 : Memref sig .tc .vmem S1x1024x1024 .bf16) (h3 : a3.IsWhole)
  (a4 : Memref sig .tc .vmem S1x1024x1024 .bf16) (h4 : a4.IsWhole) (a5 : Memref sig .tc .vmem S1024x1024 .f32)
  (h5 : a5.IsWhole) (a6 : Memref sig .tc .vmem S1024x1024 .f32) (h6 : a6.IsWhole)
  (x0 x1 : Vec Ideal S1x1024x1024 .bf16) (xs : Vec Ideal S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1x1024x1024) hz3]

theorem out_B (hc0 : ¬cond0_0 i) (hc1 : cond0_1 i) (hc2 : cond0_2 i) :
    out0_B_2 c i a3 h3 a4 h4 a5 h5 a6 h6 hc0 hc1 hc2 x0 x1 xs = k0_pay2 xs x0 x1 := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz, View.readCov_unit_zero (S := S1024x1024) _ hz]
  simp only [View.readAt_eq_ld, h3.read_unread, h4.read_unread, h6.read_unread,
    View.ld_unit_zero (S := S1x1024x1024) hz3, View.ld_unit_zero (S := S1024x1024) hz]

end

/-- The product of two tiles at an index. -/
def tile (x0 x1 : Vec Ideal S1x1024x1024 .bf16) (i j : Fin 1024) : EReal :=
  ∑ k : Fin 1024, x0 (ix3 0 i k) * x1 (ix3 0 j k)

theorem pay1_apply (x0 x1 : Vec Ideal S1x1024x1024 .bf16) (i j : Fin 1024) :
    k0_pay1 x0 x1 (ix2 i j) = tile x0 x1 i j := by
  pointwise [k0_pay1, tile]

theorem pay2_apply (xs : Vec Ideal S1024x1024 .f32) (x0 x1 : Vec Ideal S1x1024x1024 .bf16) (i j : Fin 1024) :
    k0_pay2 xs x0 x1 (ix2 i j) = (xs (ix2 i j) + tile x0 x1 i j : EReal) := by
  pointwise [k0_pay2, tile]

/-! ## The array -/

variable (m : (ℓ : Loc nD τ sig) → Buf (Elt Ideal) ℓ)

theorem last (c : Dev nD) (i j : Fin 1024) (t t' : Fin cfg0.N) (ht : t.val % 2 = 1) (ht' : t'.val = t.val - 1) :
    ((outsAt0 m c t.val t.isLt).1 (ix2 i j) : EReal)
      = tile (iblk m c 0 t') (iblk m c 1 t') i j + tile (iblk m c 0 t) (iblk m c 1 t) i j := by
  rw [outsAt0_B m c t (by omega) ht ht]
  dsimp only
  rw [out_B, pay2_apply]
  congr 1
  obtain ⟨n, hn⟩ := t'
  obtain rfl : n = t.val - 1 := ht'
  rw [outsAt0_A m c ⟨t.val - 1, hn⟩ (by simp only; omega) (by simp only; omega) (by simp only; omega)]
  dsimp only
  rw [sout_A, pay1_apply]

theorem e0 : ∀ t : Fin cfg0.N, win0_0.index t = ![t.val % 2, t.val / 2, 0] :=
  (by decide +kernel : ∀ t : Fin grid0.N, win0_0.index t = ![t.val % 2, t.val / 2, 0])
theorem e1 : ∀ t : Fin cfg0.N, win0_1.index t = ![t.val % 2, 0, 0] :=
  (by decide +kernel : ∀ t : Fin grid0.N, win0_1.index t = ![t.val % 2, 0, 0])
theorem e2 : ∀ t : Fin cfg0.N, win0_2.index t = ![t.val / 2, 0] :=
  (by decide +kernel : ∀ t : Fin grid0.N, win0_2.index t = ![t.val / 2, 0])

/-- The product of slice `j` of two stacked arrays at an index. -/
def dot2 (A0 : S2x8192x1024.Idx → EReal) (A1 : S2x1024x1024.Idx → EReal) (j : Fin 2) (p : Fin 8192) (q : Fin 1024) : EReal :=
  ∑ k : Fin 1024, A0 (ix3 j p k) * A1 (ix3 j q k)

/-- The result as one function of the arrays the region finds. -/
def G2 (A0 : S2x8192x1024.Idx → EReal) (A1 : S2x1024x1024.Idx → EReal) (y : S8192x1024.Idx) : EReal :=
  dot2 A0 A1 0 (y 0) (y 1) + dot2 A0 A1 1 (y 0) (y 1)

theorem emb_0 (t t' : Fin cfg0.N) (j : Fin 2) (hm : t'.val % 2 = j.val) (hd : t'.val / 2 = t.val / 2)
    (k : Fin 1024) (y : S1024x1024.Idx) : (win0_0.blk t').view.emb (ix3 0 (y 0) k)
      = ix3 j ((win0_2.blk t).view.emb y 0) k := by blk_ext [e0, e2, hm, hd]

theorem emb_1 (t t' : Fin cfg0.N) (j : Fin 2) (hm : t'.val % 2 = j.val) (hd : t'.val / 2 = t.val / 2)
    (k : Fin 1024) (y : S1024x1024.Idx) : (win0_1.blk t').view.emb (ix3 0 (y 1) k)
      = ix3 j ((win0_2.blk t).view.emb y 1) k := by blk_ext [e1, e2, hm, hd]

theorem tile_blk (c : Dev nD) (t t' : Fin cfg0.N) (j : Fin 2) (hm : t'.val % 2 = j.val) (hd : t'.val / 2 = t.val / 2)
    (y : S1024x1024.Idx) : tile (iblk m c 0 t') (iblk m c 1 t') (y 0) (y 1)
      = dot2 (V m c main_v3) (V m c main_v7) j ((win0_2.blk t).view.emb y 0) ((win0_2.blk t).view.emb y 1) := by
  unfold tile dot2
  refine Finset.sum_congr rfl fun k _ => ?_
  blk_simp [iblk]
  rw [emb_0 t t' j hm hd k y, emb_1 t t' j hm hd k y]
  rfl

theorem arr2 (c : Dev nD) : (dats m 0 c).arrAt 2 cfg0.N = G2 (V m c main_v3) (V m c main_v7) := by
  refine (dats m 0 c).arrAt_eq_of_covers 2 _ (by decide +kernel) fun t hf y => ?_
  have ht : t.val % 2 = 1 := (flush0_2 t).mp hf
  have hN : t.val < 16 := lt_of_lt_of_eq t.isLt (show cfg0.N = 16 from N_0)
  have hlt : t.val - 1 < cfg0.N := by have : cfg0.N = 16 := N_0; omega
  blk_simp
  rw [after0_2]
  have hy : y = ix2 (y 0) (y 1) := by funext a; fin_cases a <;> rfl
  refine (congrArg _ hy).trans ((last m c (y 0) (y 1) t ⟨t.val - 1, hlt⟩ ht rfl).trans ?_)
  unfold G2
  rw [tile_blk m c t ⟨t.val - 1, hlt⟩ 0 (by simp only [Fin.val_zero]; omega) (by simp only; omega) y,
    tile_blk m c t t 1 (by simp only [Fin.val_one]; omega) rfl y]

/-! ## The claim -/

theorem V0 (c : Dev nD) : @Eq (FVec Ideal S2x8192x1024 .bf16) (V m c main_v3)
    (truncf .bf16 (φ := .f32) (concatenate S2x8192x1024 0
      [⟨S1x8192x1024, broadcastInDim S1x8192x1024 ![1, 2] bcast_S8192x1024_S1x8192x1024_1_2 (m ((c : Thread nD τ).loc main_arg3))⟩,
       ⟨S1x8192x1024, broadcastInDim S1x8192x1024 ![1, 2] bcast_S8192x1024_S1x8192x1024_1_2 (m ((c : Thread nD τ).loc main_arg4))⟩]
      concatenates_S1x8192x1024_S1x8192x1024_S2x8192x1024_d0) bitsLt_bf16_f32) := by
  entry_read
  rfl
theorem V1 (c : Dev nD) : @Eq (FVec Ideal S2x1024x1024 .bf16) (V m c main_v7)
    (truncf .bf16 (φ := .f32) (concatenate S2x1024x1024 0
      [⟨S1x1024x1024, broadcastInDim S1x1024x1024 ![1, 2] bcast_S1024x1024_S1x1024x1024_1_2 (m ((c : Thread nD τ).loc main_arg1))⟩,
       ⟨S1x1024x1024, broadcastInDim S1x1024x1024 ![1, 2] bcast_S1024x1024_S1x1024x1024_1_2 (m ((c : Thread nD τ).loc main_arg2))⟩]
      concatenates_S1x1024x1024_S1x1024x1024_S2x1024x1024_d0) bitsLt_bf16_f32) := by
  entry_read
  rfl

/-- The reference's products are the kernel's result over the stacked arrays. -/
theorem tie (d0 d1 : FVec Ideal S8192x1024 .f32) (w0 w1 : FVec Ideal S1024x1024 .f32) :
    addf (Host.dotGeneral Cert.Reference16Ideal.dot_S8192x1024_S1024x1024_S8192x1024_1_1_0_0_n_n none d1 w1)
      (Host.dotGeneral Cert.Reference16Ideal.dot_S8192x1024_S1024x1024_S8192x1024_1_1_0_0_n_n none d0 w0)
    = G2 (truncf .bf16 (φ := .f32) (concatenate S2x8192x1024 0
      [⟨S1x8192x1024, broadcastInDim S1x8192x1024 ![1, 2] bcast_S8192x1024_S1x8192x1024_1_2 d0⟩,
       ⟨S1x8192x1024, broadcastInDim S1x8192x1024 ![1, 2] bcast_S8192x1024_S1x8192x1024_1_2 d1⟩]
      concatenates_S1x8192x1024_S1x8192x1024_S2x8192x1024_d0) bitsLt_bf16_f32)
      (truncf .bf16 (φ := .f32) (concatenate S2x1024x1024 0
      [⟨S1x1024x1024, broadcastInDim S1x1024x1024 ![1, 2] bcast_S1024x1024_S1x1024x1024_1_2 w0⟩,
       ⟨S1x1024x1024, broadcastInDim S1x1024x1024 ![1, 2] bcast_S1024x1024_S1x1024x1024_1_2 w1⟩]
      concatenates_S1x1024x1024_S1x1024x1024_S2x1024x1024_d0) bitsLt_bf16_f32) := by
  funext y; idx_vars y
  pointwise [G2, dot2]
  exact add_comm _ _

/-- The claim of values: both programs end with the gradient of the input. -/
theorem algebraic : Cert.algebraic_Kernel16Ideal_Reference16Ideal := by
  intro m g m' g' hpre hagree
  refine ⟨fun c => G2 (V m c main_v3) (V m c main_v7), ?_, ?_⟩
  · exact (θ_run _ _ _).mono (fun r h c => ⟨(h c).1.trans (arr2 m c), (h c).2⟩)
      (Cert.Kernel16Ideal.Value.run_blocks m g)
  · refine (θ_run _ _ _).mono ?_ (Cert.Reference16Ideal.Value.run m' g')
    intro r h c
    refine ⟨(h c).1.trans ?_, (h c).2⟩
    clear h
    obtain ⟨h0, h1, h2, h3, h4⟩ := hagree c
    rw [h1, h2, h3, h4]
    beta_reduce
    rw [V0, V1]
    exact tie _ _ _ _

end Cert.ConvDh

end
-- ==== Proof.GateLaw.lean ====
/-
  The scalar law of the gate: the derivative of `a · sg a` as the kernel writes it and as the reference does.
-/
module

public import proofs.«01_k».proof.Proof.Common

@[expose] public section

noncomputable section

namespace Cert.Gate

open Cert.Common Idealize.ShloMosaic

/-- The logistic function as the kernel writes it. -/
def sg (a : EReal) : EReal := Ideal.div 1 (1 + Ideal.exp (-a))

/-- The gradient with respect to the gate product: `D` is the gradient of the gated product. -/
def gA (D a b : EReal) : EReal := D * b * (sg a * (1 + a * (1 - sg a)))

/-- The gradient with respect to the up product. -/
def gB (D a : EReal) : EReal := D * (a * sg a)

/-- The gated product itself. -/
def gU (a b : EReal) : EReal := a * sg a * b

/-! ## The law of the gate's gradient -/

theorem sg_top : sg ⊤ = 1 := by
  have h : Ideal.exp (-⊤) = 0 := rfl
  unfold sg
  rw [h]; simp [Ideal.div]
theorem sg_bot : sg ⊥ = 0 := by
  have h : Ideal.exp (-⊥) = ⊤ := rfl
  unfold sg
  rw [h]
  have h1 : (1 : EReal) + ⊤ = ⊤ := rfl
  rw [h1]; simp [Ideal.div]
theorem sg_coe (r : ℝ) : sg r = ((1 / (1 + Real.exp (-r)) : ℝ) : EReal) := by
  have h : (1 + Real.exp (-r)) ≠ 0 := by positivity
  have h1 : (1 : EReal) + ((Real.exp (-r) : ℝ) : EReal) = ((1 + Real.exp (-r) : ℝ) : EReal) := by
    rw [EReal.coe_add, EReal.coe_one]
  have h2 : ((1 + Real.exp (-r) : ℝ) : EReal) ≠ 0 := by exact_mod_cast h
  unfold sg
  rw [← EReal.coe_neg]
  show Ideal.div 1 (1 + ((Real.exp (-r) : ℝ) : EReal)) = _
  rw [h1]
  unfold Ideal.div
  rw [if_neg h2, ← EReal.coe_inv, one_mul, one_div]

/-- The product rule of `a · sg a`, in the two forms the kernel and the reference write it, where the gradient that
    comes in is a real number: `a` itself may be infinite. -/
theorem gate_law (a D b : EReal) (hD : IsReal D) (hb : IsReal b) :
    gA D a b = D * b * sg a + a * (D * b) * (sg a * (1 - sg a)) := by
  obtain ⟨d, rfl⟩ := hD
  obtain ⟨e, rfl⟩ := hb
  unfold gA
  induction a using EReal.rec with
  | bot => rw [sg_bot]; simp
  | top =>
    have h : (1 : EReal) - 1 = 0 := by rw [← EReal.coe_one, ← EReal.coe_sub, sub_self, EReal.coe_zero]
    rw [sg_top, h]; simp
  | coe r =>
    rw [sg_coe]
    generalize (1 / (1 + Real.exp (-r)) : ℝ) = s
    rw [← EReal.coe_one]
    simp only [← EReal.coe_mul, ← EReal.coe_sub, ← EReal.coe_add]
    congr 1; ring

end Cert.Gate

end
-- ==== Proof.ConvDw.lean ====
/-
  The gradient of the depthwise convolution, one block of 256 rows at a time: each tap of the kernel meets the rows shifted by
  its distance, the rows past the block's end being the next block's first ones. The kernel's own gradient is added up over the
  points, a row for each tap.
-/
module

public import proofs.«01_k».proof.Defs
public import proofs.«01_k».proof.Proof.Tiles
public import proofs.«01_k».proof.Proof.GateLaw
public import proofs.«01_k».proof.Proof.Gen.Kernel8Ideal.Value
public import Idealize.ShloMosaic.Lib.Claim
import Idealize.ShloMosaic.Lib.WritesUnit

@[expose] public section

set_option maxRecDepth 16384

noncomputable section

namespace Cert.ConvDw

open Cert.Common Cert.Gate Cert.Kernel8Ideal Cert.Kernel8Ideal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-! ## Taps -/

/-- Row `r` of a block that is continued below by the next block's first rows, zero past the last block. -/
def dn (x0 : S1x256x1024.Idx → EReal) (x1 : S1x32x1024.Idx → EReal) (i r : ℕ) (q : Fin 1024) : EReal :=
  if h : r < 256 then x0 (ix3 0 ⟨r, h⟩ q) else if h' : i < 15 ∧ r - 256 < 32 then x1 (ix3 0 ⟨r - 256, h'.2⟩ q) else 0

/-- Row `r - 32` of a block that is continued above by the last rows of the block before, zero before the first one. -/
def upw (x3 : S1x32x1024.Idx → EReal) (x2 : S1x256x1024.Idx → EReal) (i r : ℕ) (q : Fin 1024) : EReal :=
  if h : r < 32 then (if 0 < i then x3 (ix3 0 ⟨r, h⟩ q) else 0) else if h' : r - 32 < 256 then x2 (ix3 0 ⟨r - 32, h'⟩ q) else 0

theorem slt_15 : ∀ n : Fin 16, Scalar.cmpi .slt (BitVec.ofNat 32 n.val) 15#32 = if n.val < 15 then 1#1 else 0#1 := by decide
theorem sgt_0 : ∀ n : Fin 16, Scalar.cmpi .sgt (BitVec.ofNat 32 n.val) 0#32 = if 0 < n.val then 1#1 else 0#1 := by decide

theorem pay2_apply (x0 : Vec Ideal S1x256x1024 .f32) (p : Fin 256) (q : Fin 1024) :
    (k0_pay2 x0 (ix2 p q) : EReal) = x0 (ix3 0 p q) := by
  pointwise [k0_pay2]

theorem pay3_apply (i : grid0.Coords) (x0 : Vec Ideal S1x256x1024 .f32) (x1 : Vec Ideal S1x32x1024 .f32) (r : Fin 288) (q : Fin 1024) :
    (k0_pay3 i x0 x1 (ix2 r q) : EReal) = dn x0 x1 (i 1).val r.val q := by
  have hs := slt_15 (i 1)
  unfold k0_pay3
  dsimp only
  rw [hs]
  by_cases h : r.val < 256
  · pointwise [pay2_apply, dn, h]
  · by_cases hi : (i 1).val < 15
    · pointwise [pay2_apply, dn, h, hi]
      rw [dif_pos (show r.val - 256 < 32 by omega)]
    · pointwise [pay2_apply, dn, h, hi]
      rw [dif_neg (fun hh => hh.1)]

theorem pay4_apply (i : grid0.Coords) (x3 : Vec Ideal S1x32x1024 .f32) (x2 : Vec Ideal S1x256x1024 .f32) (r : Fin 288) (q : Fin 1024) :
    (k0_pay4 i x3 x2 (ix2 r q) : EReal) = upw x3 x2 (i 1).val r.val q := by
  have hs := sgt_0 (i 1)
  unfold k0_pay4
  dsimp only
  rw [hs]
  by_cases h : r.val < 32
  · by_cases hi : 0 < (i 1).val
    · pointwise [upw, h, hi]
    · pointwise [upw, h, hi]
  · pointwise [upw, h]
    rw [dif_pos (show r.val - 32 < 256 by omega)]

/-- One tap of the row that is added up, … -/
def tapW (sh : BitVec 32) (v1 : FVec Ideal S256x1024 .f32) (v15 : FVec Ideal S288x1024 .f32) (w : FVec Ideal S1x1024 .f32) :
    FVec Ideal S1x1024 .f32 :=
  addf (shapeCast S1x1024 w shapeCasts_S1x1024_S1x1024) (shapeCast S1x1024 (multiReduction .add [0] S1024
    (mulf v1 (extractStridedSlice S256x1024 ![32, 0] (dynamicRotate 0 sh none v15 rotates_S288x1024_d0) slices_S288x1024_o32_0_S256x1024))
    0x00000000#32 reduces_S256x1024_S1024 (.inl rfl) rfl) shapeCasts_S1024_S1x1024)

/-- … the last one, which is not shifted, … -/
def tapW0 (v1 : FVec Ideal S256x1024 .f32) (v15 : FVec Ideal S288x1024 .f32) (w : FVec Ideal S1x1024 .f32) :
    FVec Ideal S1x1024 .f32 :=
  addf (shapeCast S1x1024 w shapeCasts_S1x1024_S1x1024) (shapeCast S1x1024 (multiReduction .add [0] S1024
    (mulf v1 (extractStridedSlice S256x1024 ![32, 0] v15 slices_S288x1024_o32_0_S256x1024))
    0x00000000#32 reduces_S256x1024_S1024 (.inl rfl) rfl) shapeCasts_S1024_S1x1024)

/-- … one tap of the rows' gradient, … -/
def tapD (sh : BitVec 32) (v7 : FVec Ideal S288x1024 .f32) (acc : FVec Ideal S256x1024 .f32) (w : FVec Ideal S1x1024 .f32) :
    FVec Ideal S256x1024 .f32 :=
  addf acc (mulf (broadcastTo S256x1024 (shapeCast S1x1024 w shapeCasts_S1x1024_S1x1024) broadcasts_S1x1024_S256x1024)
    (extractStridedSlice S256x1024 ![0, 0] (dynamicRotate 0 sh none v7 rotates_S288x1024_d0) slices_S288x1024_o0_0_S256x1024))

/-- … and the last one. -/
def tapD0 (v7 : FVec Ideal S288x1024 .f32) (acc : FVec Ideal S256x1024 .f32) (w : FVec Ideal S1x1024 .f32) :
    FVec Ideal S256x1024 .f32 :=
  addf acc (mulf (broadcastTo S256x1024 (shapeCast S1x1024 w shapeCasts_S1x1024_S1x1024) broadcasts_S1x1024_S256x1024)
    (extractStridedSlice S256x1024 ![0, 0] v7 slices_S288x1024_o0_0_S256x1024))

section
variable (i : grid0.Coords) (x0 : Vec Ideal S1x256x1024 .f32) (x1 : Vec Ideal S1x32x1024 .f32) (x2 : Vec Ideal S1x256x1024 .f32)
  (x3 : Vec Ideal S1x32x1024 .f32) (w : FVec Ideal S1x1024 .f32)

theorem tapW_apply (j : ℕ) (hj : j < 30) (sh : BitVec 32) (hs : sh.toNat = 30 - j) (o : Fin 1) (q : Fin 1024) :
    (tapW sh (k0_pay2 x0) (k0_pay4 i x3 x2) w (ix2 o q) : EReal)
      = w (ix2 o q) + ∑ p : Fin 256, x0 (ix3 0 p q) * upw x3 x2 (i 1).val (p.val + 2 + j) q := by
  obtain rfl := Subsingleton.elim o 0
  unfold tapW
  pointwise [pay2_apply, hs]
  refine congrArg _ (Finset.sum_congr rfl fun p _ => congrArg _ ?_)
  rw [pay4_apply]
  congr 1
  dsimp only
  omega

theorem tapW0_apply (o : Fin 1) (q : Fin 1024) :
    (tapW0 (k0_pay2 x0) (k0_pay4 i x3 x2) w (ix2 o q) : EReal)
      = w (ix2 o q) + ∑ p : Fin 256, x0 (ix3 0 p q) * upw x3 x2 (i 1).val (p.val + 2 + 30) q := by
  obtain rfl := Subsingleton.elim o 0
  unfold tapW0
  pointwise [pay2_apply]
  refine congrArg _ (Finset.sum_congr rfl fun p _ => congrArg _ ?_)
  rw [pay4_apply]
  congr 1
  dsimp only
  omega

theorem tapD_apply (acc : FVec Ideal S256x1024 .f32) (j : ℕ) (hj : j < 30) (sh : BitVec 32) (hs : sh.toNat = 258 + j) (p : Fin 256) (q : Fin 1024) :
    (tapD sh (k0_pay3 i x0 x1) acc w (ix2 p q) : EReal)
      = acc (ix2 p q) + w (ix2 0 q) * dn x0 x1 (i 1).val (p.val + (30 - j)) q := by
  unfold tapD
  pointwise [hs]
  refine congrArg _ (congrArg _ ?_)
  rw [pay3_apply]
  congr 1
  dsimp only
  omega

theorem tapD0_apply (acc : FVec Ideal S256x1024 .f32) (p : Fin 256) (q : Fin 1024) :
    (tapD0 (k0_pay3 i x0 x1) acc w (ix2 p q) : EReal)
      = acc (ix2 p q) + w (ix2 0 q) * dn x0 x1 (i 1).val (p.val + (30 - 30)) q := by
  unfold tapD0
  pointwise []
  refine congrArg _ (congrArg _ ?_)
  rw [pay3_apply]
end

/-! ## The rows of the kernel's own gradient -/

/-- What a block of rows adds to the gradient of tap `r`. -/
def tile (i : ℕ) (x0 : S1x256x1024.Idx → EReal) (x3 : S1x32x1024.Idx → EReal) (x2 : S1x256x1024.Idx → EReal) (r : ℕ) (q : Fin 1024) : EReal :=
  ∑ p : Fin 256, x0 (ix3 0 p q) * upw x3 x2 i (p.val + 2 + r) q

/-- The stores so far have added the block's share to the first `n` rows of what the buffer held. -/
def Rows (i : ℕ) (x0 : S1x256x1024.Idx → EReal) (x3 : S1x32x1024.Idx → EReal) (x2 : S1x256x1024.Idx → EReal) (xo : S32x1024.Idx → EReal)
    (g : S32x1024.Idx → EReal) (n : ℕ) : Prop :=
  ∀ y : S32x1024.Idx, g y = xo y + if (y 0).val < n then tile i x0 x3 x2 (y 0).val (y 1) else 0

theorem rows_step {sp : Space} (v : View sig .tc sp S32x1024 .f32) (f : v.ty.Contents (Elt Ideal)) (L : List (View.Piece (Elt Ideal) S32x1024 .f32))
    (i : ℕ) (x0 : S1x256x1024.Idx → EReal) (x3 : S1x32x1024.Idx → EReal) (x2 : S1x256x1024.Idx → EReal) (xo : S32x1024.Idx → EReal)
    (r : ℕ) (hr : r < 31) (inb : ∀ a, (![r, 0] : Fin 2 → ℕ) a + (![1, 1024] : Fin 2 → ℕ) a ≤ S32x1024.size a)
    (w : (Rect.unit (s := S32x1024) ![r, 0] ![1, 1024] inb).shape.Idx → EReal)
    (hL : Rows i x0 x3 x2 xo (v.read (Elt Ideal) (v.writes (Elt Ideal) f L)) r)
    (hw : ∀ q : Fin 1024, w (ix2 (0 : Fin 1) q) = xo (ix2 ⟨r, by omega⟩ q) + tile i x0 x3 x2 r q) :
    Rows i x0 x3 x2 xo (v.read (Elt Ideal) (v.writes (Elt Ideal) f (⟨Rect.unit (s := S32x1024) ![r, 0] ![1, 1024] inb, w⟩ :: L))) (r + 1) := by
  intro y
  by_cases hy : (y 0).val = r
  · rw [View.read_writes_cons_unit_of_mem v f inb w L y (ix2 (0 : Fin 1) (y 1)) rfl
      (fun a => by fin_cases a <;> simp [ix2, hy])]
    refine (hw (y 1)).trans ?_
    rw [if_pos (by omega)]
    have e : y = ix2 ⟨r, by omega⟩ (y 1) := by
      funext a; fin_cases a
      · exact Fin.ext hy
      · rfl
    rw [hy]
    exact congrArg (fun z => xo z + tile i x0 x3 x2 r (y 1)) e.symm
  · rw [View.read_writes_cons_unit_of_not_mem v f inb w L y rfl (0 : Fin 2) (by
      show (y 0).val < r ∨ r + 1 ≤ (y 0).val
      omega)]
    rw [hL y]
    by_cases h : (y 0).val < r
    · rw [if_pos h, if_pos (by omega)]
    · rw [if_neg h, if_neg (by omega)]

theorem ld_row (X : Vec Ideal S32x1024 .f32) (r : ℕ) (hr : r < 32) (inb : ∀ a, (![r, 0] : Fin 2 → ℕ) a + (![1, 1024] : Fin 2 → ℕ) a ≤ S32x1024.size a)
    (q : Fin 1024) :
    View.ld X (Rect.unit (s := S32x1024) ![r, 0] ![1, 1024] inb) (ix2 (0 : Fin 1) q) = X (ix2 ⟨r, hr⟩ q) := by
  show X _ = X _
  congr 1
  funext a; fin_cases a
  · exact Fin.ext (by show r + 1 * 0 = r; omega)
  · exact Fin.ext (by show 0 + 1 * q.val = q.val; omega)

/-- A row loaded after stores to the rows before it is the row the buffer held. -/
theorem cov_row {sp : Space} (v : View sig .tc sp S32x1024 .f32) (L : List (View.Piece (Elt Ideal) S32x1024 .f32))
    (i : ℕ) (x0 : S1x256x1024.Idx → EReal) (x3 : S1x32x1024.Idx → EReal) (x2 : S1x256x1024.Idx → EReal) (xo : S32x1024.Idx → EReal)
    (r : ℕ) (hr : r < 31) (inb : ∀ a, (![r, 0] : Fin 2 → ℕ) a + (![1, 1024] : Fin 2 → ℕ) a ≤ S32x1024.size a)
    (hL : Rows i x0 x3 x2 xo (v.read (Elt Ideal) (v.writes (Elt Ideal) v.junk L)) r) (q : Fin 1024) :
    v.readCov L (Rect.unit (s := S32x1024) ![r, 0] ![1, 1024] inb).toLoadRect (ix2 (0 : Fin 1) q) = xo (ix2 ⟨r, by omega⟩ q) := by
  have h := ld_row (v.read (Elt Ideal) (v.writes (Elt Ideal) v.junk L)) r (by omega) inb q
  rw [hL, if_neg (by show ¬ r < r; omega), add_zero] at h
  exact h

/-- The same whatever view and buffer the stores go to: those before them cover it. -/
def RowsA (i : ℕ) (x0 : S1x256x1024.Idx → EReal) (x3 : S1x32x1024.Idx → EReal) (x2 : S1x256x1024.Idx → EReal) (xo : S32x1024.Idx → EReal)
    (L : List (View.Piece (Elt Ideal) S32x1024 .f32)) (n : ℕ) : Prop :=
  ∀ {sp : Space} (v : View sig .tc sp S32x1024 .f32) (f : v.ty.Contents (Elt Ideal)),
    Rows i x0 x3 x2 xo (v.read (Elt Ideal) (v.writes (Elt Ideal) f L)) n

theorem rows_step_cov {sp : Space} (u : View sig .tc sp S32x1024 .f32) (L : List (View.Piece (Elt Ideal) S32x1024 .f32))
    (i : ℕ) (x0 : S1x256x1024.Idx → EReal) (x3 : S1x32x1024.Idx → EReal) (x2 : S1x256x1024.Idx → EReal) (xo : S32x1024.Idx → EReal)
    (r : ℕ) (hr : r < 31) (inb : ∀ a, (![r, 0] : Fin 2 → ℕ) a + (![1, 1024] : Fin 2 → ℕ) a ≤ S32x1024.size a)
    (w : (Rect.unit (s := S32x1024) ![r, 0] ![1, 1024] inb).shape.Idx → EReal)
    (hw : ∀ q : Fin 1024, w (ix2 (0 : Fin 1) q)
      = u.readCov L (Rect.unit (s := S32x1024) ![r, 0] ![1, 1024] inb).toLoadRect (ix2 (0 : Fin 1) q) + tile i x0 x3 x2 r q)
    (hL : RowsA i x0 x3 x2 xo L r) :
    RowsA i x0 x3 x2 xo (⟨Rect.unit (s := S32x1024) ![r, 0] ![1, 1024] inb, w⟩ :: L) (r + 1) :=
  fun v f => rows_step v f L i x0 x3 x2 xo r hr inb w (hL v f) fun q =>
    (hw q).trans (congrArg (fun z => z + tile i x0 x3 x2 r q) (cov_row u L i x0 x3 x2 xo r hr inb (hL u u.junk) q))

theorem rows_zero (i : ℕ) (x0 : S1x256x1024.Idx → EReal) (x3 : S1x32x1024.Idx → EReal) (x2 : S1x256x1024.Idx → EReal)
    (inb : ∀ a, (![0, 0] : Fin 2 → ℕ) a + (![32, 1024] : Fin 2 → ℕ) a ≤ S32x1024.size a) :
    RowsA i x0 x3 x2 (fun _ => 0) [⟨Rect.unit (s := S32x1024) ![0, 0] ![32, 1024] inb, (k0_pay5 : FVec Ideal S32x1024 .f32)⟩] 0 := by
  intro sp v f y
  rw [View.read_writes_cons_unit_of_mem v f inb _ [] y y rfl (fun a => by fin_cases a <;> simp)]
  rw [if_neg (by omega), add_zero]
  unfold k0_pay5
  pointwise []

/-! ## The rows' gradient -/

/-- Tap `j` of the kernel, … -/
def wt (x5 : S32x1024.Idx → EReal) (j : ℕ) (q : Fin 1024) : EReal := if h : j < 32 then x5 (ix2 ⟨j, h⟩ q) else 0

/-- … and the first `n` taps added up. -/
def Taps (i : ℕ) (x0 : S1x256x1024.Idx → EReal) (x1 : S1x32x1024.Idx → EReal) (x5 : S32x1024.Idx → EReal) (n : ℕ)
    (acc : S256x1024.Idx → EReal) : Prop :=
  ∀ p q, acc (ix2 p q) = ∑ j ∈ Finset.range n, wt x5 j q * dn x0 x1 i (p.val + (30 - j)) q

theorem taps_step (i : grid0.Coords) (x0 : Vec Ideal S1x256x1024 .f32) (x1 : Vec Ideal S1x32x1024 .f32) (x5 : Vec Ideal S32x1024 .f32)
    (j : ℕ) (hj : j < 31) (inb : ∀ a, (![j, 0] : Fin 2 → ℕ) a + (![1, 1024] : Fin 2 → ℕ) a ≤ S32x1024.size a) (acc new : FVec Ideal S256x1024 .f32)
    (hn : ∀ p q, (new (ix2 p q) : EReal) = acc (ix2 p q) + View.ld x5 (Rect.unit (s := S32x1024) ![j, 0] ![1, 1024] inb)
      (ix2 (0 : Fin 1) q) * dn x0 x1 (i 1).val (p.val + (30 - j)) q)
    (ha : Taps (i 1).val x0 x1 x5 j acc) : Taps (i 1).val x0 x1 x5 (j + 1) new := by
  intro p q
  rw [Finset.sum_range_succ, ← ha p q, hn, ld_row x5 j (by omega) inb]
  unfold wt
  rw [dif_pos (show j < 32 by omega)]

section
variable (i : grid0.Coords) (x0 : Vec Ideal S1x256x1024 .f32) (x1 : Vec Ideal S1x32x1024 .f32) (x2 : Vec Ideal S1x256x1024 .f32)
  (x3 : Vec Ideal S1x32x1024 .f32) (x4 : Vec Ideal S2x256x1024 .bf16) (x5 : Vec Ideal S32x1024 .f32)

/-- The rows' gradient as the kernel adds it up. -/
def duK : FVec Ideal S256x1024 .f32 :=
  (k0_pay60 (k0_pay3 i x0 x1)
    (k0_pay54 (k0_pay3 i x0 x1)
    (k0_pay51 (k0_pay3 i x0 x1)
    (k0_pay46 (k0_pay3 i x0 x1)
    (k0_pay41 (k0_pay3 i x0 x1)
    (k0_pay38 (k0_pay3 i x0 x1)
    (k0_pay33 (k0_pay3 i x0 x1)
    (k0_pay30 (k0_pay3 i x0 x1)
    (k0_pay26 (k0_pay3 i x0 x1)
    (k0_pay21 (k0_pay3 i x0 x1)
    (k0_pay18 (k0_pay3 i x0 x1)
    (k0_pay13 (k0_pay3 i x0 x1)
    (k0_pay10 (k0_pay3 i x0 x1)
    (k0_pay6 i x0 x1 (View.ld x5 (Rect.unit (s := S32x1024) ![0, 0] ![1, 1024] inb_S32x1024_S1x1024_0_0))) (View.ld x5 (Rect.unit (s := S32x1024) ![1, 0] ![1, 1024] inb_S32x1024_S1x1024_1_0)) (View.ld x5 (Rect.unit (s := S32x1024) ![2, 0] ![1, 1024] inb_S32x1024_S1x1024_2_0))) (View.ld x5 (Rect.unit (s := S32x1024) ![3, 0] ![1, 1024] inb_S32x1024_S1x1024_3_0)) (View.ld x5 (Rect.unit (s := S32x1024) ![4, 0] ![1, 1024] inb_S32x1024_S1x1024_4_0))) (k0_pay15 (View.ld x5 (Rect.unit (s := S32x1024) ![5, 0] ![1, 1024] inb_S32x1024_S1x1024_5_0))) 263#32 (View.ld x5 (Rect.unit (s := S32x1024) ![6, 0] ![1, 1024] inb_S32x1024_S1x1024_6_0)) (View.ld x5 (Rect.unit (s := S32x1024) ![7, 0] ![1, 1024] inb_S32x1024_S1x1024_7_0))) (View.ld x5 (Rect.unit (s := S32x1024) ![8, 0] ![1, 1024] inb_S32x1024_S1x1024_8_0)) (View.ld x5 (Rect.unit (s := S32x1024) ![9, 0] ![1, 1024] inb_S32x1024_S1x1024_9_0))) (View.ld x5 (Rect.unit (s := S32x1024) ![10, 0] ![1, 1024] inb_S32x1024_S1x1024_10_0)) (View.ld x5 (Rect.unit (s := S32x1024) ![11, 0] ![1, 1024] inb_S32x1024_S1x1024_11_0))) (View.ld x5 (Rect.unit (s := S32x1024) ![12, 0] ![1, 1024] inb_S32x1024_S1x1024_12_0)) (View.ld x5 (Rect.unit (s := S32x1024) ![13, 0] ![1, 1024] inb_S32x1024_S1x1024_13_0)) (View.ld x5 (Rect.unit (s := S32x1024) ![14, 0] ![1, 1024] inb_S32x1024_S1x1024_14_0))) (View.ld x5 (Rect.unit (s := S32x1024) ![15, 0] ![1, 1024] inb_S32x1024_S1x1024_15_0)) (View.ld x5 (Rect.unit (s := S32x1024) ![16, 0] ![1, 1024] inb_S32x1024_S1x1024_16_0))) (View.ld x5 (Rect.unit (s := S32x1024) ![17, 0] ![1, 1024] inb_S32x1024_S1x1024_17_0)) (View.ld x5 (Rect.unit (s := S32x1024) ![18, 0] ![1, 1024] inb_S32x1024_S1x1024_18_0))) (View.ld x5 (Rect.unit (s := S32x1024) ![19, 0] ![1, 1024] inb_S32x1024_S1x1024_19_0)) (View.ld x5 (Rect.unit (s := S32x1024) ![20, 0] ![1, 1024] inb_S32x1024_S1x1024_20_0))) (k0_pay43 (k0_pay3 i x0 x1) (View.ld x5 (Rect.unit (s := S32x1024) ![21, 0] ![1, 1024] inb_S32x1024_S1x1024_21_0))) (View.ld x5 (Rect.unit (s := S32x1024) ![22, 0] ![1, 1024] inb_S32x1024_S1x1024_22_0)) (View.ld x5 (Rect.unit (s := S32x1024) ![23, 0] ![1, 1024] inb_S32x1024_S1x1024_23_0))) (View.ld x5 (Rect.unit (s := S32x1024) ![24, 0] ![1, 1024] inb_S32x1024_S1x1024_24_0)) (View.ld x5 (Rect.unit (s := S32x1024) ![25, 0] ![1, 1024] inb_S32x1024_S1x1024_25_0))) (View.ld x5 (Rect.unit (s := S32x1024) ![26, 0] ![1, 1024] inb_S32x1024_S1x1024_26_0)) (View.ld x5 (Rect.unit (s := S32x1024) ![27, 0] ![1, 1024] inb_S32x1024_S1x1024_27_0))) (k0_pay56 (View.ld x5 (Rect.unit (s := S32x1024) ![28, 0] ![1, 1024] inb_S32x1024_S1x1024_28_0))) (k0_pay57 (k0_pay3 i x0 x1)) (View.ld x5 (Rect.unit (s := S32x1024) ![29, 0] ![1, 1024] inb_S32x1024_S1x1024_29_0)) (View.ld x5 (Rect.unit (s := S32x1024) ![30, 0] ![1, 1024] inb_S32x1024_S1x1024_30_0)))

theorem duK_taps : Taps (i 1).val x0 x1 x5 31 (duK i x0 x1 x5) := by
  unfold duK k0_pay60 k0_pay54 k0_pay51 k0_pay46 k0_pay43 k0_pay41 k0_pay38 k0_pay33 k0_pay30 k0_pay26 k0_pay21 k0_pay18 k0_pay13 k0_pay10 k0_pay6
    k0_pay15 k0_pay56 k0_pay57
  dsimp only
  refine taps_step i x0 x1 x5 30 (by decide) inb_S32x1024_S1x1024_30_0 _ _ (fun p q => tapD0_apply i x0 x1 _ _ p q) ?_
  refine taps_step i x0 x1 x5 29 (by decide) inb_S32x1024_S1x1024_29_0 _ _ (fun p q => tapD_apply i x0 x1 _ _ 29 (by decide) 287#32 rfl p q) ?_
  refine taps_step i x0 x1 x5 28 (by decide) inb_S32x1024_S1x1024_28_0 _ _ (fun p q => tapD_apply i x0 x1 _ _ 28 (by decide) 286#32 rfl p q) ?_
  refine taps_step i x0 x1 x5 27 (by decide) inb_S32x1024_S1x1024_27_0 _ _ (fun p q => tapD_apply i x0 x1 _ _ 27 (by decide) 285#32 rfl p q) ?_
  refine taps_step i x0 x1 x5 26 (by decide) inb_S32x1024_S1x1024_26_0 _ _ (fun p q => tapD_apply i x0 x1 _ _ 26 (by decide) 284#32 rfl p q) ?_
  refine taps_step i x0 x1 x5 25 (by decide) inb_S32x1024_S1x1024_25_0 _ _ (fun p q => tapD_apply i x0 x1 _ _ 25 (by decide) 283#32 rfl p q) ?_
  refine taps_step i x0 x1 x5 24 (by decide) inb_S32x1024_S1x1024_24_0 _ _ (fun p q => tapD_apply i x0 x1 _ _ 24 (by decide) 282#32 rfl p q) ?_
  refine taps_step i x0 x1 x5 23 (by decide) inb_S32x1024_S1x1024_23_0 _ _ (fun p q => tapD_apply i x0 x1 _ _ 23 (by decide) 281#32 rfl p q) ?_
  refine taps_step i x0 x1 x5 22 (by decide) inb_S32x1024_S1x1024_22_0 _ _ (fun p q => tapD_apply i x0 x1 _ _ 22 (by decide) 280#32 rfl p q) ?_
  refine taps_step i x0 x1 x5 21 (by decide) inb_S32x1024_S1x1024_21_0 _ _ (fun p q => tapD_apply i x0 x1 _ _ 21 (by decide) 279#32 rfl p q) ?_
  refine taps_step i x0 x1 x5 20 (by decide) inb_S32x1024_S1x1024_20_0 _ _ (fun p q => tapD_apply i x0 x1 _ _ 20 (by decide) 278#32 rfl p q) ?_
  refine taps_step i x0 x1 x5 19 (by decide) inb_S32x1024_S1x1024_19_0 _ _ (fun p q => tapD_apply i x0 x1 _ _ 19 (by decide) 277#32 rfl p q) ?_
  refine taps_step i x0 x1 x5 18 (by decide) inb_S32x1024_S1x1024_18_0 _ _ (fun p q => tapD_apply i x0 x1 _ _ 18 (by decide) 276#32 rfl p q) ?_
  refine taps_step i x0 x1 x5 17 (by decide) inb_S32x1024_S1x1024_17_0 _ _ (fun p q => tapD_apply i x0 x1 _ _ 17 (by decide) 275#32 rfl p q) ?_
  refine taps_step i x0 x1 x5 16 (by decide) inb_S32x1024_S1x1024_16_0 _ _ (fun p q => tapD_apply i x0 x1 _ _ 16 (by decide) 274#32 rfl p q) ?_
  refine taps_step i x0 x1 x5 15 (by decide) inb_S32x1024_S1x1024_15_0 _ _ (fun p q => tapD_apply i x0 x1 _ _ 15 (by decide) 273#32 rfl p q) ?_
  refine taps_step i x0 x1 x5 14 (by decide) inb_S32x1024_S1x1024_14_0 _ _ (fun p q => tapD_apply i x0 x1 _ _ 14 (by decide) 272#32 rfl p q) ?_
  refine taps_step i x0 x1 x5 13 (by decide) inb_S32x1024_S1x1024_13_0 _ _ (fun p q => tapD_apply i x0 x1 _ _ 13 (by decide) 271#32 rfl p q) ?_
  refine taps_step i x0 x1 x5 12 (by decide) inb_S32x1024_S1x1024_12_0 _ _ (fun p q => tapD_apply i x0 x1 _ _ 12 (by decide) 270#32 rfl p q) ?_
  refine taps_step i x0 x1 x5 11 (by decide) inb_S32x1024_S1x1024_11_0 _ _ (fun p q => tapD_apply i x0 x1 _ _ 11 (by decide) 269#32 rfl p q) ?_
  refine taps_step i x0 x1 x5 10 (by decide) inb_S32x1024_S1x1024_10_0 _ _ (fun p q => tapD_apply i x0 x1 _ _ 10 (by decide) 268#32 rfl p q) ?_
  refine taps_step i x0 x1 x5 9 (by decide) inb_S32x1024_S1x1024_9_0 _ _ (fun p q => tapD_apply i x0 x1 _ _ 9 (by decide) 267#32 rfl p q) ?_
  refine taps_step i x0 x1 x5 8 (by decide) inb_S32x1024_S1x1024_8_0 _ _ (fun p q => tapD_apply i x0 x1 _ _ 8 (by decide) 266#32 rfl p q) ?_
  refine taps_step i x0 x1 x5 7 (by decide) inb_S32x1024_S1x1024_7_0 _ _ (fun p q => tapD_apply i x0 x1 _ _ 7 (by decide) 265#32 rfl p q) ?_
  refine taps_step i x0 x1 x5 6 (by decide) inb_S32x1024_S1x1024_6_0 _ _ (fun p q => tapD_apply i x0 x1 _ _ 6 (by decide) 264#32 rfl p q) ?_
  refine taps_step i x0 x1 x5 5 (by decide) inb_S32x1024_S1x1024_5_0 _ _ (fun p q => tapD_apply i x0 x1 _ _ 5 (by decide) 263#32 rfl p q) ?_
  refine taps_step i x0 x1 x5 4 (by decide) inb_S32x1024_S1x1024_4_0 _ _ (fun p q => tapD_apply i x0 x1 _ _ 4 (by decide) 262#32 rfl p q) ?_
  refine taps_step i x0 x1 x5 3 (by decide) inb_S32x1024_S1x1024_3_0 _ _ (fun p q => tapD_apply i x0 x1 _ _ 3 (by decide) 261#32 rfl p q) ?_
  refine taps_step i x0 x1 x5 2 (by decide) inb_S32x1024_S1x1024_2_0 _ _ (fun p q => tapD_apply i x0 x1 _ _ 2 (by decide) 260#32 rfl p q) ?_
  refine taps_step i x0 x1 x5 1 (by decide) inb_S32x1024_S1x1024_1_0 _ _ (fun p q => tapD_apply i x0 x1 _ _ 1 (by decide) 259#32 rfl p q) ?_
  refine taps_step i x0 x1 x5 0 (by decide) inb_S32x1024_S1x1024_0_0 _ _ (fun p q => tapD_apply i x0 x1 _ _ 0 (by decide) 258#32 rfl p q) ?_
  intro p q
  rw [Finset.sum_range_zero]
  pointwise []

/-- The gradient of a row with respect to the gated product. -/
def du (p : Fin 256) (q : Fin 1024) : EReal := ∑ j ∈ Finset.range 31, wt x5 j q * dn x0 x1 (i 1).val (p.val + (30 - j)) q

theorem duK_apply (p : Fin 256) (q : Fin 1024) : (duK i x0 x1 x5 (ix2 p q) : EReal) = du i x0 x1 x5 p q := duK_taps i x0 x1 x5 p q

theorem pay64_apply (x : Vec Ideal S1x256x1024 .bf16) (p : Fin 256) (q : Fin 1024) :
    (k0_pay64 x (ix2 p q) : EReal) = sg (x (ix3 0 p q)) := by
  pointwise [k0_pay64, sg, zero_sub]

theorem pay65_apply (d : FVec Ideal S256x1024 .f32) (x : Vec Ideal S1x256x1024 .bf16) (o : Fin 1) (p : Fin 256) (q : Fin 1024) :
    (k0_pay65 d x (ix3 o p q) : EReal) = d (ix2 p q) * sg (x (ix3 0 p q)) := by
  unfold k0_pay65
  pointwise [pay64_apply]

theorem pay66_apply (d : FVec Ideal S256x1024 .f32) (a x : Vec Ideal S1x256x1024 .bf16) (o : Fin 1) (p : Fin 256) (q : Fin 1024) :
    (k0_pay1 (k0_pay66 d a x) (ix3 o p q) : EReal)
      = d (ix2 p q) * a (ix3 0 p q) * sg (x (ix3 0 p q)) * (1 - sg (x (ix3 0 p q))) := by
  unfold k0_pay1 k0_pay66
  pointwise [pay64_apply]

/-- The gradient of the two halves of a row. -/
def ab (y : S2x256x1024.Idx) : EReal :=
  if (y 0).val = 0 then du i x0 x1 x5 (y 1) (y 2) * sg (x4 (ix3 1 (y 1) (y 2)))
  else du i x0 x1 x5 (y 1) (y 2) * x4 (ix3 0 (y 1) (y 2)) * sg (x4 (ix3 1 (y 1) (y 2))) * (1 - sg (x4 (ix3 1 (y 1) (y 2))))

theorem half_emb (h : ℕ) (hh : h < 2) (inb : ∀ a, (![h, 0, 0] : Fin 3 → ℕ) a + (![1, 256, 1024] : Fin 3 → ℕ) a ≤ S2x256x1024.size a)
    (o : Fin 1) (p : Fin 256) (q : Fin 1024) :
    (Rect.unit (s := S2x256x1024) ![h, 0, 0] ![1, 256, 1024] inb).emb (ix3 o p q) = ix3 ⟨h, hh⟩ p q := by
  have ho := o.isLt
  funext a; fin_cases a <;> apply Fin.ext
  · show h + 1 * o.val = h; omega
  · show 0 + 1 * p.val = p.val; omega
  · show 0 + 1 * q.val = q.val; omega

theorem ab_piece0 (x : S1x256x1024.Idx) :
    (k0_pay65 (duK i x0 x1 x5) (View.ld x4 (Rect.unit (s := S2x256x1024) ![1, 0, 0] ![1, 256, 1024] inb_S2x256x1024_S1x256x1024_1_0_0)) x : EReal)
      = ab i x0 x1 x4 x5 ((Rect.unit (s := S2x256x1024) ![0, 0, 0] ![1, 256, 1024] inb_S2x256x1024_S1x256x1024_0_0_0).emb x) := by
  obtain ⟨o, p, q, rfl⟩ : ∃ (o : Fin 1) (p : Fin 256) (q : Fin 1024), x = ix3 o p q :=
    ⟨x 0, x 1, x 2, by funext a; fin_cases a <;> rfl⟩
  rw [half_emb 0 (by decide), pay65_apply, duK_apply]
  have e : View.ld x4 (Rect.unit (s := S2x256x1024) ![1, 0, 0] ![1, 256, 1024] inb_S2x256x1024_S1x256x1024_1_0_0)
      (ix3 (0 : Fin 1) p q) = x4 (ix3 1 p q) := congrArg x4 (half_emb 1 (by decide) _ 0 _ _)
  rw [e]
  rfl

theorem ab_piece1 (x : S1x256x1024.Idx) :
    (k0_pay1 (k0_pay66 (duK i x0 x1 x5) (View.ld x4 (Rect.unit (s := S2x256x1024) ![0, 0, 0] ![1, 256, 1024] inb_S2x256x1024_S1x256x1024_0_0_0))
        (View.ld x4 (Rect.unit (s := S2x256x1024) ![1, 0, 0] ![1, 256, 1024] inb_S2x256x1024_S1x256x1024_1_0_0))) x : EReal)
      = ab i x0 x1 x4 x5 ((Rect.unit (s := S2x256x1024) ![1, 0, 0] ![1, 256, 1024] inb_S2x256x1024_S1x256x1024_1_0_0).emb x) := by
  obtain ⟨o, p, q, rfl⟩ : ∃ (o : Fin 1) (p : Fin 256) (q : Fin 1024), x = ix3 o p q :=
    ⟨x 0, x 1, x 2, by funext a; fin_cases a <;> rfl⟩
  rw [half_emb 1 (by decide), pay66_apply, duK_apply]
  have e0 : View.ld x4 (Rect.unit (s := S2x256x1024) ![0, 0, 0] ![1, 256, 1024] inb_S2x256x1024_S1x256x1024_0_0_0)
      (ix3 (0 : Fin 1) p q) = x4 (ix3 0 p q) := congrArg x4 (half_emb 0 (by decide) _ 0 _ _)
  have e : View.ld x4 (Rect.unit (s := S2x256x1024) ![1, 0, 0] ![1, 256, 1024] inb_S2x256x1024_S1x256x1024_1_0_0)
      (ix3 (0 : Fin 1) p q) = x4 (ix3 1 p q) := congrArg x4 (half_emb 1 (by decide) _ 0 _ _)
  rw [e, e0]
  rfl

end

/-! ## What a grid point leaves -/

section
variable (c : Dev nD) (i : grid0.Coords) (a2 : Memref sig .tc .vmem S1x256x1024 .f32) (h2 : a2.IsWhole)
  (a3 : Memref sig .tc .vmem S1x32x1024 .f32) (h3 : a3.IsWhole) (a4 : Memref sig .tc .vmem S1x256x1024 .f32) (h4 : a4.IsWhole)
  (a5 : Memref sig .tc .vmem S1x32x1024 .f32) (h5 : a5.IsWhole) (a6 : Memref sig .tc .vmem S2x256x1024 .bf16) (h6 : a6.IsWhole)
  (a7 : Memref sig .tc .vmem S32x1024 .f32) (h7 : a7.IsWhole) (a8 : Memref sig .tc .vmem S2x256x1024 .bf16) (h8 : a8.IsWhole)
  (a9 : Memref sig .tc .vmem S32x1024 .f32) (h9 : a9.IsWhole)
  (x0 : Vec Ideal S1x256x1024 .f32) (x1 : Vec Ideal S1x32x1024 .f32) (x2 : Vec Ideal S1x256x1024 .f32)
  (x3 : Vec Ideal S1x32x1024 .f32) (x4 : Vec Ideal S2x256x1024 .bf16) (x5 : Vec Ideal S32x1024 .f32) (xo : Vec Ideal S32x1024 .f32)

theorem out_A_7 (hc0 : cond0_0 i) :
    Rows (i 1).val x0 x3 x2 (fun _ => 0) (out0_A_7 c i a2 h2 a3 h3 a4 h4 a5 h5 a6 h6 a7 h7 a8 h8 a9 h9 hc0 x0 x1 x2 x3 x4 x5) 31 := by
  unfold out0_A_7 kernelRun0_A
  dsimp only
  sl_unfold_words
  simp only [View.readAt_eq_ld, h2.read_unread, h3.read_unread, h4.read_unread, h5.read_unread,
    View.ld_unit_zero (S := S1x256x1024) hz3, View.ld_unit_zero (S := S1x32x1024) hz3]
  suffices h : RowsA (i 1).val x0 x3 x2 (fun _ => 0) _ 31 from h VO0_7 VO0_7.junk
  refine rows_step_cov a9.view _ (i 1).val x0 x3 x2 _ 30 (by decide) inb_S32x1024_S1x1024_30_0 _ (fun q => tapW0_apply i x0 x2 x3 _ 0 q) ?_
  refine rows_step_cov a9.view _ (i 1).val x0 x3 x2 _ 29 (by decide) inb_S32x1024_S1x1024_29_0 _ (fun q => tapW_apply i x0 x2 x3 _ 29 (by decide) 1#32 rfl 0 q) ?_
  refine rows_step_cov a9.view _ (i 1).val x0 x3 x2 _ 28 (by decide) inb_S32x1024_S1x1024_28_0 _ (fun q => tapW_apply i x0 x2 x3 _ 28 (by decide) 2#32 rfl 0 q) ?_
  refine rows_step_cov a9.view _ (i 1).val x0 x3 x2 _ 27 (by decide) inb_S32x1024_S1x1024_27_0 _ (fun q => tapW_apply i x0 x2 x3 _ 27 (by decide) 3#32 rfl 0 q) ?_
  refine rows_step_cov a9.view _ (i 1).val x0 x3 x2 _ 26 (by decide) inb_S32x1024_S1x1024_26_0 _ (fun q => tapW_apply i x0 x2 x3 _ 26 (by decide) 4#32 rfl 0 q) ?_
  refine rows_step_cov a9.view _ (i 1).val x0 x3 x2 _ 25 (by decide) inb_S32x1024_S1x1024_25_0 _ (fun q => tapW_apply i x0 x2 x3 _ 25 (by decide) 5#32 rfl 0 q) ?_
  refine rows_step_cov a9.view _ (i 1).val x0 x3 x2 _ 24 (by decide) inb_S32x1024_S1x1024_24_0 _ (fun q => tapW_apply i x0 x2 x3 _ 24 (by decide) 6#32 rfl 0 q) ?_
  refine rows_step_cov a9.view _ (i 1).val x0 x3 x2 _ 23 (by decide) inb_S32x1024_S1x1024_23_0 _ (fun q => tapW_apply i x0 x2 x3 _ 23 (by decide) 7#32 rfl 0 q) ?_
  refine rows_step_cov a9.view _ (i 1).val x0 x3 x2 _ 22 (by decide) inb_S32x1024_S1x1024_22_0 _ (fun q => tapW_apply i x0 x2 x3 _ 22 (by decide) 8#32 rfl 0 q) ?_
  refine rows_step_cov a9.view _ (i 1).val x0 x3 x2 _ 21 (by decide) inb_S32x1024_S1x1024_21_0 _ (fun q => tapW_apply i x0 x2 x3 _ 21 (by decide) 9#32 rfl 0 q) ?_
  refine rows_step_cov a9.view _ (i 1).val x0 x3 x2 _ 20 (by decide) inb_S32x1024_S1x1024_20_0 _ (fun q => tapW_apply i x0 x2 x3 _ 20 (by decide) 10#32 rfl 0 q) ?_
  refine rows_step_cov a9.view _ (i 1).val x0 x3 x2 _ 19 (by decide) inb_S32x1024_S1x1024_19_0 _ (fun q => tapW_apply i x0 x2 x3 _ 19 (by decide) 11#32 rfl 0 q) ?_
  refine rows_step_cov a9.view _ (i 1).val x0 x3 x2 _ 18 (by decide) inb_S32x1024_S1x1024_18_0 _ (fun q => tapW_apply i x0 x2 x3 _ 18 (by decide) 12#32 rfl 0 q) ?_
  refine rows_step_cov a9.view _ (i 1).val x0 x3 x2 _ 17 (by decide) inb_S32x1024_S1x1024_17_0 _ (fun q => tapW_apply i x0 x2 x3 _ 17 (by decide) 13#32 rfl 0 q) ?_
  refine rows_step_cov a9.view _ (i 1).val x0 x3 x2 _ 16 (by decide) inb_S32x1024_S1x1024_16_0 _ (fun q => tapW_apply i x0 x2 x3 _ 16 (by decide) 14#32 rfl 0 q) ?_
  refine rows_step_cov a9.view _ (i 1).val x0 x3 x2 _ 15 (by decide) inb_S32x1024_S1x1024_15_0 _ (fun q => tapW_apply i x0 x2 x3 _ 15 (by decide) 15#32 rfl 0 q) ?_
  refine rows_step_cov a9.view _ (i 1).val x0 x3 x2 _ 14 (by decide) inb_S32x1024_S1x1024_14_0 _ (fun q => tapW_apply i x0 x2 x3 _ 14 (by decide) 16#32 rfl 0 q) ?_
  refine rows_step_cov a9.view _ (i 1).val x0 x3 x2 _ 13 (by decide) inb_S32x1024_S1x1024_13_0 _ (fun q => tapW_apply i x0 x2 x3 _ 13 (by decide) 17#32 rfl 0 q) ?_
  refine rows_step_cov a9.view _ (i 1).val x0 x3 x2 _ 12 (by decide) inb_S32x1024_S1x1024_12_0 _ (fun q => tapW_apply i x0 x2 x3 _ 12 (by decide) 18#32 rfl 0 q) ?_
  refine rows_step_cov a9.view _ (i 1).val x0 x3 x2 _ 11 (by decide) inb_S32x1024_S1x1024_11_0 _ (fun q => tapW_apply i x0 x2 x3 _ 11 (by decide) 19#32 rfl 0 q) ?_
  refine rows_step_cov a9.view _ (i 1).val x0 x3 x2 _ 10 (by decide) inb_S32x1024_S1x1024_10_0 _ (fun q => tapW_apply i x0 x2 x3 _ 10 (by decide) 20#32 rfl 0 q) ?_
  refine rows_step_cov a9.view _ (i 1).val x0 x3 x2 _ 9 (by decide) inb_S32x1024_S1x1024_9_0 _ (fun q => tapW_apply i x0 x2 x3 _ 9 (by decide) 21#32 rfl 0 q) ?_
  refine rows_step_cov a9.view _ (i 1).val x0 x3 x2 _ 8 (by decide) inb_S32x1024_S1x1024_8_0 _ (fun q => tapW_apply i x0 x2 x3 _ 8 (by decide) 22#32 rfl 0 q) ?_
  refine rows_step_cov a9.view _ (i 1).val x0 x3 x2 _ 7 (by decide) inb_S32x1024_S1x1024_7_0 _ (fun q => tapW_apply i x0 x2 x3 _ 7 (by decide) 23#32 rfl 0 q) ?_
  refine rows_step_cov a9.view _ (i 1).val x0 x3 x2 _ 6 (by decide) inb_S32x1024_S1x1024_6_0 _ (fun q => tapW_apply i x0 x2 x3 _ 6 (by decide) 24#32 rfl 0 q) ?_
  refine rows_step_cov a9.view _ (i 1).val x0 x3 x2 _ 5 (by decide) inb_S32x1024_S1x1024_5_0 _ (fun q => tapW_apply i x0 x2 x3 _ 5 (by decide) 25#32 rfl 0 q) ?_
  refine rows_step_cov a9.view _ (i 1).val x0 x3 x2 _ 4 (by decide) inb_S32x1024_S1x1024_4_0 _ (fun q => tapW_apply i x0 x2 x3 _ 4 (by decide) 26#32 rfl 0 q) ?_
  refine rows_step_cov a9.view _ (i 1).val x0 x3 x2 _ 3 (by decide) inb_S32x1024_S1x1024_3_0 _ (fun q => tapW_apply i x0 x2 x3 _ 3 (by decide) 27#32 rfl 0 q) ?_
  refine rows_step_cov a9.view _ (i 1).val x0 x3 x2 _ 2 (by decide) inb_S32x1024_S1x1024_2_0 _ (fun q => tapW_apply i x0 x2 x3 _ 2 (by decide) 28#32 rfl 0 q) ?_
  refine rows_step_cov a9.view _ (i 1).val x0 x3 x2 _ 1 (by decide) inb_S32x1024_S1x1024_1_0 _ (fun q => tapW_apply i x0 x2 x3 _ 1 (by decide) 29#32 rfl 0 q) ?_
  refine rows_step_cov a9.view _ (i 1).val x0 x3 x2 _ 0 (by decide) inb_S32x1024_S1x1024_0_0 _ (fun q => tapW_apply i x0 x2 x3 _ 0 (by decide) 30#32 rfl 0 q) ?_
  exact rows_zero (i 1).val x0 x3 x2 _

theorem out_B_7 (hc0 : ¬cond0_0 i) :
    Rows (i 1).val x0 x3 x2 xo (out0_B_7 c i a2 h2 a3 h3 a4 h4 a5 h5 a6 h6 a7 h7 a8 h8 a9 h9 hc0 x0 x1 x2 x3 x4 x5 xo) 31 := by
  unfold out0_B_7 kernelRun0_B
  dsimp only
  sl_unfold_words
  simp only [View.readAt_eq_ld, h2.read_unread, h3.read_unread, h4.read_unread, h5.read_unread, h9.read_unread,
    View.ld_unit_zero (S := S1x256x1024) hz3, View.ld_unit_zero (S := S1x32x1024) hz3]
  refine rows_step a9.view _ _ (i 1).val x0 x3 x2 xo 30 (by decide) inb_S32x1024_S1x1024_30_0 _ ?_ (fun q => (tapW0_apply i x0 x2 x3 _ 0 q).trans (congrArg (fun z => z + _) (ld_row xo 30 (by decide) inb_S32x1024_S1x1024_30_0 q)))
  refine rows_step a9.view _ _ (i 1).val x0 x3 x2 xo 29 (by decide) inb_S32x1024_S1x1024_29_0 _ ?_ (fun q => (tapW_apply i x0 x2 x3 _ 29 (by decide) 1#32 rfl 0 q).trans (congrArg (fun z => z + _) (ld_row xo 29 (by decide) inb_S32x1024_S1x1024_29_0 q)))
  refine rows_step a9.view _ _ (i 1).val x0 x3 x2 xo 28 (by decide) inb_S32x1024_S1x1024_28_0 _ ?_ (fun q => (tapW_apply i x0 x2 x3 _ 28 (by decide) 2#32 rfl 0 q).trans (congrArg (fun z => z + _) (ld_row xo 28 (by decide) inb_S32x1024_S1x1024_28_0 q)))
  refine rows_step a9.view _ _ (i 1).val x0 x3 x2 xo 27 (by decide) inb_S32x1024_S1x1024_27_0 _ ?_ (fun q => (tapW_apply i x0 x2 x3 _ 27 (by decide) 3#32 rfl 0 q).trans (congrArg (fun z => z + _) (ld_row xo 27 (by decide) inb_S32x1024_S1x1024_27_0 q)))
  refine rows_step a9.view _ _ (i 1).val x0 x3 x2 xo 26 (by decide) inb_S32x1024_S1x1024_26_0 _ ?_ (fun q => (tapW_apply i x0 x2 x3 _ 26 (by decide) 4#32 rfl 0 q).trans (congrArg (fun z => z + _) (ld_row xo 26 (by decide) inb_S32x1024_S1x1024_26_0 q)))
  refine rows_step a9.view _ _ (i 1).val x0 x3 x2 xo 25 (by decide) inb_S32x1024_S1x1024_25_0 _ ?_ (fun q => (tapW_apply i x0 x2 x3 _ 25 (by decide) 5#32 rfl 0 q).trans (congrArg (fun z => z + _) (ld_row xo 25 (by decide) inb_S32x1024_S1x1024_25_0 q)))
  refine rows_step a9.view _ _ (i 1).val x0 x3 x2 xo 24 (by decide) inb_S32x1024_S1x1024_24_0 _ ?_ (fun q => (tapW_apply i x0 x2 x3 _ 24 (by decide) 6#32 rfl 0 q).trans (congrArg (fun z => z + _) (ld_row xo 24 (by decide) inb_S32x1024_S1x1024_24_0 q)))
  refine rows_step a9.view _ _ (i 1).val x0 x3 x2 xo 23 (by decide) inb_S32x1024_S1x1024_23_0 _ ?_ (fun q => (tapW_apply i x0 x2 x3 _ 23 (by decide) 7#32 rfl 0 q).trans (congrArg (fun z => z + _) (ld_row xo 23 (by decide) inb_S32x1024_S1x1024_23_0 q)))
  refine rows_step a9.view _ _ (i 1).val x0 x3 x2 xo 22 (by decide) inb_S32x1024_S1x1024_22_0 _ ?_ (fun q => (tapW_apply i x0 x2 x3 _ 22 (by decide) 8#32 rfl 0 q).trans (congrArg (fun z => z + _) (ld_row xo 22 (by decide) inb_S32x1024_S1x1024_22_0 q)))
  refine rows_step a9.view _ _ (i 1).val x0 x3 x2 xo 21 (by decide) inb_S32x1024_S1x1024_21_0 _ ?_ (fun q => (tapW_apply i x0 x2 x3 _ 21 (by decide) 9#32 rfl 0 q).trans (congrArg (fun z => z + _) (ld_row xo 21 (by decide) inb_S32x1024_S1x1024_21_0 q)))
  refine rows_step a9.view _ _ (i 1).val x0 x3 x2 xo 20 (by decide) inb_S32x1024_S1x1024_20_0 _ ?_ (fun q => (tapW_apply i x0 x2 x3 _ 20 (by decide) 10#32 rfl 0 q).trans (congrArg (fun z => z + _) (ld_row xo 20 (by decide) inb_S32x1024_S1x1024_20_0 q)))
  refine rows_step a9.view _ _ (i 1).val x0 x3 x2 xo 19 (by decide) inb_S32x1024_S1x1024_19_0 _ ?_ (fun q => (tapW_apply i x0 x2 x3 _ 19 (by decide) 11#32 rfl 0 q).trans (congrArg (fun z => z + _) (ld_row xo 19 (by decide) inb_S32x1024_S1x1024_19_0 q)))
  refine rows_step a9.view _ _ (i 1).val x0 x3 x2 xo 18 (by decide) inb_S32x1024_S1x1024_18_0 _ ?_ (fun q => (tapW_apply i x0 x2 x3 _ 18 (by decide) 12#32 rfl 0 q).trans (congrArg (fun z => z + _) (ld_row xo 18 (by decide) inb_S32x1024_S1x1024_18_0 q)))
  refine rows_step a9.view _ _ (i 1).val x0 x3 x2 xo 17 (by decide) inb_S32x1024_S1x1024_17_0 _ ?_ (fun q => (tapW_apply i x0 x2 x3 _ 17 (by decide) 13#32 rfl 0 q).trans (congrArg (fun z => z + _) (ld_row xo 17 (by decide) inb_S32x1024_S1x1024_17_0 q)))
  refine rows_step a9.view _ _ (i 1).val x0 x3 x2 xo 16 (by decide) inb_S32x1024_S1x1024_16_0 _ ?_ (fun q => (tapW_apply i x0 x2 x3 _ 16 (by decide) 14#32 rfl 0 q).trans (congrArg (fun z => z + _) (ld_row xo 16 (by decide) inb_S32x1024_S1x1024_16_0 q)))
  refine rows_step a9.view _ _ (i 1).val x0 x3 x2 xo 15 (by decide) inb_S32x1024_S1x1024_15_0 _ ?_ (fun q => (tapW_apply i x0 x2 x3 _ 15 (by decide) 15#32 rfl 0 q).trans (congrArg (fun z => z + _) (ld_row xo 15 (by decide) inb_S32x1024_S1x1024_15_0 q)))
  refine rows_step a9.view _ _ (i 1).val x0 x3 x2 xo 14 (by decide) inb_S32x1024_S1x1024_14_0 _ ?_ (fun q => (tapW_apply i x0 x2 x3 _ 14 (by decide) 16#32 rfl 0 q).trans (congrArg (fun z => z + _) (ld_row xo 14 (by decide) inb_S32x1024_S1x1024_14_0 q)))
  refine rows_step a9.view _ _ (i 1).val x0 x3 x2 xo 13 (by decide) inb_S32x1024_S1x1024_13_0 _ ?_ (fun q => (tapW_apply i x0 x2 x3 _ 13 (by decide) 17#32 rfl 0 q).trans (congrArg (fun z => z + _) (ld_row xo 13 (by decide) inb_S32x1024_S1x1024_13_0 q)))
  refine rows_step a9.view _ _ (i 1).val x0 x3 x2 xo 12 (by decide) inb_S32x1024_S1x1024_12_0 _ ?_ (fun q => (tapW_apply i x0 x2 x3 _ 12 (by decide) 18#32 rfl 0 q).trans (congrArg (fun z => z + _) (ld_row xo 12 (by decide) inb_S32x1024_S1x1024_12_0 q)))
  refine rows_step a9.view _ _ (i 1).val x0 x3 x2 xo 11 (by decide) inb_S32x1024_S1x1024_11_0 _ ?_ (fun q => (tapW_apply i x0 x2 x3 _ 11 (by decide) 19#32 rfl 0 q).trans (congrArg (fun z => z + _) (ld_row xo 11 (by decide) inb_S32x1024_S1x1024_11_0 q)))
  refine rows_step a9.view _ _ (i 1).val x0 x3 x2 xo 10 (by decide) inb_S32x1024_S1x1024_10_0 _ ?_ (fun q => (tapW_apply i x0 x2 x3 _ 10 (by decide) 20#32 rfl 0 q).trans (congrArg (fun z => z + _) (ld_row xo 10 (by decide) inb_S32x1024_S1x1024_10_0 q)))
  refine rows_step a9.view _ _ (i 1).val x0 x3 x2 xo 9 (by decide) inb_S32x1024_S1x1024_9_0 _ ?_ (fun q => (tapW_apply i x0 x2 x3 _ 9 (by decide) 21#32 rfl 0 q).trans (congrArg (fun z => z + _) (ld_row xo 9 (by decide) inb_S32x1024_S1x1024_9_0 q)))
  refine rows_step a9.view _ _ (i 1).val x0 x3 x2 xo 8 (by decide) inb_S32x1024_S1x1024_8_0 _ ?_ (fun q => (tapW_apply i x0 x2 x3 _ 8 (by decide) 22#32 rfl 0 q).trans (congrArg (fun z => z + _) (ld_row xo 8 (by decide) inb_S32x1024_S1x1024_8_0 q)))
  refine rows_step a9.view _ _ (i 1).val x0 x3 x2 xo 7 (by decide) inb_S32x1024_S1x1024_7_0 _ ?_ (fun q => (tapW_apply i x0 x2 x3 _ 7 (by decide) 23#32 rfl 0 q).trans (congrArg (fun z => z + _) (ld_row xo 7 (by decide) inb_S32x1024_S1x1024_7_0 q)))
  refine rows_step a9.view _ _ (i 1).val x0 x3 x2 xo 6 (by decide) inb_S32x1024_S1x1024_6_0 _ ?_ (fun q => (tapW_apply i x0 x2 x3 _ 6 (by decide) 24#32 rfl 0 q).trans (congrArg (fun z => z + _) (ld_row xo 6 (by decide) inb_S32x1024_S1x1024_6_0 q)))
  refine rows_step a9.view _ _ (i 1).val x0 x3 x2 xo 5 (by decide) inb_S32x1024_S1x1024_5_0 _ ?_ (fun q => (tapW_apply i x0 x2 x3 _ 5 (by decide) 25#32 rfl 0 q).trans (congrArg (fun z => z + _) (ld_row xo 5 (by decide) inb_S32x1024_S1x1024_5_0 q)))
  refine rows_step a9.view _ _ (i 1).val x0 x3 x2 xo 4 (by decide) inb_S32x1024_S1x1024_4_0 _ ?_ (fun q => (tapW_apply i x0 x2 x3 _ 4 (by decide) 26#32 rfl 0 q).trans (congrArg (fun z => z + _) (ld_row xo 4 (by decide) inb_S32x1024_S1x1024_4_0 q)))
  refine rows_step a9.view _ _ (i 1).val x0 x3 x2 xo 3 (by decide) inb_S32x1024_S1x1024_3_0 _ ?_ (fun q => (tapW_apply i x0 x2 x3 _ 3 (by decide) 27#32 rfl 0 q).trans (congrArg (fun z => z + _) (ld_row xo 3 (by decide) inb_S32x1024_S1x1024_3_0 q)))
  refine rows_step a9.view _ _ (i 1).val x0 x3 x2 xo 2 (by decide) inb_S32x1024_S1x1024_2_0 _ ?_ (fun q => (tapW_apply i x0 x2 x3 _ 2 (by decide) 28#32 rfl 0 q).trans (congrArg (fun z => z + _) (ld_row xo 2 (by decide) inb_S32x1024_S1x1024_2_0 q)))
  refine rows_step a9.view _ _ (i 1).val x0 x3 x2 xo 1 (by decide) inb_S32x1024_S1x1024_1_0 _ ?_ (fun q => (tapW_apply i x0 x2 x3 _ 1 (by decide) 29#32 rfl 0 q).trans (congrArg (fun z => z + _) (ld_row xo 1 (by decide) inb_S32x1024_S1x1024_1_0 q)))
  refine rows_step a9.view _ _ (i 1).val x0 x3 x2 xo 0 (by decide) inb_S32x1024_S1x1024_0_0 _ ?_ (fun q => (tapW_apply i x0 x2 x3 _ 0 (by decide) 30#32 rfl 0 q).trans (congrArg (fun z => z + _) (ld_row xo 0 (by decide) inb_S32x1024_S1x1024_0_0 q)))
  intro y
  rw [if_neg (by omega), add_zero, View.writes_nil, h9.read_unread]

theorem out_A_6 (hc0 : cond0_0 i) :
    out0_A_6 c i a2 h2 a3 h3 a4 h4 a5 h5 a6 h6 a7 h7 a8 h8 a9 h9 hc0 x0 x1 x2 x3 x4 x5 = ab i x0 x1 x4 x5 := by
  have hcov := cover0_A_6 c i a2 h2 a3 h3 a4 h4 a5 h5 a6 h6 a7 h7 a8 h8 a9 h9 hc0 x0 x1 x2 x3 x4 x5
  unfold out0_A_6
  rw [View.read_writes_eq_canon _ _ _ hcov]
  funext y
  refine View.canon_apply_of_pieces (ab i x0 x1 x4 x5) _ ?_ y (hcov y)
  clear hcov y
  unfold kernelRun0_A
  dsimp only
  sl_unfold_words
  simp only [View.readAt_eq_ld, h2.read_unread, h3.read_unread, h4.read_unread, h5.read_unread, h6.read_unread, h7.read_unread,
    View.ld_unit_zero (S := S1x256x1024) hz3, View.ld_unit_zero (S := S1x32x1024) hz3]
  intro p hp x
  simp only [List.mem_cons, List.mem_nil_iff, or_false] at hp
  rcases hp with rfl | rfl
  · exact ab_piece1 i x0 x1 x4 x5 x
  · exact ab_piece0 i x0 x1 x4 x5 x

theorem out_B_6 (hc0 : ¬cond0_0 i) :
    out0_B_6 c i a2 h2 a3 h3 a4 h4 a5 h5 a6 h6 a7 h7 a8 h8 a9 h9 hc0 x0 x1 x2 x3 x4 x5 xo = ab i x0 x1 x4 x5 := by
  have hcov := cover0_B_6 c i a2 h2 a3 h3 a4 h4 a5 h5 a6 h6 a7 h7 a8 h8 a9 h9 hc0 x0 x1 x2 x3 x4 x5 xo
  unfold out0_B_6
  rw [View.read_writes_eq_canon _ _ _ hcov]
  funext y
  refine View.canon_apply_of_pieces (ab i x0 x1 x4 x5) _ ?_ y (hcov y)
  clear hcov y
  unfold kernelRun0_B
  dsimp only
  sl_unfold_words
  simp only [View.readAt_eq_ld, h2.read_unread, h3.read_unread, h4.read_unread, h5.read_unread, h6.read_unread, h7.read_unread,
    View.ld_unit_zero (S := S1x256x1024) hz3, View.ld_unit_zero (S := S1x32x1024) hz3]
  intro p hp x
  simp only [List.mem_cons, List.mem_nil_iff, or_false] at hp
  rcases hp with rfl | rfl
  · exact ab_piece1 i x0 x1 x4 x5 x
  · exact ab_piece0 i x0 x1 x4 x5 x

end

/-! ## The arrays -/

variable (m : (ℓ : Loc nD τ sig) → Buf (Elt Ideal) ℓ)

theorem outs6 (c : Dev nD) (t : Fin cfg0.N) : (outsAt0 m c t.val t.isLt).1
    = ab (grid0.coords t) (iblk m c 0 t) (iblk m c 1 t) (iblk m c 4 t) (iblk m c 5 t) := by
  by_cases h : t.val % 32 = 0
  · rw [outsAt0_A m c t h]
    dsimp only
    rw [out_A_6]
  · rw [outsAt0_B m c t h]
    dsimp only
    rw [out_B_6]

/-- What point `n` contributes at place `y` of the kernel's own gradient. -/
def part (c : Dev nD) (y : S32x1024.Idx) (n : ℕ) : EReal :=
  if h : n < cfg0.N then
    (if (y 0).val < 31 then tile (grid0.coords ⟨n, h⟩ 1).val (iblk m c 0 ⟨n, h⟩) (iblk m c 3 ⟨n, h⟩) (iblk m c 2 ⟨n, h⟩) (y 0).val (y 1) else 0) else 0

theorem part_eq (c : Dev nD) (y : S32x1024.Idx) (t : Fin cfg0.N) :
    part m c y t = if (y 0).val < 31 then tile (grid0.coords t 1).val (iblk m c 0 t) (iblk m c 3 t) (iblk m c 2 t) (y 0).val (y 1) else 0 :=
  dif_pos t.isLt

theorem acc (c : Dev nD) (y : S32x1024.Idx) : ∀ n (h : n < cfg0.N), n % 33 ≠ 33 - 1 →
    ((outsAt0 m c n h).2 y : EReal) = ∑ s ∈ Finset.range (n % 33 + 1), part m c y (n - n % 33 + s) := by
  have hN : cfg0.N = 32 := N_0
  refine run_sum 33 (by omega) (fun n h => ((outsAt0 m c n h).2 y : EReal)) (part m c y) ?_ ?_
  · intro n h h0
    rw [outsAt0_A m c ⟨n, h⟩ (by simp only; omega)]
    dsimp only
    refine (out_A_7 c _ _ _ _ _ _ _ _ _ _ _ _ _ _ _ _ _ _ _ _ _ _ _ _ y).trans ?_
    rw [zero_add]
    exact (part_eq m c y ⟨n, h⟩).symm
  · intro n h h' h0 h1
    rw [outsAt0_B m c ⟨n, h⟩ (by simp only; omega)]
    dsimp only
    refine (out_B_7 c _ _ _ _ _ _ _ _ _ _ _ _ _ _ _ _ _ _ _ _ _ _ _ _ _ y).trans ?_
    exact congrArg _ (part_eq m c y ⟨n, h⟩).symm

theorem last (c : Dev nD) (y : S32x1024.Idx) (t : Fin cfg0.N) (ht : t.val % 32 = 31) :
    ((outsAt0 m c t.val t.isLt).2 y : EReal) = ∑ s ∈ Finset.range 32, part m c y s := by
  have hN : t.val < 32 := lt_of_lt_of_eq t.isLt (show cfg0.N = 32 from N_0)
  rw [acc m c y t.val t.isLt (by omega)]
  have e1 : t.val % 33 = 31 := by omega
  rw [e1]
  exact Finset.sum_congr rfl fun s _ => by rw [show t.val - 31 + s = s by omega]

theorem hco : ∀ t : Fin cfg0.N, (grid0.coords t 1).val = t.val % 16 :=
  (by decide +kernel : ∀ t : Fin grid0.N, (grid0.coords t 1).val = t.val % 16)
theorem e0 : ∀ t : Fin cfg0.N, win0_0.index t = ![t.val / 16, t.val % 16, 0] :=
  (by decide +kernel : ∀ t : Fin grid0.N, win0_0.index t = ![t.val / 16, t.val % 16, 0])
theorem e1 : ∀ t : Fin cfg0.N, win0_1.index t = ![t.val / 16, min (8 * (t.val % 16 + 1)) 127, 0] :=
  (by decide +kernel : ∀ t : Fin grid0.N, win0_1.index t = ![t.val / 16, min (8 * (t.val % 16 + 1)) 127, 0])
theorem e2 : ∀ t : Fin cfg0.N, win0_2.index t = ![t.val / 16, t.val % 16, 0] :=
  (by decide +kernel : ∀ t : Fin grid0.N, win0_2.index t = ![t.val / 16, t.val % 16, 0])
theorem e3 : ∀ t : Fin cfg0.N, win0_3.index t = ![t.val / 16, 8 * (t.val % 16) - 1, 0] :=
  (by decide +kernel : ∀ t : Fin grid0.N, win0_3.index t = ![t.val / 16, 8 * (t.val % 16) - 1, 0])
theorem e4 : ∀ t : Fin cfg0.N, win0_4.index t = ![0, t.val, 0] :=
  (by decide +kernel : ∀ t : Fin grid0.N, win0_4.index t = ![0, t.val, 0])
theorem e5 : ∀ t : Fin cfg0.N, win0_5.index t = ![0, 0] :=
  (by decide +kernel : ∀ t : Fin grid0.N, win0_5.index t = ![0, 0])
theorem e6 : ∀ t : Fin cfg0.N, win0_6.index t = ![0, t.val, 0] :=
  (by decide +kernel : ∀ t : Fin grid0.N, win0_6.index t = ![0, t.val, 0])
theorem e7 : ∀ t : Fin cfg0.N, win0_7.index t = ![0, 0] :=
  (by decide +kernel : ∀ t : Fin grid0.N, win0_7.index t = ![0, 0])

/-- Row `s` of batch `b`, zero past the last one, … -/
def rowD (X : S2x4096x1024.Idx → EReal) (b : Fin 2) (s : ℕ) (q : Fin 1024) : EReal := if h : s < 4096 then X (ix3 b ⟨s, h⟩ q) else 0

/-- … and row `s - 32`, zero before the first one. -/
def rowU (X : S2x4096x1024.Idx → EReal) (b : Fin 2) (s : ℕ) (q : Fin 1024) : EReal := if 32 ≤ s then rowD X b (s - 32) q else 0

/-- The gradient of row `s` of batch `b` with respect to the gated product: `D` is the gradient that comes in, `W` the taps. -/
def duA (D : S2x4096x1024.Idx → EReal) (W : S32x1024.Idx → EReal) (b : Fin 2) (s : ℕ) (q : Fin 1024) : EReal :=
  ∑ j ∈ Finset.range 31, wt W j q * rowD D b (s + (30 - j)) q

/-- The batch and the row within it of row `n`. -/
def bt (n : Fin 8192) : Fin 2 := ⟨n.val / 4096, by have := n.isLt; omega⟩

/-- The gradient of the two halves: `AB` holds them. -/
def G6 (D : S2x4096x1024.Idx → EReal) (W : S32x1024.Idx → EReal) (AB : S2x8192x1024.Idx → EReal) (y : S2x8192x1024.Idx) : EReal :=
  if (y 0).val = 0 then duA D W (bt (y 1)) ((y 1).val % 4096) (y 2) * sg (AB (ix3 1 (y 1) (y 2)))
  else duA D W (bt (y 1)) ((y 1).val % 4096) (y 2) * AB (ix3 0 (y 1) (y 2)) * sg (AB (ix3 1 (y 1) (y 2))) * (1 - sg (AB (ix3 1 (y 1) (y 2))))

/-- The gradient of the taps: `U` is the gated product. -/
def G7 (D U : S2x4096x1024.Idx → EReal) (y : S32x1024.Idx) : EReal :=
  if (y 0).val < 31 then ∑ n : Fin 8192, rowD D (bt n) (n.val % 4096) (y 1) * rowU U (bt n) (n.val % 4096 + 2 + (y 0).val) (y 1) else 0

/-- The row of the arrays that row `p` of point `t`'s block is. -/
def at_ (t : Fin cfg0.N) (p : Fin 256) : Fin 8192 :=
  ⟨t.val * 256 + p.val, by have h : t.val < 32 := lt_of_lt_of_eq t.isLt (show cfg0.N = 32 from N_0); omega⟩

/-- The batch of point `t`, … -/
def ba (t : Fin cfg0.N) : Fin 2 := ⟨t.val / 16, by have h : t.val < 32 := lt_of_lt_of_eq t.isLt (show cfg0.N = 32 from N_0); omega⟩

/-- … row `p` of its block in the batch, … -/
def ro (t : Fin cfg0.N) (p : Fin 256) : Fin 4096 := ⟨t.val % 16 * 256 + p.val, by omega⟩

/-- … and row `p` of the next block's first ones, … -/
def rn (t : Fin cfg0.N) (p : Fin 32) : Fin 4096 := ⟨min (8 * (t.val % 16 + 1)) 127 * 32 + p.val, by omega⟩

/-- … and of the last ones of the block before. -/
def rp (t : Fin cfg0.N) (p : Fin 32) : Fin 4096 := ⟨(8 * (t.val % 16) - 1) * 32 + p.val, by omega⟩

theorem emb_0 (t : Fin cfg0.N) (o : Fin 1) (p : Fin 256) (k : Fin 1024) : (win0_0.blk t).view.emb (ix3 o p k) = ix3 (ba t) (ro t p) k := by
  blk_ext [e0, ba, ro]
theorem emb_1 (t : Fin cfg0.N) (o : Fin 1) (p : Fin 32) (k : Fin 1024) : (win0_1.blk t).view.emb (ix3 o p k) = ix3 (ba t) (rn t p) k := by
  blk_ext [e1, ba, rn]
theorem emb_2 (t : Fin cfg0.N) (o : Fin 1) (p : Fin 256) (k : Fin 1024) : (win0_2.blk t).view.emb (ix3 o p k) = ix3 (ba t) (ro t p) k := by
  blk_ext [e2, ba, ro]
theorem emb_3 (t : Fin cfg0.N) (o : Fin 1) (p : Fin 32) (k : Fin 1024) : (win0_3.blk t).view.emb (ix3 o p k) = ix3 (ba t) (rp t p) k := by
  blk_ext [e3, ba, rp]
theorem emb_4 (t : Fin cfg0.N) (h : Fin 2) (p : Fin 256) (k : Fin 1024) : (win0_4.blk t).view.emb (ix3 h p k) = ix3 h (at_ t p) k := by
  blk_ext [e4, at_]
theorem emb_5 (t : Fin cfg0.N) (j : Fin 32) (k : Fin 1024) : (win0_5.blk t).view.emb (ix2 j k) = ix2 j k := by
  blk_ext [e5]
theorem emb_6 (t : Fin cfg0.N) (h : Fin 2) (p : Fin 256) (k : Fin 1024) : (win0_6.blk t).view.emb (ix3 h p k) = ix3 h (at_ t p) k := by
  blk_ext [e6, at_]
theorem emb_7 (t : Fin cfg0.N) (j : Fin 32) (k : Fin 1024) : (win0_7.blk t).view.emb (ix2 j k) = ix2 j k := by
  blk_ext [e7]

theorem blk_0 (c : Dev nD) (t : Fin cfg0.N) (o : Fin 1) (p : Fin 256) (k : Fin 1024) :
    @Eq EReal (iblk m c 0 t (ix3 o p k)) (V m c main_v7 (ix3 (ba t) (ro t p) k)) := by
  blk_simp [iblk]; rw [emb_0]
theorem blk_1 (c : Dev nD) (t : Fin cfg0.N) (o : Fin 1) (p : Fin 32) (k : Fin 1024) :
    @Eq EReal (iblk m c 1 t (ix3 o p k)) (V m c main_v7 (ix3 (ba t) (rn t p) k)) := by
  blk_simp [iblk]; rw [emb_1]
theorem blk_2 (c : Dev nD) (t : Fin cfg0.N) (o : Fin 1) (p : Fin 256) (k : Fin 1024) :
    @Eq EReal (iblk m c 2 t (ix3 o p k)) (V m c main_v8 (ix3 (ba t) (ro t p) k)) := by
  blk_simp [iblk]; rw [emb_2]
theorem blk_3 (c : Dev nD) (t : Fin cfg0.N) (o : Fin 1) (p : Fin 32) (k : Fin 1024) :
    @Eq EReal (iblk m c 3 t (ix3 o p k)) (V m c main_v8 (ix3 (ba t) (rp t p) k)) := by
  blk_simp [iblk]; rw [emb_3]
theorem blk_4 (c : Dev nD) (t : Fin cfg0.N) (h : Fin 2) (p : Fin 256) (k : Fin 1024) :
    @Eq EReal (iblk m c 4 t (ix3 h p k)) (V m c main_v12 (ix3 h (at_ t p) k)) := by
  blk_simp [iblk]; rw [emb_4]
theorem blk_5 (c : Dev nD) (t : Fin cfg0.N) (j : Fin 32) (k : Fin 1024) :
    @Eq EReal (iblk m c 5 t (ix2 j k)) (V m c main_v13 (ix2 j k)) := by
  blk_simp [iblk]; rw [emb_5]

theorem ix3_row (X : S2x4096x1024.Idx → EReal) (b : Fin 2) (s : Fin 4096) (n : ℕ) (q : Fin 1024) (h : s.val = n) :
    X (ix3 b s q) = rowD X b n q := by
  subst h
  unfold rowD
  rw [dif_pos s.isLt]

theorem dn_blk (c : Dev nD) (t : Fin cfg0.N) (r : ℕ) (hr : r < 288) (q : Fin 1024) :
    dn (iblk m c 0 t) (iblk m c 1 t) (grid0.coords t 1).val r q = rowD (V m c main_v7) (ba t) (t.val % 16 * 256 + r) q := by
  rw [hco]
  unfold dn
  by_cases h : r < 256
  · rw [dif_pos h]
    exact (blk_0 m c t 0 ⟨r, h⟩ q).trans (ix3_row _ _ _ _ _ rfl)
  · rw [dif_neg h]
    by_cases hi : t.val % 16 < 15
    · rw [dif_pos ⟨hi, by omega⟩]
      exact (blk_1 m c t 0 ⟨r - 256, by omega⟩ q).trans (ix3_row _ _ _ _ _ (by
        show min (8 * (t.val % 16 + 1)) 127 * 32 + (r - 256) = _
        omega))
    · rw [dif_neg (fun hh => hi hh.1)]
      unfold rowD
      rw [dif_neg (by omega)]

theorem up_blk (c : Dev nD) (t : Fin cfg0.N) (r : ℕ) (hr : r < 288) (q : Fin 1024) :
    upw (iblk m c 3 t) (iblk m c 2 t) (grid0.coords t 1).val r q = rowU (V m c main_v8) (ba t) (t.val % 16 * 256 + r) q := by
  rw [hco]
  unfold upw rowU
  by_cases h : r < 32
  · rw [dif_pos h]
    by_cases hi : 0 < t.val % 16
    · rw [if_pos hi, if_pos (by omega)]
      exact (blk_3 m c t 0 ⟨r, h⟩ q).trans (ix3_row _ _ _ _ _ (by
        show (8 * (t.val % 16) - 1) * 32 + r = _
        omega))
    · rw [if_neg hi, if_neg (by omega)]
  · rw [dif_neg h, dif_pos (by omega), if_pos (by omega)]
    exact (blk_2 m c t 0 ⟨r - 32, by omega⟩ q).trans (ix3_row _ _ _ _ _ (by
      show t.val % 16 * 256 + (r - 32) = _
      omega))

theorem du_blk (c : Dev nD) (t : Fin cfg0.N) (p : Fin 256) (q : Fin 1024) :
    du (grid0.coords t) (iblk m c 0 t) (iblk m c 1 t) (iblk m c 5 t) p q
      = duA (V m c main_v7) (V m c main_v13) (ba t) (t.val % 16 * 256 + p.val) q := by
  unfold du duA
  refine Finset.sum_congr rfl fun j hj => ?_
  rw [dn_blk m c t _ (by have := p.isLt; omega)]
  have hw : wt (iblk m c 5 t) j q = wt (V m c main_v13) j q := by
    unfold wt
    by_cases h : j < 32
    · rw [dif_pos h, dif_pos h]; exact blk_5 m c t ⟨j, h⟩ q
    · rw [dif_neg h, dif_neg h]
  rw [hw, Nat.add_assoc]

theorem ab_blk (c : Dev nD) (t : Fin cfg0.N) (h : Fin 2) (p : Fin 256) (q : Fin 1024) :
    ab (grid0.coords t) (iblk m c 0 t) (iblk m c 1 t) (iblk m c 4 t) (iblk m c 5 t) (ix3 h p q)
      = G6 (V m c main_v7) (V m c main_v13) (V m c main_v12) (ix3 h (at_ t p) q) := by
  have hN : t.val < 32 := lt_of_lt_of_eq t.isLt (show cfg0.N = 32 from N_0)
  have hp := p.isLt
  have hb : bt (at_ t p) = ba t := Fin.ext (by show (t.val * 256 + p.val) / 4096 = t.val / 16; omega)
  have hs : (at_ t p).val % 4096 = t.val % 16 * 256 + p.val := by show (t.val * 256 + p.val) % 4096 = _; omega
  have h4 : ∀ h : Fin 2, @Eq EReal (iblk m c 4 t (ix3 h p q)) (V m c main_v12 (ix3 h (at_ t p) q)) := fun h => blk_4 m c t h p q
  show (if h.val = 0 then du _ _ _ _ p q * sg (iblk m c 4 t (ix3 1 p q)) else du _ _ _ _ p q * iblk m c 4 t (ix3 0 p q) *
      sg (iblk m c 4 t (ix3 1 p q)) * (1 - sg (iblk m c 4 t (ix3 1 p q))) : EReal)
    = if h.val = 0 then duA _ _ (bt (at_ t p)) ((at_ t p).val % 4096) q * sg (V m c main_v12 (ix3 1 (at_ t p) q)) else
      duA _ _ (bt (at_ t p)) ((at_ t p).val % 4096) q * V m c main_v12 (ix3 0 (at_ t p) q) * sg (V m c main_v12 (ix3 1 (at_ t p) q))
        * (1 - sg (V m c main_v12 (ix3 1 (at_ t p) q)))
  rw [hb, hs, du_blk, h4 1, h4 0]

theorem arr6 (c : Dev nD) : (dats m 0 c).arrAt 6 cfg0.N = G6 (V m c main_v7) (V m c main_v13) (V m c main_v12) := by
  refine (dats m 0 c).arrAt_eq_of_covers 6 _ (by decide +kernel) fun t hf y => ?_
  blk_simp
  rw [after0_6, outs6]
  have hy : y = ix3 (y 0) (y 1) (y 2) := by funext a; fin_cases a <;> rfl
  rw [hy]
  refine (ab_blk m c t (y 0) (y 1) (y 2)).trans ?_
  exact (congrArg (G6 (V m c main_v7) (V m c main_v13) (V m c main_v12)) (emb_6 t (y 0) (y 1) (y 2))).symm

theorem arr7 (c : Dev nD) : (dats m 0 c).arrAt 7 cfg0.N = G7 (V m c main_v7) (V m c main_v8) := by
  refine (dats m 0 c).arrAt_eq_of_covers 7 _ (by decide +kernel) fun t hf y => ?_
  have ht : t.val % 32 = 31 := (flush0_7 t).mp hf
  blk_simp
  rw [after0_7]
  have hy : y = ix2 (y 0) (y 1) := by funext a; fin_cases a <;> rfl
  rw [hy]
  refine (last m c _ t ht).trans (Eq.trans ?_ (congrArg (G7 (V m c main_v7) (V m c main_v8)) (emb_7 t (y 0) (y 1))).symm)
  generalize (y 0 : Fin 32) = j
  generalize (y 1 : Fin 1024) = q
  show _ = if j.val < 31 then ∑ n : Fin 8192, rowD (V m c main_v7) (bt n) (n.val % 4096) q * rowU (V m c main_v8) (bt n) (n.val % 4096 + 2 + j.val) q else 0
  by_cases hj : j.val < 31
  · rw [if_pos hj]
    refine tiles_sum 32 256 (by norm_num) _ _ fun s hs => ?_
    have hlt : s < cfg0.N := by have : cfg0.N = 32 := N_0; omega
    refine (part_eq m c _ ⟨s, hlt⟩).trans ?_
    refine (if_pos hj).trans ?_
    unfold tile
    refine Finset.sum_congr rfl fun p _ => ?_
    have hp := p.isLt
    have hb : bt (at_ ⟨s, hlt⟩ p) = ba ⟨s, hlt⟩ := Fin.ext (by show (s * 256 + p.val) / 4096 = s / 16; omega)
    have hs : (at_ ⟨s, hlt⟩ p).val % 4096 = s % 16 * 256 + p.val := by show (s * 256 + p.val) % 4096 = _; omega
    show _ = rowD _ (bt (at_ ⟨s, hlt⟩ p)) ((at_ ⟨s, hlt⟩ p).val % 4096) q * rowU _ (bt (at_ ⟨s, hlt⟩ p)) ((at_ ⟨s, hlt⟩ p).val % 4096 + 2 + j.val) q
    rw [hb, hs]
    refine congrArg₂ (fun a b : EReal => a * b) ?_ ?_
    · exact (blk_0 m c ⟨s, hlt⟩ 0 p q).trans (ix3_row _ _ _ _ _ rfl)
    · refine (up_blk m c ⟨s, hlt⟩ _ (by show p.val + 2 + j.val < 288; omega) q).trans ?_
      show rowU _ _ (s % 16 * 256 + (p.val + 2 + j.val)) q = _
      rw [show s % 16 * 256 + (p.val + 2 + j.val) = s % 16 * 256 + p.val + 2 + j.val by omega]
  · rw [if_neg hj]
    refine Finset.sum_eq_zero fun s hs => ?_
    have hlt : s < cfg0.N := by have : cfg0.N = 32 := N_0; have := Finset.mem_range.mp hs; omega
    exact (part_eq m c _ ⟨s, hlt⟩).trans (if_neg hj)

end Cert.ConvDw

end
-- ==== Proof.ConvDwTie.lean ====
/-
  The reference's gradient of the depthwise convolution is the kernel's, and the claim.
-/
module

public import proofs.«01_k».proof.Proof.ConvDw
public import proofs.«01_k».proof.Proof.Gen.Reference8Ideal.Run

@[expose] public section

set_option maxRecDepth 16384

noncomputable section

namespace Cert.ConvDw

open Cert.Common Cert.Gate Cert.Reference8Ideal Idealize.ShloMosaic Idealize.ShloMosaic.TcCoe Idealize.SL.Sem

theorem fiber (h : S2x4096x1024.ReducesTo [0, 1] S1024) (q : Fin 1024) (i : S2x4096x1024.Idx) :
    h.drop i = ix1 q ↔ ∃ k : Fin 2 × Fin 4096, ix3 k.1 k.2 q = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem fiber1 (h : S1x1x1024.ReducesTo [0, 1] S1024) (q : Fin 1024) (i : S1x1x1024.Idx) :
    h.drop i = ix1 q ↔ ∃ k : Fin 1 × Fin 1, ix3 k.1 k.2 q = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem sum_apply (X : FVec Ideal S2x4096x1024 .f32) (h : S2x4096x1024.ReducesTo [0, 1] S1024) (h_) (q : Fin 1024) :
    (Host.reduceAdd X (constant (F := Ideal) S_ .f32 0x00000000#32) h h_ (ix1 q) : EReal) = ∑ k : Fin 2 × Fin 4096, X (ix3 k.1 k.2 q) := by
  pointwise
  unfold Ideal.hostReduceAdd
  rw [zero_add]
  exact Finset.sum_filter_eq_sum_of_fiber _ (fun k : Fin 2 × Fin 4096 => ix3 k.1 k.2 q)
    (fun _ _ e => Prod.ext (congrFun e 0) (congrFun e 1)) (fiber h q) X

theorem sum1_apply (X : FVec Ideal S1024 .f32) (hc : S1024.ShapeCasts S1x1x1024) (h : S1x1x1024.ReducesTo [0, 1] S1024) (h_) (q : Fin 1024) :
    (Host.reduceAdd (shapeCast S1x1x1024 X hc) (constant (F := Ideal) S_ .f32 0x00000000#32) h h_ (ix1 q) : EReal) = X (ix1 q) := by
  pointwise
  unfold Ideal.hostReduceAdd
  rw [zero_add]
  refine (Finset.sum_filter_eq_sum_of_fiber _ (fun k : Fin 1 × Fin 1 => ix3 k.1 k.2 q)
    (fun _ _ e => Prod.ext (congrFun e 0) (congrFun e 1)) (fiber1 h q) _).trans ?_
  rw [Fintype.sum_prod_type, Fin.sum_univ_one, Fin.sum_univ_one]
  pointwise

/-- One tap's share of the gradient of the gated product, as the reference has it: `D` moved down by `lo` rows, times the tap. -/
theorem move_apply (D : FVec Ideal S2x4096x1024 .f32) (W : FVec Ideal S31x1024 .f32) (lo hi : ℕ) (hl : lo < 31)
    (hp : S2x4096x1024.Pads (![0, lo, 0] : Fin 3 → Nat) ![0, hi, 0] ![0, 0, 0] S2x4126x1024) (h_ : 0 < S_.numel)
    (hs : S31x1024.Slices ![lo, 0] S1x1024) (hc : S1x1024.ShapeCasts S1024) (hb : S1024.BroadcastsInDim S1x1x1024 ![2])
    (hb' : S1x1x1024.BroadcastsInDim S2x4096x1024 ![0, 1, 2]) (b : Fin 2) (n : Fin 4126) (q : Fin 1024) :
    (pad S2x4126x1024 ![0, lo, 0] ![0, hi, 0] ![0, 0, 0] (mulf D (broadcastInDim S2x4096x1024 ![0, 1, 2] hb' (broadcastInDim S1x1x1024 ![2] hb
      (shapeCast S1024 (extractStridedSlice S1x1024 ![lo, 0] W hs) hc)))) (constant (F := Ideal) S_ .f32 0x00000000#32) hp h_ (ix3 b n q) : EReal)
      = if lo ≤ n.val then rowD D b (n.val - lo) q * W (ix2 ⟨lo, hl⟩ q) else 0 := by
  pointwise
  unfold rowD
  by_cases h1 : lo ≤ n.val
  · by_cases h2 : n.val - lo < 4096
    · rw [dif_pos ⟨h1, h2⟩, if_pos h1, dif_pos h2]
    · rw [dif_neg (fun h => h2 h.2), if_pos h1, dif_neg h2, zero_mul]
  · rw [dif_neg (fun h => h1 h.1), if_neg h1]

/-- One tap's gradient, as the reference has it: row `lo` of it. -/
theorem tap_apply (X D : FVec Ideal S2x4096x1024 .f32) (lo hi : ℕ) (hl : lo + hi = 30)
    (hp : S1x1024.Pads (![lo, 0] : Fin 2 → Nat) ![hi, 0] ![0, 0] S31x1024) (h_ : 0 < S_.numel)
    (hb : S1024.BroadcastsInDim S1x1024 ![1]) (hr : S2x4096x1024.ReducesTo [0, 1] S1024) (hc : S1024.ShapeCasts S1x1x1024)
    (hr' : S1x1x1024.ReducesTo [0, 1] S1024) (j : Fin 31) (q : Fin 1024) :
    (pad S31x1024 ![lo, 0] ![hi, 0] ![0, 0] (broadcastInDim S1x1024 ![1] hb (Host.reduceAdd (shapeCast S1x1x1024
      (Host.reduceAdd (mulf X D) (constant (F := Ideal) S_ .f32 0x00000000#32) hr h_) hc) (constant (F := Ideal) S_ .f32 0x00000000#32) hr' h_))
      (constant (F := Ideal) S_ .f32 0x00000000#32) hp h_ (ix2 j q) : EReal)
      = if j.val = lo then ∑ k : Fin 2 × Fin 4096, X (ix3 k.1 k.2 q) * D (ix3 k.1 k.2 q) else 0 := by
  pointwise [sum1_apply, sum_apply]
  by_cases h : j.val = lo
  · rw [dif_pos ⟨by omega, by omega⟩, if_pos h]
  · rw [dif_neg (by omega), if_neg h]

theorem rowU_pos (X : S2x4096x1024.Idx → EReal) (b : Fin 2) (n : ℕ) (q : Fin 1024) (h : 32 ≤ n) (h' : n - 32 < 4096) :
    rowU X b n q = X (ix3 b ⟨n - 32, h'⟩ q) := by
  unfold rowU rowD
  rw [if_pos h, dif_pos h']

theorem cat_apply (U : FVec Ideal S2x4096x1024 .f32) (lo : ℕ) (hl : lo < 31) (hb : S_.BroadcastsInDim S2x30x1024 ![])
    (hc : Shape.Concatenates [S2x30x1024, S2x4096x1024] S2x4126x1024 1) (hs : S2x4126x1024.Slices ![0, lo, 0] S2x4096x1024)
    (b : Fin 2) (s : Fin 4096) (q : Fin 1024) :
    (extractStridedSlice S2x4096x1024 ![0, lo, 0] (concatenate S2x4126x1024 1
      [⟨S2x30x1024, broadcastInDim S2x30x1024 ![] hb (constant (F := Ideal) S_ .f32 0x00000000#32)⟩, ⟨S2x4096x1024, U⟩] hc) hs (ix3 b s q) : EReal)
      = rowU U b (s.val + 2 + lo) q := by
  pointwise
  by_cases h : lo + s.val < 30
  · rw [dif_pos h]
    unfold rowU
    rw [if_neg (by omega)]
  · have hs := s.isLt
    refine (dif_neg h).trans (Eq.trans ?_ (rowU_pos U b (s.val + 2 + lo) q (by omega) (by omega)).symm)
    exact congrArg (fun n => U (ix3 b n q)) (Fin.ext (by show lo + s.val - 30 = s.val + 2 + lo - 32; omega))

/-- `g` is the sum of the last `n` of the 31 shares `f`. -/
def Chain {S : Shape} (f : ℕ → S.Idx → EReal) (n : ℕ) (g : FVec Ideal S .f32) : Prop := ∀ y, (g y : EReal) = ∑ k ∈ Finset.range n, f (30 - k) y

theorem chain_one {S : Shape} {f : ℕ → S.Idx → EReal} {t : FVec Ideal S .f32} (h : ∀ y, (t y : EReal) = f 30 y) : Chain f 1 t := fun y => by
  rw [h, Finset.sum_range_one]

theorem chain_step {S : Shape} {f : ℕ → S.Idx → EReal} {n : ℕ} {g t : FVec Ideal S .f32} (hg : Chain f n g)
    (h : ∀ y, (t y : EReal) = f (30 - n) y) : Chain f (n + 1) (addf g t) := fun y => by
  show (g y + t y : EReal) = _
  rw [hg y, h y, Finset.sum_range_succ]

/-- The share of tap `k` in the gradient of the padded rows. -/
def mv (D : S2x4096x1024.Idx → EReal) (W : S31x1024.Idx → EReal) (k : ℕ) (y : S2x4126x1024.Idx) : EReal :=
  if h : k < 31 then (if k ≤ (y 1).val then rowD D (y 0) ((y 1).val - k) (y 2) * W (ix2 ⟨k, h⟩ (y 2)) else 0) else 0

/-- The gradient of tap `k`, in its row. -/
def tp (U D : S2x4096x1024.Idx → EReal) (k : ℕ) (y : S31x1024.Idx) : EReal :=
  if (y 0).val = k then ∑ i : Fin 2 × Fin 4096, rowU U i.1 (i.2.val + 2 + k) (y 1) * D (ix3 i.1 i.2 (y 1)) else 0

theorem move_eq (D : FVec Ideal S2x4096x1024 .f32) (W : FVec Ideal S31x1024 .f32) (lo hi : ℕ) (hl : lo < 31)
    (hp : S2x4096x1024.Pads (![0, lo, 0] : Fin 3 → Nat) ![0, hi, 0] ![0, 0, 0] S2x4126x1024) (h_ : 0 < S_.numel)
    (hs : S31x1024.Slices ![lo, 0] S1x1024) (hc : S1x1024.ShapeCasts S1024) (hb : S1024.BroadcastsInDim S1x1x1024 ![2])
    (hb' : S1x1x1024.BroadcastsInDim S2x4096x1024 ![0, 1, 2]) (y : S2x4126x1024.Idx) :
    (pad S2x4126x1024 ![0, lo, 0] ![0, hi, 0] ![0, 0, 0] (mulf D (broadcastInDim S2x4096x1024 ![0, 1, 2] hb' (broadcastInDim S1x1x1024 ![2] hb
      (shapeCast S1024 (extractStridedSlice S1x1024 ![lo, 0] W hs) hc)))) (constant (F := Ideal) S_ .f32 0x00000000#32) hp h_ y : EReal)
      = mv D W lo y := by
  obtain ⟨b, n, q, rfl⟩ : ∃ (b : Fin 2) (n : Fin 4126) (q : Fin 1024), y = ix3 b n q := ⟨y 0, y 1, y 2, by funext a; fin_cases a <;> rfl⟩
  refine (move_apply D W lo hi hl hp h_ hs hc hb hb' b n q).trans ?_
  unfold mv
  rw [dif_pos hl]
  rfl

theorem tap_eq (U D : FVec Ideal S2x4096x1024 .f32) (lo hi : ℕ) (hl : lo + hi = 30)
    (hp : S1x1024.Pads (![lo, 0] : Fin 2 → Nat) ![hi, 0] ![0, 0] S31x1024) (h_ : 0 < S_.numel)
    (hb : S1024.BroadcastsInDim S1x1024 ![1]) (hr : S2x4096x1024.ReducesTo [0, 1] S1024) (hc : S1024.ShapeCasts S1x1x1024)
    (hr' : S1x1x1024.ReducesTo [0, 1] S1024) (hb2 : S_.BroadcastsInDim S2x30x1024 ![])
    (hcat : Shape.Concatenates [S2x30x1024, S2x4096x1024] S2x4126x1024 1) (hs : S2x4126x1024.Slices ![0, lo, 0] S2x4096x1024)
    (y : S31x1024.Idx) :
    (pad S31x1024 ![lo, 0] ![hi, 0] ![0, 0] (broadcastInDim S1x1024 ![1] hb (Host.reduceAdd (shapeCast S1x1x1024
      (Host.reduceAdd (mulf (extractStridedSlice S2x4096x1024 ![0, lo, 0] (concatenate S2x4126x1024 1
        [⟨S2x30x1024, broadcastInDim S2x30x1024 ![] hb2 (constant (F := Ideal) S_ .f32 0x00000000#32)⟩, ⟨S2x4096x1024, U⟩] hcat) hs) D)
        (constant (F := Ideal) S_ .f32 0x00000000#32) hr h_) hc) (constant (F := Ideal) S_ .f32 0x00000000#32) hr' h_))
      (constant (F := Ideal) S_ .f32 0x00000000#32) hp h_ y : EReal)
      = tp U D lo y := by
  obtain ⟨j, q, rfl⟩ : ∃ (j : Fin 31) (q : Fin 1024), y = ix2 j q := ⟨y 0, y 1, by funext a; fin_cases a <;> rfl⟩
  refine (tap_apply _ D lo hi hl hp h_ hb hr hc hr' j q).trans ?_
  show _ = if j.val = lo then _ else _
  refine if_congr Iff.rfl (Finset.sum_congr rfl fun k _ => ?_) rfl
  rw [cat_apply U lo (by omega)]
  rfl

open Cert.Reference8Ideal.Gen

variable (V0 : Valuation τ sig (Elt Ideal))

/-- The gated product, in batches. -/
def UH : FVec Ideal S2x4096x1024 .f32 := shapeCast S2x4096x1024 (mulf (V0 (Proc.devRef .tc main_arg0)) (Value.res_main_v5 V0)) shapeCasts_S8192x1024_S2x4096x1024

theorem chain_339 : Chain (tp (UH V0) (Value.res_main_v233 V0)) 10 (Value.res_main_v339 V0) := by
  unfold Value.res_main_v339
  refine chain_step ?_ (tap_eq (UH V0) (Value.res_main_v233 V0) 21 9 rfl _ _ _ _ _ _ _ _ _)
  refine chain_step ?_ (tap_eq (UH V0) (Value.res_main_v233 V0) 22 8 rfl _ _ _ _ _ _ _ _ _)
  refine chain_step ?_ (tap_eq (UH V0) (Value.res_main_v233 V0) 23 7 rfl _ _ _ _ _ _ _ _ _)
  refine chain_step ?_ (tap_eq (UH V0) (Value.res_main_v233 V0) 24 6 rfl _ _ _ _ _ _ _ _ _)
  refine chain_step ?_ (tap_eq (UH V0) (Value.res_main_v233 V0) 25 5 rfl _ _ _ _ _ _ _ _ _)
  refine chain_step ?_ (tap_eq (UH V0) (Value.res_main_v233 V0) 26 4 rfl _ _ _ _ _ _ _ _ _)
  refine chain_step ?_ (tap_eq (UH V0) (Value.res_main_v233 V0) 27 3 rfl _ _ _ _ _ _ _ _ _)
  refine chain_step ?_ (tap_eq (UH V0) (Value.res_main_v233 V0) 28 2 rfl _ _ _ _ _ _ _ _ _)
  refine chain_step ?_ (tap_eq (UH V0) (Value.res_main_v233 V0) 29 1 rfl _ _ _ _ _ _ _ _ _)
  exact chain_one (tap_eq (UH V0) (Value.res_main_v233 V0) 30 0 rfl _ _ _ _ _ _ _ _ _)

theorem chain_449 : Chain (tp (UH V0) (Value.res_main_v233 V0)) 20 (Value.res_main_v449 V0) := by
  unfold Value.res_main_v449
  refine chain_step ?_ (tap_eq (UH V0) (Value.res_main_v233 V0) 11 19 rfl _ _ _ _ _ _ _ _ _)
  refine chain_step ?_ (tap_eq (UH V0) (Value.res_main_v233 V0) 12 18 rfl _ _ _ _ _ _ _ _ _)
  refine chain_step ?_ (tap_eq (UH V0) (Value.res_main_v233 V0) 13 17 rfl _ _ _ _ _ _ _ _ _)
  refine chain_step ?_ (tap_eq (UH V0) (Value.res_main_v233 V0) 14 16 rfl _ _ _ _ _ _ _ _ _)
  refine chain_step ?_ (tap_eq (UH V0) (Value.res_main_v233 V0) 15 15 rfl _ _ _ _ _ _ _ _ _)
  refine chain_step ?_ (tap_eq (UH V0) (Value.res_main_v233 V0) 16 14 rfl _ _ _ _ _ _ _ _ _)
  refine chain_step ?_ (tap_eq (UH V0) (Value.res_main_v233 V0) 17 13 rfl _ _ _ _ _ _ _ _ _)
  refine chain_step ?_ (tap_eq (UH V0) (Value.res_main_v233 V0) 18 12 rfl _ _ _ _ _ _ _ _ _)
  refine chain_step ?_ (tap_eq (UH V0) (Value.res_main_v233 V0) 19 11 rfl _ _ _ _ _ _ _ _ _)
  refine chain_step ?_ (tap_eq (UH V0) (Value.res_main_v233 V0) 20 10 rfl _ _ _ _ _ _ _ _ _)
  exact chain_339 V0

theorem chain_559 : Chain (tp (UH V0) (Value.res_main_v233 V0)) 30 (Value.res_main_v559 V0) := by
  unfold Value.res_main_v559
  refine chain_step ?_ (tap_eq (UH V0) (Value.res_main_v233 V0) 1 29 rfl _ _ _ _ _ _ _ _ _)
  refine chain_step ?_ (tap_eq (UH V0) (Value.res_main_v233 V0) 2 28 rfl _ _ _ _ _ _ _ _ _)
  refine chain_step ?_ (tap_eq (UH V0) (Value.res_main_v233 V0) 3 27 rfl _ _ _ _ _ _ _ _ _)
  refine chain_step ?_ (tap_eq (UH V0) (Value.res_main_v233 V0) 4 26 rfl _ _ _ _ _ _ _ _ _)
  refine chain_step ?_ (tap_eq (UH V0) (Value.res_main_v233 V0) 5 25 rfl _ _ _ _ _ _ _ _ _)
  refine chain_step ?_ (tap_eq (UH V0) (Value.res_main_v233 V0) 6 24 rfl _ _ _ _ _ _ _ _ _)
  refine chain_step ?_ (tap_eq (UH V0) (Value.res_main_v233 V0) 7 23 rfl _ _ _ _ _ _ _ _ _)
  refine chain_step ?_ (tap_eq (UH V0) (Value.res_main_v233 V0) 8 22 rfl _ _ _ _ _ _ _ _ _)
  refine chain_step ?_ (tap_eq (UH V0) (Value.res_main_v233 V0) 9 21 rfl _ _ _ _ _ _ _ _ _)
  refine chain_step ?_ (tap_eq (UH V0) (Value.res_main_v233 V0) 10 20 rfl _ _ _ _ _ _ _ _ _)
  exact chain_449 V0

theorem chain_407 : Chain (mv (Value.res_main_v233 V0) (V0 (Proc.devRef .tc main_arg2))) 16 (Value.res_main_v407 V0) := by
  unfold Value.res_main_v407
  refine chain_step ?_ (move_eq (Value.res_main_v233 V0) (V0 (Proc.devRef .tc main_arg2)) 15 15 (by decide) _ _ _ _ _ _)
  refine chain_step ?_ (move_eq (Value.res_main_v233 V0) (V0 (Proc.devRef .tc main_arg2)) 16 14 (by decide) _ _ _ _ _ _)
  refine chain_step ?_ (move_eq (Value.res_main_v233 V0) (V0 (Proc.devRef .tc main_arg2)) 17 13 (by decide) _ _ _ _ _ _)
  refine chain_step ?_ (move_eq (Value.res_main_v233 V0) (V0 (Proc.devRef .tc main_arg2)) 18 12 (by decide) _ _ _ _ _ _)
  refine chain_step ?_ (move_eq (Value.res_main_v233 V0) (V0 (Proc.devRef .tc main_arg2)) 19 11 (by decide) _ _ _ _ _ _)
  refine chain_step ?_ (move_eq (Value.res_main_v233 V0) (V0 (Proc.devRef .tc main_arg2)) 20 10 (by decide) _ _ _ _ _ _)
  refine chain_step ?_ (move_eq (Value.res_main_v233 V0) (V0 (Proc.devRef .tc main_arg2)) 21 9 (by decide) _ _ _ _ _ _)
  refine chain_step ?_ (move_eq (Value.res_main_v233 V0) (V0 (Proc.devRef .tc main_arg2)) 22 8 (by decide) _ _ _ _ _ _)
  refine chain_step ?_ (move_eq (Value.res_main_v233 V0) (V0 (Proc.devRef .tc main_arg2)) 23 7 (by decide) _ _ _ _ _ _)
  refine chain_step ?_ (move_eq (Value.res_main_v233 V0) (V0 (Proc.devRef .tc main_arg2)) 24 6 (by decide) _ _ _ _ _ _)
  refine chain_step ?_ (move_eq (Value.res_main_v233 V0) (V0 (Proc.devRef .tc main_arg2)) 25 5 (by decide) _ _ _ _ _ _)
  refine chain_step ?_ (move_eq (Value.res_main_v233 V0) (V0 (Proc.devRef .tc main_arg2)) 26 4 (by decide) _ _ _ _ _ _)
  refine chain_step ?_ (move_eq (Value.res_main_v233 V0) (V0 (Proc.devRef .tc main_arg2)) 27 3 (by decide) _ _ _ _ _ _)
  refine chain_step ?_ (move_eq (Value.res_main_v233 V0) (V0 (Proc.devRef .tc main_arg2)) 28 2 (by decide) _ _ _ _ _ _)
  refine chain_step ?_ (move_eq (Value.res_main_v233 V0) (V0 (Proc.devRef .tc main_arg2)) 29 1 (by decide) _ _ _ _ _ _)
  exact chain_one (move_eq (Value.res_main_v233 V0) (V0 (Proc.devRef .tc main_arg2)) 30 0 (by decide) _ _ _ _ _ _)

theorem chain_572 : Chain (mv (Value.res_main_v233 V0) (V0 (Proc.devRef .tc main_arg2))) 31 (Value.res_main_v572 V0) := by
  unfold Value.res_main_v572
  refine chain_step ?_ (move_eq (Value.res_main_v233 V0) (V0 (Proc.devRef .tc main_arg2)) 0 30 (by decide) _ _ _ _ _ _)
  refine chain_step ?_ (move_eq (Value.res_main_v233 V0) (V0 (Proc.devRef .tc main_arg2)) 1 29 (by decide) _ _ _ _ _ _)
  refine chain_step ?_ (move_eq (Value.res_main_v233 V0) (V0 (Proc.devRef .tc main_arg2)) 2 28 (by decide) _ _ _ _ _ _)
  refine chain_step ?_ (move_eq (Value.res_main_v233 V0) (V0 (Proc.devRef .tc main_arg2)) 3 27 (by decide) _ _ _ _ _ _)
  refine chain_step ?_ (move_eq (Value.res_main_v233 V0) (V0 (Proc.devRef .tc main_arg2)) 4 26 (by decide) _ _ _ _ _ _)
  refine chain_step ?_ (move_eq (Value.res_main_v233 V0) (V0 (Proc.devRef .tc main_arg2)) 5 25 (by decide) _ _ _ _ _ _)
  refine chain_step ?_ (move_eq (Value.res_main_v233 V0) (V0 (Proc.devRef .tc main_arg2)) 6 24 (by decide) _ _ _ _ _ _)
  refine chain_step ?_ (move_eq (Value.res_main_v233 V0) (V0 (Proc.devRef .tc main_arg2)) 7 23 (by decide) _ _ _ _ _ _)
  refine chain_step ?_ (move_eq (Value.res_main_v233 V0) (V0 (Proc.devRef .tc main_arg2)) 8 22 (by decide) _ _ _ _ _ _)
  refine chain_step ?_ (move_eq (Value.res_main_v233 V0) (V0 (Proc.devRef .tc main_arg2)) 9 21 (by decide) _ _ _ _ _ _)
  refine chain_step ?_ (move_eq (Value.res_main_v233 V0) (V0 (Proc.devRef .tc main_arg2)) 10 20 (by decide) _ _ _ _ _ _)
  refine chain_step ?_ (move_eq (Value.res_main_v233 V0) (V0 (Proc.devRef .tc main_arg2)) 11 19 (by decide) _ _ _ _ _ _)
  refine chain_step ?_ (move_eq (Value.res_main_v233 V0) (V0 (Proc.devRef .tc main_arg2)) 12 18 (by decide) _ _ _ _ _ _)
  refine chain_step ?_ (move_eq (Value.res_main_v233 V0) (V0 (Proc.devRef .tc main_arg2)) 13 17 (by decide) _ _ _ _ _ _)
  refine chain_step ?_ (move_eq (Value.res_main_v233 V0) (V0 (Proc.devRef .tc main_arg2)) 14 16 (by decide) _ _ _ _ _ _)
  exact chain_407 V0

theorem pad_w_pos (g : FVec Ideal S31x1024 .f32) (hp : S31x1024.Pads (![0, 0] : Fin 2 → Nat) ![1, 0] ![0, 0] S32x1024) (h_ : 0 < S_.numel)
    (j : Fin 32) (q : Fin 1024) (h : j.val < 31) :
    (pad S32x1024 ![0, 0] ![1, 0] ![0, 0] g (sitofp (F := Ideal) .f32 (constantI S_ 32 0#32)) hp h_ (ix2 j q) : EReal) = g (ix2 ⟨j.val, h⟩ q) := by
  pointwise
  rw [dif_pos h]

theorem pad_w_neg (g : FVec Ideal S31x1024 .f32) (hp : S31x1024.Pads (![0, 0] : Fin 2 → Nat) ![1, 0] ![0, 0] S32x1024) (h_ : 0 < S_.numel)
    (j : Fin 32) (q : Fin 1024) (h : ¬ j.val < 31) :
    (pad S32x1024 ![0, 0] ![1, 0] ![0, 0] g (sitofp (F := Ideal) .f32 (constantI S_ 32 0#32)) hp h_ (ix2 j q) : EReal) = 0 := by
  pointwise
  rw [dif_neg h]
  show (((0#32 : BitVec 32).toInt : ℝ) : EReal) = 0
  simp

theorem pad_w (g : FVec Ideal S31x1024 .f32) (hp : S31x1024.Pads (![0, 0] : Fin 2 → Nat) ![1, 0] ![0, 0] S32x1024) (h_ : 0 < S_.numel)
    (j : Fin 32) (q : Fin 1024) :
    (pad S32x1024 ![0, 0] ![1, 0] ![0, 0] g (sitofp (F := Ideal) .f32 (constantI S_ 32 0#32)) hp h_ (ix2 j q) : EReal)
      = if h : j.val < 31 then g (ix2 ⟨j.val, h⟩ q) else 0 := by
  by_cases h : j.val < 31
  · exact (pad_w_pos g hp h_ j q h).trans (by rw [dif_pos h])
  · exact (pad_w_neg g hp h_ j q h).trans (by rw [dif_neg h])

/-- The gradient of the taps, with its empty last row. -/
def dwH : FVec Ideal S32x1024 .f32 :=
  pad S32x1024 ![0, 0] ![1, 0] ![0, 0] (addf (Value.res_main_v559 V0) (pad S31x1024 ![0, 0] ![30, 0] ![0, 0] (broadcastInDim S1x1024 ![1]
    bcast_S1024_S1x1024_1 (Host.reduceAdd (shapeCast _ (Host.reduceAdd (mulf (Value.res_main_v14 V0) (Value.res_main_v233 V0))
      (constant S_ .f32 0x00000000#32) reducesTo_S2x4096x1024_S1024_d0_1 h_S_) shapeCasts_S1024_S1x1x1024) (constant S_ .f32 0x00000000#32)
      reducesTo_S1x1x1024_S1024_d0_1 h_S_)) (constant S_ .f32 0x00000000#32) pads_S1x1024_S31x1024_0300_000 h_S_))
    (sitofp .f32 (constantI S_ 32 0#32)) pads_S31x1024_S32x1024_010_000 h_S_

theorem chain_dw : Chain (tp (UH V0) (Value.res_main_v233 V0)) 31 (addf (Value.res_main_v559 V0) (pad S31x1024 ![0, 0] ![30, 0] ![0, 0]
    (broadcastInDim S1x1024 ![1] bcast_S1024_S1x1024_1 (Host.reduceAdd (shapeCast _ (Host.reduceAdd (mulf (Value.res_main_v14 V0) (Value.res_main_v233 V0))
      (constant S_ .f32 0x00000000#32) reducesTo_S2x4096x1024_S1024_d0_1 h_S_) shapeCasts_S1024_S1x1x1024) (constant S_ .f32 0x00000000#32)
      reducesTo_S1x1x1024_S1024_d0_1 h_S_)) (constant S_ .f32 0x00000000#32) pads_S1x1024_S31x1024_0300_000 h_S_)) :=
  chain_step (chain_559 V0) (tap_eq (UH V0) (Value.res_main_v233 V0) 0 30 rfl _ _ _ _ _ _ _ _ _)

theorem rows_sum (f : Fin 8192 → EReal) (g : Fin 2 → Fin 4096 → EReal)
    (h : ∀ (b : Fin 2) (s : Fin 4096), g b s = f ⟨b.val * 4096 + s.val, by omega⟩) : ∑ i : Fin 2 × Fin 4096, g i.1 i.2 = ∑ n : Fin 8192, f n := by
  rw [Fintype.sum_prod_type]
  rw [← tiles_sum 2 4096 (by norm_num) f (fun j => if hj : j < 2 then ∑ s : Fin 4096, g ⟨j, hj⟩ s else 0) ?_]
  · rw [Finset.sum_range]
    exact Finset.sum_congr rfl fun b _ => by rw [dif_pos b.isLt]
  · intro j hj
    rw [dif_pos hj]
    exact Finset.sum_congr rfl fun s _ => h ⟨j, hj⟩ s

theorem tie7 : dwH V0 = G7 (Value.res_main_v233 V0) (UH V0) := by
  funext y
  obtain ⟨j, q, rfl⟩ : ∃ (j : Fin 32) (q : Fin 1024), y = ix2 j q := ⟨y 0, y 1, by funext a; fin_cases a <;> rfl⟩
  have hc := chain_dw V0
  unfold dwH
  generalize addf (Value.res_main_v559 V0) _ = g at hc ⊢
  show _ = if j.val < 31 then ∑ n : Fin 8192, rowD (Value.res_main_v233 V0) (bt n) (n.val % 4096) q * rowU (UH V0) (bt n) (n.val % 4096 + 2 + j.val) q else 0
  refine (pad_w g _ _ j q).trans ?_
  by_cases hj : j.val < 31
  · rw [if_pos hj, dif_pos hj]
    refine (hc _).trans ?_
    rw [Finset.sum_eq_single (30 - j.val)]
    · refine (if_pos (show j.val = 30 - (30 - j.val) by omega)).trans ?_
      rw [show 30 - (30 - j.val) = j.val by omega]
      refine rows_sum _ (fun b s => rowU (UH V0) b (s.val + 2 + j.val) q * Value.res_main_v233 V0 (ix3 b s q)) fun b s => ?_
      have hs := s.isLt
      have e1 : bt ⟨b.val * 4096 + s.val, by omega⟩ = b := Fin.ext (by show (b.val * 4096 + s.val) / 4096 = b.val; omega)
      have e2 : (b.val * 4096 + s.val) % 4096 = s.val := by omega
      show _ = rowD _ (bt ⟨b.val * 4096 + s.val, _⟩) ((b.val * 4096 + s.val) % 4096) q * rowU _ (bt ⟨b.val * 4096 + s.val, _⟩) ((b.val * 4096 + s.val) % 4096 + 2 + j.val) q
      rw [e1, e2, mul_comm]
      exact congrArg (fun a : EReal => a * rowU (UH V0) b (s.val + 2 + j.val) q) (ix3_row _ b s s.val q rfl)
    · intro k hk hne
      have := Finset.mem_range.mp hk
      exact if_neg (show ¬ j.val = 30 - k by omega)
    · intro h
      exact absurd (Finset.mem_range.mpr (by omega)) h
  · rw [if_neg hj, dif_neg hj]

/-- The taps, with an empty last row. -/
def wH : FVec Ideal S32x1024 .f32 := pad S32x1024 ![0, 0] ![1, 0] ![0, 0] (V0 (Proc.devRef .tc main_arg2) : FVec Ideal S31x1024 .f32)
  (sitofp .f32 (constantI S_ 32 0#32)) pads_S31x1024_S32x1024_010_000 h_S_

theorem wt_wH (k : ℕ) (hk : k < 31) (q : Fin 1024) : wt (wH V0) k q = (V0 (Proc.devRef .tc main_arg2) : FVec Ideal S31x1024 .f32) (ix2 ⟨k, hk⟩ q) := by
  unfold wt wH
  rw [dif_pos (by omega)]
  exact (pad_w _ _ _ _ q).trans (dif_pos hk)

/-- The two halves. -/
def abH : FVec Ideal S2x8192x1024 .bf16 :=
  truncf .bf16 (concatenate S2x8192x1024 0 [⟨S1x8192x1024, broadcastInDim S1x8192x1024 ![1, 2] bcast_S8192x1024_S1x8192x1024_1_2
      (V0 (Proc.devRef .tc main_arg0) : FVec Ideal S8192x1024 .f32)⟩, ⟨S1x8192x1024, broadcastInDim S1x8192x1024 ![1, 2] bcast_S8192x1024_S1x8192x1024_1_2
      (V0 (Proc.devRef .tc main_arg1) : FVec Ideal S8192x1024 .f32)⟩] concatenates_S1x8192x1024_S1x8192x1024_S2x8192x1024_d0) bitsLt_bf16_f32

theorem abH_0 (n : Fin 8192) (q : Fin 1024) : (abH V0 (ix3 0 n q) : EReal) = (V0 (Proc.devRef .tc main_arg0) : FVec Ideal S8192x1024 .f32) (ix2 n q) := by
  unfold abH
  pointwise

theorem abH_1 (n : Fin 8192) (q : Fin 1024) : (abH V0 (ix3 1 n q) : EReal) = (V0 (Proc.devRef .tc main_arg1) : FVec Ideal S8192x1024 .f32) (ix2 n q) := by
  unfold abH
  pointwise

theorem sg_apply (n : Fin 8192) (q : Fin 1024) :
    (Value.res_main_v5 V0 (ix2 n q) : EReal) = sg ((V0 (Proc.devRef .tc main_arg1) : FVec Ideal S8192x1024 .f32) (ix2 n q)) := by
  unfold Value.res_main_v5
  pointwise [sg]

theorem du_apply (n : Fin 8192) (q : Fin 1024) :
    (Value.res_main_v575 V0 (ix2 n q) : EReal) = duA (Value.res_main_v233 V0) (wH V0) (bt n) (n.val % 4096) q := by
  have hc := chain_572 V0
  unfold Value.res_main_v575
  generalize Value.res_main_v572 V0 = g at hc ⊢
  pointwise
  refine (hc _).trans ?_
  unfold duA
  rw [← Finset.sum_range_reflect]
  refine Finset.sum_congr rfl fun k hk => ?_
  have hk' := Finset.mem_range.mp hk
  rw [show 30 - (31 - 1 - k) = k by omega, wt_wH V0 k hk']
  refine Eq.trans ?_ (mul_comm _ _)
  refine (dif_pos hk').trans ?_
  refine (if_pos (show k ≤ 30 + n.val % 4096 by omega)).trans ?_
  show rowD _ (bt n) (30 + n.val % 4096 - k) q * _ = _
  rw [show 30 + n.val % 4096 - k = n.val % 4096 + (30 - k) by omega]
  rfl

/-- The gradient of the two halves. -/
def dabH : FVec Ideal S2x8192x1024 .bf16 :=
  truncf .bf16 (concatenate S2x8192x1024 0 [⟨S1x8192x1024, broadcastInDim S1x8192x1024 ![1, 2] bcast_S8192x1024_S1x8192x1024_1_2
      (mulf (Value.res_main_v575 V0) (Value.res_main_v5 V0))⟩, ⟨S1x8192x1024, broadcastInDim S1x8192x1024 ![1, 2] bcast_S8192x1024_S1x8192x1024_1_2
      (mulf (mulf (V0 (Proc.devRef .tc main_arg0)) (Value.res_main_v575 V0)) (mulf (Value.res_main_v5 V0)
        (subf (broadcastInDim S8192x1024 ![] bcast_S_S8192x1024 (constant S_ .f32 0x3F800000#32)) (Value.res_main_v5 V0))))⟩]
    concatenates_S1x8192x1024_S1x8192x1024_S2x8192x1024_d0) bitsLt_bf16_f32

theorem tie6 : dabH V0 = G6 (Value.res_main_v233 V0) (wH V0) (abH V0) := by
  funext y
  obtain ⟨h, n, q, rfl⟩ : ∃ (h : Fin 2) (n : Fin 8192) (q : Fin 1024), y = ix3 h n q := ⟨y 0, y 1, y 2, by funext a; fin_cases a <;> rfl⟩
  have hh : h = 0 ∨ h = 1 := by omega
  unfold dabH
  show _ = (if h.val = 0 then duA (Value.res_main_v233 V0) (wH V0) (bt n) (n.val % 4096) q * sg (abH V0 (ix3 1 n q)) else
    duA (Value.res_main_v233 V0) (wH V0) (bt n) (n.val % 4096) q * abH V0 (ix3 0 n q) * sg (abH V0 (ix3 1 n q)) * (1 - sg (abH V0 (ix3 1 n q))) : EReal)
  rw [abH_0, abH_1]
  rcases hh with rfl | rfl
  · pointwise [du_apply, sg_apply]
  · pointwise [du_apply, sg_apply]
    have key : ∀ a d s : EReal, a * d * (s * (1 - s)) = d * a * s * (1 - s) := fun a d s => by rw [← mul_assoc, mul_comm a]
    exact key _ _ _

section

variable (m : (ℓ : Loc Kernel8Ideal.nD Kernel8Ideal.τ Kernel8Ideal.sig) → Buf (Elt Ideal) ℓ) (c : Dev Kernel8Ideal.nD)

theorem V7 : @Eq (FVec Ideal S2x4096x1024 .f32) (Kernel8Ideal.Gen.V m c Kernel8Ideal.main_v7)
    (shapeCast S2x4096x1024 (m ((c : Thread Kernel8Ideal.nD Kernel8Ideal.τ).loc Kernel8Ideal.main_arg3)) shapeCasts_S8192x1024_S2x4096x1024) := by
  show StableHlo.after [Kernel8Ideal.Gen.hostOps0, Kernel8Ideal.Gen.hostOps0_1].flatten (fun b => m (c, b)) (Proc.tc.devRef Kernel8Ideal.main_v7) = _
  simp only [List.flatten_cons, List.flatten_nil, List.append_nil, StableHlo.after_append]
  simp only [Kernel8Ideal.Gen.hostOps0, Kernel8Ideal.Gen.hostOps0_1, StableHlo.TRef.binary, StableHlo.TRef.unary, StableHlo.TRef.toBuf, StableHlo.TRef.ofBuf, cast_eq]
  after_results_simp
  rfl

theorem V8 : @Eq (FVec Ideal S2x4096x1024 .f32) (Kernel8Ideal.Gen.V m c Kernel8Ideal.main_v8)
    (shapeCast S2x4096x1024 (mulf (m ((c : Thread Kernel8Ideal.nD Kernel8Ideal.τ).loc Kernel8Ideal.main_arg0) : FVec Ideal S8192x1024 .f32)
      (Host.divf (broadcastInDim S8192x1024 ![] bcast_S_S8192x1024 (constant S_ .f32 0x3F800000#32)) (addf (broadcastInDim S8192x1024 ![]
        bcast_S_S8192x1024 (constant S_ .f32 0x3F800000#32)) (Host.exp (Host.negf (m ((c : Thread Kernel8Ideal.nD Kernel8Ideal.τ).loc
          Kernel8Ideal.main_arg1) : FVec Ideal S8192x1024 .f32)))))) shapeCasts_S8192x1024_S2x4096x1024) := by
  show StableHlo.after [Kernel8Ideal.Gen.hostOps0, Kernel8Ideal.Gen.hostOps0_1].flatten (fun b => m (c, b)) (Proc.tc.devRef Kernel8Ideal.main_v8) = _
  simp only [List.flatten_cons, List.flatten_nil, List.append_nil, StableHlo.after_append]
  simp only [Kernel8Ideal.Gen.hostOps0, Kernel8Ideal.Gen.hostOps0_1, StableHlo.TRef.binary, StableHlo.TRef.unary, StableHlo.TRef.toBuf, StableHlo.TRef.ofBuf, cast_eq]
  after_results_simp
  rfl

theorem V12 : @Eq (FVec Ideal S2x8192x1024 .bf16) (Kernel8Ideal.Gen.V m c Kernel8Ideal.main_v12)
    (truncf .bf16 (concatenate S2x8192x1024 0 [⟨S1x8192x1024, broadcastInDim S1x8192x1024 ![1, 2] bcast_S8192x1024_S1x8192x1024_1_2
        (m ((c : Thread Kernel8Ideal.nD Kernel8Ideal.τ).loc Kernel8Ideal.main_arg0) : FVec Ideal S8192x1024 .f32)⟩,
      ⟨S1x8192x1024, broadcastInDim S1x8192x1024 ![1, 2] bcast_S8192x1024_S1x8192x1024_1_2
        (m ((c : Thread Kernel8Ideal.nD Kernel8Ideal.τ).loc Kernel8Ideal.main_arg1) : FVec Ideal S8192x1024 .f32)⟩]
      concatenates_S1x8192x1024_S1x8192x1024_S2x8192x1024_d0) bitsLt_bf16_f32) := by
  show StableHlo.after [Kernel8Ideal.Gen.hostOps0, Kernel8Ideal.Gen.hostOps0_1].flatten (fun b => m (c, b)) (Proc.tc.devRef Kernel8Ideal.main_v12) = _
  simp only [List.flatten_cons, List.flatten_nil, List.append_nil, StableHlo.after_append]
  simp only [Kernel8Ideal.Gen.hostOps0, Kernel8Ideal.Gen.hostOps0_1, StableHlo.TRef.binary, StableHlo.TRef.unary, StableHlo.TRef.toBuf, StableHlo.TRef.ofBuf, cast_eq]
  after_results_simp
  rfl

theorem V13 : @Eq (FVec Ideal S32x1024 .f32) (Kernel8Ideal.Gen.V m c Kernel8Ideal.main_v13)
    (pad S32x1024 ![0, 0] ![1, 0] ![0, 0] (m ((c : Thread Kernel8Ideal.nD Kernel8Ideal.τ).loc Kernel8Ideal.main_arg2) : FVec Ideal S31x1024 .f32)
      (sitofp .f32 (constantI S_ 32 0#32)) pads_S31x1024_S32x1024_010_000 h_S_) := by
  show StableHlo.after [Kernel8Ideal.Gen.hostOps0, Kernel8Ideal.Gen.hostOps0_1].flatten (fun b => m (c, b)) (Proc.tc.devRef Kernel8Ideal.main_v13) = _
  simp only [List.flatten_cons, List.flatten_nil, List.append_nil, StableHlo.after_append]
  simp only [Kernel8Ideal.Gen.hostOps0, Kernel8Ideal.Gen.hostOps0_1, StableHlo.TRef.binary, StableHlo.TRef.unary, StableHlo.TRef.toBuf, StableHlo.TRef.ofBuf, cast_eq]
  after_results_simp

end

/-- The claim of values: both programs end with the gradient of the two halves and with that of the taps. -/
theorem algebraic : Cert.algebraic_Kernel8Ideal_Reference8Ideal := by
  intro m g m' g' hpre hagree
  refine ⟨fun c => G6 (Kernel8Ideal.Gen.V m c Kernel8Ideal.main_v7) (Kernel8Ideal.Gen.V m c Kernel8Ideal.main_v13)
      (Kernel8Ideal.Gen.V m c Kernel8Ideal.main_v12),
    fun c => G7 (Kernel8Ideal.Gen.V m c Kernel8Ideal.main_v7) (Kernel8Ideal.Gen.V m c Kernel8Ideal.main_v8), ?_, ?_⟩
  · exact (θ_run _ _ _).mono (fun r h c => ⟨(h c).1.trans (arr6 m c), (h c).2.1.trans (arr7 m c), (h c).2.2⟩)
      (Cert.Kernel8Ideal.Value.run_blocks m g)
  · refine (θ_run _ _ _).mono ?_ (Cert.Reference8Ideal.Value.run m' g')
    intro r h c
    obtain ⟨h0, h1, h2, h3⟩ := hagree c
    refine ⟨(h c).1.trans ?_, (h c).2.1.trans ?_, (h c).2.2⟩
    · clear h
      beta_reduce
      rw [V7, V12, V13, ← h0, ← h1, ← h2, ← h3]
      exact tie6 (StableHlo.launchContents m' c)
    · clear h
      beta_reduce
      rw [V7, V8, ← h0, ← h1, ← h3]
      exact tie7 (StableHlo.launchContents m' c)

end Cert.ConvDw

end
-- ==== Proof.ConvDwin.lean ====
/-
  The gradients of the convolution module's two input weights: hᵀ · [da, db], accumulated over sixteen tiles of the rows.
-/
module

public import proofs.«01_k».proof.Defs
public import proofs.«01_k».proof.Proof.Tiles
public import proofs.«01_k».proof.Proof.Gen.Kernel15Ideal.Value
public import proofs.«01_k».proof.Proof.Gen.Reference15Ideal.Run
public import Idealize.ShloMosaic.Lib.Claim

@[expose] public section

set_option maxRecDepth 16384

noncomputable section

namespace Cert.ConvDwin

open Cert.Common Cert.Kernel15Ideal Cert.Kernel15Ideal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-! ## What a grid point leaves -/

section
variable (c : Dev nD) (i : grid0.Coords) (a4 : Memref sig .tc .vmem S512x1024 .bf16) (h4 : a4.IsWhole)
  (a5 : Memref sig .tc .vmem S1x512x1024 .bf16) (h5 : a5.IsWhole) (a6 : Memref sig .tc .vmem S1x1024x1024 .f32)
  (h6 : a6.IsWhole) (a7 : Memref sig .tc .vmem S1024x1024 .f32) (h7 : a7.IsWhole)
  (x0 : Vec Ideal S512x1024 .bf16) (x1 : Vec Ideal S1x512x1024 .bf16) (xs : Vec Ideal S1024x1024 .f32)

theorem sout_A (hc0 : cond0_0 i) (hc1 : ¬cond0_1 i) (hc2 : ¬cond0_2 i) :
    sout0_A_0 c i a4 h4 a5 h5 a6 h6 a7 h7 hc0 hc1 hc2 x0 x1 = k0_pay1 x0 x1 := by
  unfold sout0_A_0
  rw [View.read_writes_eq_canon _ _ _ (scover0_A_0 c i a4 h4 a5 h5 a6 h6 a7 h7 hc0 hc1 hc2 x0 x1)]
  unfold kernelRun0_A
  dsimp only
  rw [View.canon_unit_zero hz]
  simp only [View.readAt_eq_ld, h4.read_unread, h5.read_unread, View.ld_unit_zero (S := S512x1024) hz,
    View.ld_unit_zero (S := S1x512x1024) hz3]

theorem sout_B (hc0 : ¬cond0_0 i) (hc1 : cond0_1 i) (hc2 : ¬cond0_2 i) :
    sout0_B_0 c i a4 h4 a5 h5 a6 h6 a7 h7 hc0 hc1 hc2 x0 x1 xs = k0_pay2 xs x0 x1 := by
  unfold sout0_B_0
  rw [View.read_writes_eq_canon _ _ _ (scover0_B_0 c i a4 h4 a5 h5 a6 h6 a7 h7 hc0 hc1 hc2 x0 x1 xs)]
  unfold kernelRun0_B
  dsimp only
  rw [View.canon_unit_zero hz]
  simp only [View.readAt_eq_ld, h4.read_unread, h5.read_unread, h7.read_unread, View.ld_unit_zero (S := S512x1024) hz,
    View.ld_unit_zero (S := S1x512x1024) hz3, View.ld_unit_zero (S := S1024x1024) hz]

theorem out_C (hc0 : ¬cond0_0 i) (hc1 : cond0_1 i) (hc2 : cond0_2 i) :
    out0_C_2 c i a4 h4 a5 h5 a6 h6 a7 h7 hc0 hc1 hc2 x0 x1 xs = k0_pay3 (k0_pay2 xs x0 x1) := by
  unfold out0_C_2
  rw [View.read_writes_eq_canon _ _ _ (cover0_C_2 c i a4 h4 a5 h5 a6 h6 a7 h7 hc0 hc1 hc2 x0 x1 xs)]
  unfold kernelRun0_C
  dsimp only
  sl_unfold_words
  rw [View.canon_unit_zero hz3, View.readCov_unit_zero (S := S1024x1024) _ hz]
  simp only [View.readAt_eq_ld, h4.read_unread, h5.read_unread, h7.read_unread, View.ld_unit_zero (S := S512x1024) hz,
    View.ld_unit_zero (S := S1x512x1024) hz3, View.ld_unit_zero (S := S1024x1024) hz]

end

/-- The product of two tiles at an index. -/
def tile (x0 : Vec Ideal S512x1024 .bf16) (x1 : Vec Ideal S1x512x1024 .bf16) (i : Fin 1024) (j : Fin 1024) : EReal :=
  ∑ k : Fin 512, x0 (ix2 k i) * x1 (ix3 0 k j)

theorem pay1_apply (x0 : Vec Ideal S512x1024 .bf16) (x1 : Vec Ideal S1x512x1024 .bf16) (i : Fin 1024) (j : Fin 1024) :
    k0_pay1 x0 x1 (ix2 i j) = tile x0 x1 i j := by
  pointwise [k0_pay1, tile]

theorem pay2_apply (xs : Vec Ideal S1024x1024 .f32) (x0 : Vec Ideal S512x1024 .bf16) (x1 : Vec Ideal S1x512x1024 .bf16)
    (i : Fin 1024) (j : Fin 1024) :
    k0_pay2 xs x0 x1 (ix2 i j) = (xs (ix2 i j) + tile x0 x1 i j : EReal) := by
  pointwise [k0_pay2, tile]

theorem pay3_apply (xs : Vec Ideal S1024x1024 .f32) (o : Fin 1) (i : Fin 1024) (j : Fin 1024) :
    k0_pay3 xs (ix3 o i j) = (xs (ix2 i j) : EReal) := by
  pointwise [k0_pay3]

/-! ## The running sum, and the array -/

variable (m : (ℓ : Loc nD τ sig) → Buf (Elt Ideal) ℓ)

/-- What point `n` contributes at place `(i, j)` of its block. -/
def part (c : Dev nD) (i : Fin 1024) (j : Fin 1024) (n : ℕ) : EReal :=
  if h : n < cfg0.N then tile (iblk m c 0 ⟨n, h⟩) (iblk m c 1 ⟨n, h⟩) i j else 0

theorem part_eq (c : Dev nD) (i : Fin 1024) (j : Fin 1024) (t : Fin cfg0.N) :
    part m c i j t = tile (iblk m c 0 t) (iblk m c 1 t) i j := dif_pos t.isLt

theorem scratch (c : Dev nD) (i : Fin 1024) (j : Fin 1024) : ∀ n (h : n < cfg0.N), n % 16 ≠ 16 - 1 →
    ((outsAt0 m c n h).2 (ix2 i j) : EReal) = ∑ s ∈ Finset.range (n % 16 + 1), part m c i j (n - n % 16 + s) := by
  refine run_sum 16 (by omega) (fun n h => ((outsAt0 m c n h).2 (ix2 i j) : EReal)) (part m c i j) ?_ ?_
  · intro n h h0
    rw [outsAt0_A m c ⟨n, h⟩ h0 (by simp only; omega) (by simp only; omega)]
    dsimp only
    rw [sout_A, pay1_apply]
    exact (part_eq m c i j ⟨n, h⟩).symm
  · intro n h h' h0 h1
    rw [outsAt0_B m c ⟨n, h⟩ h0 (by simp only; omega) h1]
    dsimp only
    rw [sout_B, pay2_apply]
    exact congrArg _ (part_eq m c i j ⟨n, h⟩).symm

theorem last (c : Dev nD) (o : Fin 1) (i : Fin 1024) (j : Fin 1024) (t : Fin cfg0.N) (ht : t.val % 16 = 15) :
    ((outsAt0 m c t.val t.isLt).1 (ix3 o i j) : EReal) = ∑ s ∈ Finset.range 16, part m c i j (t.val - 15 + s) := by
  rw [outsAt0_C m c t (by omega) (by omega) ht]
  dsimp only
  rw [out_C, pay3_apply, pay2_apply, scratch m c i j _ _ (by omega), ← part_eq m c i j t, Finset.sum_range_succ _ 15]
  have e1 : (t.val - 1) % 16 = 14 := by omega
  rw [e1, show t.val - 1 - 14 = t.val - 15 by omega, show t.val - 15 + 15 = t.val by omega]

theorem e0 : ∀ t : Fin cfg0.N, win0_0.index t = ![t.val % 16, 0] :=
  (by decide +kernel : ∀ t : Fin grid0.N, win0_0.index t = ![t.val % 16, 0])
theorem e1 : ∀ t : Fin cfg0.N, win0_1.index t = ![t.val / 16, t.val % 16, 0] :=
  (by decide +kernel : ∀ t : Fin grid0.N, win0_1.index t = ![t.val / 16, t.val % 16, 0])
theorem e2 : ∀ t : Fin cfg0.N, win0_2.index t = ![t.val / 16, 0, 0] :=
  (by decide +kernel : ∀ t : Fin grid0.N, win0_2.index t = ![t.val / 16, 0, 0])

/-- The result as one function of the arrays the region finds. -/
def G2 (A0 : S8192x1024.Idx → EReal) (A1 : S2x8192x1024.Idx → EReal) (y : S2x1024x1024.Idx) : EReal :=
  ∑ k : Fin 8192, A0 (ix2 k (y 1)) * A1 (ix3 (y 0) k (y 2))

theorem emb_0 (t t' : Fin cfg0.N) (j : ℕ) (hj : j < 16) (hm : t'.val % 16 = j) (hd : t'.val / 16 = t.val / 16)
    (k : Fin 512) (y : S1x1024x1024.Idx) : (win0_0.blk t').view.emb (ix2 k (y 1))
      = ix2 ⟨j * 512 + k.val, by omega⟩ ((win0_2.blk t).view.emb y 1) := by blk_ext [e0, e2, hm, hd]

theorem emb_1 (t t' : Fin cfg0.N) (j : ℕ) (hj : j < 16) (hm : t'.val % 16 = j) (hd : t'.val / 16 = t.val / 16)
    (k : Fin 512) (y : S1x1024x1024.Idx) : (win0_1.blk t').view.emb (ix3 0 k (y 2))
      = ix3 ((win0_2.blk t).view.emb y 0) ⟨j * 512 + k.val, by omega⟩ ((win0_2.blk t).view.emb y 2) := by
  blk_ext [e1, e2, hm, hd]

theorem arr2 (c : Dev nD) : (dats m 0 c).arrAt 2 cfg0.N = G2 (V m c main_v0) (V m c main_v4) := by
  refine (dats m 0 c).arrAt_eq_of_covers 2 _ (by decide +kernel) fun t hf y => ?_
  have ht : t.val % 16 = 15 := (flush0_2 t).mp hf
  have hN : t.val < 32 := lt_of_lt_of_eq t.isLt (show cfg0.N = 32 from N_0)
  blk_simp
  rw [after0_2]
  have hy : y = ix3 (y 0) (y 1) (y 2) := by funext a; fin_cases a <;> rfl
  refine (congrArg _ hy).trans ((last m c (y 0) (y 1) (y 2) t ht).trans ?_)
  unfold G2
  refine tiles_sum 16 512 (by norm_num) _ _ fun j hj => ?_
  have hlt : t.val - 15 + j < cfg0.N := by have : cfg0.N = 32 := N_0; omega
  rw [show part m c (y 1) (y 2) (t.val - 15 + j) = _ from part_eq m c (y 1) (y 2) ⟨t.val - 15 + j, hlt⟩]
  unfold tile
  refine Finset.sum_congr rfl fun k _ => ?_
  blk_simp [iblk]
  have hm : (t.val - 15 + j) % 16 = j := by omega
  have hd : (t.val - 15 + j) / 16 = t.val / 16 := by omega
  rw [emb_0 t ⟨_, hlt⟩ j hj hm hd k y, emb_1 t ⟨_, hlt⟩ j hj hm hd k y]
  rfl

/-! ## The claim -/

theorem V0 (c : Dev nD) : @Eq (FVec Ideal S8192x1024 .bf16) (V m c main_v0)
    (truncf .bf16 (φ := .f32) (m ((c : Thread nD τ).loc main_arg0)) bitsLt_bf16_f32) := by
  entry_read
  rfl
theorem V1 (c : Dev nD) : @Eq (FVec Ideal S2x8192x1024 .bf16) (V m c main_v4)
    (truncf .bf16 (φ := .f32) (concatenate S2x8192x1024 0
      [⟨S1x8192x1024, broadcastInDim S1x8192x1024 ![1, 2] bcast_S8192x1024_S1x8192x1024_1_2 (m ((c : Thread nD τ).loc main_arg3))⟩,
       ⟨S1x8192x1024, broadcastInDim S1x8192x1024 ![1, 2] bcast_S8192x1024_S1x8192x1024_1_2 (m ((c : Thread nD τ).loc main_arg4))⟩]
      concatenates_S1x8192x1024_S1x8192x1024_S2x8192x1024_d0) bitsLt_bf16_f32) := by
  entry_read
  rfl

/-- The reference's stacked gradients are the kernel's result over the stacked arrays. -/
theorem tie (h : FVec Ideal S8192x1024 .f32) (d0 d1 : FVec Ideal S8192x1024 .f32) :
    concatenate Cert.Reference15Ideal.S2x1024x1024 0
      [⟨Cert.Reference15Ideal.S1x1024x1024, broadcastInDim Cert.Reference15Ideal.S1x1024x1024 ![1, 2] Cert.Reference15Ideal.Gen.bcast_S1024x1024_S1x1024x1024_1_2
        (transpose Cert.Reference15Ideal.S1024x1024 [1, 0] (Host.dotGeneral Cert.Reference15Ideal.dot_S8192x1024_S8192x1024_S1024x1024_0_0_1_1_n_n none d0 h) Cert.Reference15Ideal.Gen.transposes_S1024x1024_S1024x1024_1_0)⟩,
       ⟨Cert.Reference15Ideal.S1x1024x1024, broadcastInDim Cert.Reference15Ideal.S1x1024x1024 ![1, 2] Cert.Reference15Ideal.Gen.bcast_S1024x1024_S1x1024x1024_1_2
        (transpose Cert.Reference15Ideal.S1024x1024 [1, 0] (Host.dotGeneral Cert.Reference15Ideal.dot_S8192x1024_S8192x1024_S1024x1024_0_0_1_1_n_n none d1 h) Cert.Reference15Ideal.Gen.transposes_S1024x1024_S1024x1024_1_0)⟩]
      Cert.Reference15Ideal.Gen.concatenates_S1x1024x1024_S1x1024x1024_S2x1024x1024_d0
    = G2 (truncf .bf16 (φ := .f32) h bitsLt_bf16_f32) (truncf .bf16 (φ := .f32) (concatenate S2x8192x1024 0
      [⟨S1x8192x1024, broadcastInDim S1x8192x1024 ![1, 2] bcast_S8192x1024_S1x8192x1024_1_2 d0⟩,
       ⟨S1x8192x1024, broadcastInDim S1x8192x1024 ![1, 2] bcast_S8192x1024_S1x8192x1024_1_2 d1⟩]
      concatenates_S1x8192x1024_S1x8192x1024_S2x8192x1024_d0) bitsLt_bf16_f32) := by
  funext y; idx_vars y
  fin_cases y0
  · pointwise [G2]
    exact Finset.sum_congr rfl fun k _ => mul_comm _ _
  · pointwise [G2]
    exact Finset.sum_congr rfl fun k _ => mul_comm _ _

/-- The claim of values: both programs end with the gradients of the weights. -/
theorem algebraic : Cert.algebraic_Kernel15Ideal_Reference15Ideal := by
  intro m g m' g' hpre hagree
  refine ⟨fun c => G2 (V m c main_v0) (V m c main_v4), ?_, ?_⟩
  · exact (θ_run _ _ _).mono (fun r h c => ⟨(h c).1.trans (arr2 m c), (h c).2⟩)
      (Cert.Kernel15Ideal.Value.run_blocks m g)
  · refine (θ_run _ _ _).mono ?_ (Cert.Reference15Ideal.Value.run m' g')
    intro r h c
    refine ⟨(h c).1.trans ?_, (h c).2⟩
    clear h
    obtain ⟨h0, h1, h2, h3, h4⟩ := hagree c
    rw [h0, h3, h4]
    beta_reduce
    rw [V0, V1]
    exact tie _ _ _

end Cert.ConvDwin

end
-- ==== Proof.RmsLaw.lean ====
/-
  The scalar law of the gradient through a row's normalisation by its root mean square.
-/
module

public import proofs.«01_k».proof.Proof.Common

@[expose] public section

noncomputable section

namespace Cert.Rms

open Cert.Common Idealize.ShloMosaic

/-- The constants of the two programs: the width of a row, the regulariser and minus one half. -/
def cN : EReal := Ideal.ofBits .f32 0x44800000#32
def cE : EReal := Ideal.ofBits .f32 0x358637BD#32
def cH : EReal := Ideal.ofBits .f32 0xBF000000#32

theorem cN_eq : cN = ((1024 : ℝ) : EReal) := by
  unfold cN
  simp [Ideal.ofBits, Ideal.ieee]; rw [← EReal.coe_mul]; norm_num
theorem cH_eq : cH = ((-(1 / 2) : ℝ) : EReal) := by
  unfold cH
  simp [Ideal.ofBits, Ideal.ieee]; rw [← EReal.coe_mul]; norm_num
theorem cE_eq : ∃ e : ℝ, 0 < e ∧ cE = (e : EReal) := by
  unfold cE
  simp [Ideal.ofBits, Ideal.ieee]
  exact ⟨_, by positivity, (EReal.coe_mul _ _).symm⟩

variable {ι : Type} [Fintype ι]

/-- The regularised mean square of a row. -/
def msq (x : ι → EReal) : EReal := Ideal.div (∑ k, x k * x k) cN + cE

/-- The reciprocal root mean square of a row. -/
def rr (x : ι → EReal) : EReal := Ideal.rsqrt (msq x)

/-- The gradient through the normalisation as the kernel writes it. -/
def gK (x dh g : ι → EReal) (d : EReal) (j : ι) : EReal :=
  d + rr x * (dh j * g j - x j * rr x * Ideal.div (∑ k, dh k * g k * (x k * rr x)) cN)

/-- The same as the reference writes it: the row's factor on its own. -/
def gQ (x dh g : ι → EReal) : EReal :=
  Ideal.div ((∑ k, x k * (dh k * g k)) * (cH * Ideal.div (rr x) (msq x))) cN

/-- … and the gradient. -/
def gR (x dh g : ι → EReal) (d : EReal) (j : ι) : EReal :=
  d + dh j * g j * rr x + x j * gQ x dh g + gQ x dh g * x j

theorem sq_nonneg' (a : EReal) : 0 ≤ a * a := by
  induction a using EReal.rec with
  | bot => simp
  | top => simp
  | coe r => rw [← EReal.coe_mul]; exact EReal.coe_nonneg.mpr (mul_self_nonneg r)

theorem sum_sq_top (x : ι → EReal) (i : ι) (h : x i = ⊤ ∨ x i = ⊥) : ∑ k, x k * x k = ⊤ := by
  have h1 : x i * x i = ⊤ := by rcases h with h | h <;> rw [h] <;> rfl
  have h2 : x i * x i ≤ ∑ k, x k * x k := Finset.single_le_sum (f := fun k => x k * x k) (fun k _ => sq_nonneg' (x k)) (Finset.mem_univ i)
  rw [h1] at h2
  exact top_le_iff.mp h2

theorem msq_top (x : ι → EReal) (i : ι) (h : x i = ⊤ ∨ x i = ⊥) : msq x = ⊤ := by
  obtain ⟨e, he, hE⟩ := cE_eq
  unfold msq
  rw [sum_sq_top x i h, hE, cN_eq]
  have h1 : ((1024 : ℝ) : EReal) ≠ 0 := by exact_mod_cast (by norm_num : (1024 : ℝ) ≠ 0)
  unfold Ideal.div
  rw [if_neg h1, ← EReal.coe_inv, EReal.top_mul_coe_of_pos (by norm_num), EReal.top_add_coe]

theorem coe_sum {s : Finset ι} (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A real value divided by the width of a row. -/
theorem div_N (a : EReal) : Ideal.div a cN = a * ((1 / 1024 : ℝ) : EReal) := by
  have h1 : ((1024 : ℝ) : EReal) ≠ 0 := by exact_mod_cast (by norm_num : (1024 : ℝ) ≠ 0)
  rw [cN_eq]
  unfold Ideal.div
  rw [if_neg h1, ← EReal.coe_inv, one_div]

theorem msq_coe (y : ι → ℝ) : ∃ q : ℝ, 0 < q ∧ msq (fun k => (y k : EReal)) = (q : EReal) := by
  obtain ⟨e, he, hE⟩ := cE_eq
  refine ⟨(∑ k, y k * y k) * (1 / 1024) + e, ?_, ?_⟩
  · have : 0 ≤ ∑ k, y k * y k := Finset.sum_nonneg fun k _ => mul_self_nonneg (y k)
    positivity
  · unfold msq
    rw [div_N, hE]
    simp only [← EReal.coe_mul]
    rw [coe_sum, ← EReal.coe_mul, ← EReal.coe_add]

/-- The two forms of the gradient agree, whatever the values: an infinite element makes the reciprocal root zero, and
    both forms leave what came in. -/
theorem rms_law (x dh g : ι → EReal) (d : EReal) (j : ι) : gK x dh g d j = gR x dh g d j := by
  by_cases hx : ∃ i, x i = ⊤ ∨ x i = ⊥
  · obtain ⟨i, hi⟩ := hx
    have hm := msq_top x i hi
    have hr : rr x = 0 := by unfold rr; rw [hm]; rfl
    have hQ : gQ x dh g = 0 := by
      unfold gQ
      rw [hr, hm, div_N]
      simp [Ideal.div]
    unfold gK gR
    rw [hQ, hr]; simp
  · have hy : ∀ i, ∃ r : ℝ, x i = (r : EReal) := by
      intro i
      have hi : ¬(x i = ⊤ ∨ x i = ⊥) := fun h => hx ⟨i, h⟩
      generalize x i = z at hi
      induction z using EReal.rec with
      | bot => exact absurd (Or.inr rfl) hi
      | top => exact absurd (Or.inl rfl) hi
      | coe r => exact ⟨r, rfl⟩
    choose y hy using hy
    obtain rfl : x = fun k => (y k : EReal) := funext hy
    obtain ⟨q, hq, hm⟩ := msq_coe y
    have hr : rr (fun k => (y k : EReal)) = (((Real.sqrt q)⁻¹ : ℝ) : EReal) := by
      unfold rr
      rw [hm]
      show (if q < 0 then (⊥ : EReal) else if q = 0 then ⊤ else (((Real.sqrt q)⁻¹ : ℝ) : EReal)) = _
      rw [if_neg (not_lt.mpr hq.le), if_neg hq.ne']
    have hrp : 0 < (Real.sqrt q)⁻¹ := inv_pos.mpr (Real.sqrt_pos.mpr hq)
    have hrq : q⁻¹ = (Real.sqrt q)⁻¹ * (Real.sqrt q)⁻¹ := by rw [← mul_inv, Real.mul_self_sqrt hq.le]
    have hS : ∑ k, dh k * g k * ((y k : EReal) * (((Real.sqrt q)⁻¹ : ℝ) : EReal))
        = (((Real.sqrt q)⁻¹ : ℝ) : EReal) * ∑ k, (y k : EReal) * (dh k * g k) := by
      rw [coe_mul_sum _ _ hrp.le]
      exact Finset.sum_congr rfl fun k _ => by ac_rfl
    have hq0 : ((q : ℝ) : EReal) ≠ 0 := by exact_mod_cast hq.ne'
    have hd : Ideal.div (((Real.sqrt q)⁻¹ : ℝ) : EReal) (q : EReal)
        = (((Real.sqrt q)⁻¹ * ((Real.sqrt q)⁻¹ * (Real.sqrt q)⁻¹) : ℝ) : EReal) := by
      unfold Ideal.div
      rw [if_neg hq0, ← EReal.coe_inv, hrq, ← EReal.coe_mul]
    unfold gK gR gQ
    rw [hr, hm, hS, hd, div_N, div_N, cH_eq]
    generalize (Real.sqrt q)⁻¹ = r at hrp
    generalize ∑ k, (y k : EReal) * (dh k * g k) = S
    generalize dh j * g j = u
    dsimp only
    generalize y j = w
    have e1 : (r : EReal) * ((w : EReal) * r * ((r : EReal) * S * ((1 / 1024 : ℝ) : EReal)))
        = ((r * w * r * r * (1 / 1024) : ℝ) : EReal) * S := by
      simp only [EReal.coe_mul]; ac_rfl
    have e2 : (w : EReal) * (S * (((-(1 / 2) : ℝ) : EReal) * ((r * (r * r) : ℝ) : EReal)) * ((1 / 1024 : ℝ) : EReal))
        = ((w * (-(1 / 2)) * (r * (r * r)) * (1 / 1024) : ℝ) : EReal) * S := by
      simp only [EReal.coe_mul]; ac_rfl
    rw [mul_comm _ (w : EReal), e2, EReal.mul_sub_of_nonneg_of_ne_top (EReal.coe_nonneg.mpr hrp.le) (EReal.coe_ne_top r), e1,
      mul_comm u, sub_eq_add_neg, ← EReal.neg_mul, ← EReal.coe_neg, add_assoc, add_assoc]
    congr 1
    congr 1
    have e3 : -(r * w * r * r * (1 / 1024)) = 2 * (w * (-(1 / 2)) * (r * (r * r)) * (1 / 1024)) := by ring
    rw [e3]
    generalize w * (-(1 / 2)) * (r * (r * r)) * (1 / 1024) = a
    rw [EReal.coe_mul, mul_assoc]
    generalize (a : EReal) * S = z
    induction z using EReal.rec with
    | bot => exact EReal.coe_mul_bot_of_pos (by norm_num)
    | top => exact EReal.coe_mul_top_of_pos (by norm_num)
    | coe t => rw [← EReal.coe_mul, ← EReal.coe_add, two_mul]

end Cert.Rms

end
-- ==== Proof.ConvLnLaw.lean ====
/-
  The scalar law of the gradient through a row's normalisation by its mean and variance, and through swish after it.
-/
module

public import proofs.«01_k».proof.Proof.GateLaw
public import proofs.«01_k».proof.Proof.RmsLaw

@[expose] public section

noncomputable section

namespace Cert.ConvLn

open Cert.Common Cert.Gate Cert.Rms Idealize.ShloMosaic

/-- The regulariser of the variance. -/
def cV : EReal := Ideal.ofBits .f32 0x3727C5AC#32

theorem cV_eq : ∃ e : ℝ, 0 < e ∧ cV = (e : EReal) := by
  unfold cV
  simp [Ideal.ofBits, Ideal.ieee]
  exact ⟨_, by positivity, (EReal.coe_mul _ _).symm⟩

variable {ι : Type} [Fintype ι]

/-- A row's mean, its centred elements, its regularised variance, its reciprocal deviation and its normalised elements. -/
def mu (x : ι → EReal) : EReal := Ideal.div (∑ k, x k) cN
def xc (x : ι → EReal) (k : ι) : EReal := x k - mu x
def var (x : ι → EReal) : EReal := Ideal.div (∑ k, xc x k * xc x k) cN + cV
def rs (x : ι → EReal) : EReal := Ideal.rsqrt (var x)
def xh (x : ι → EReal) (k : ι) : EReal := xc x k * rs x

/-- The row after the gain and the bias. -/
def ln (x g b : ι → EReal) (k : ι) : EReal := xh x k * g k + b k

/-- The gradient with respect to it, through swish, as the kernel writes it. -/
def dln (x g b ds : ι → EReal) (k : ι) : EReal :=
  ds k * (sg (ln x g b k) * (1 + ln x g b k * (1 - sg (ln x g b k))))

/-- … and as the reference writes it. -/
def dlnR (x g b ds : ι → EReal) (k : ι) : EReal :=
  ds k * sg (ln x g b k) + ln x g b k * ds k * (sg (ln x g b k) * (1 - sg (ln x g b k)))

/-- The gradient through the normalisation as the kernel writes it: `u` is the gradient of the normalised row. -/
def dvK (x u : ι → EReal) (j : ι) : EReal :=
  rs x * (u j - Ideal.div (∑ k, u k) cN - xh x j * Ideal.div (∑ k, u k * xh x k) cN)

/-- The same as the reference writes it: the factor of the variance on its own … -/
def qR (x u : ι → EReal) : EReal := Ideal.div ((∑ k, xc x k * u k) * (cH * Ideal.div (rs x) (var x))) cN

/-- … the gradient of the centred row … -/
def dxcR (x u : ι → EReal) (j : ι) : EReal := u j * rs x + xc x j * qR x u + qR x u * xc x j

/-- … and the gradient. -/
def dvR (x u : ι → EReal) (j : ι) : EReal := dxcR x u j + Ideal.div (∑ k, -dxcR x u k) cN

/-- The gradient through swish is the same in both forms, for a finite gradient that comes in. -/
theorem dln_law (x g b ds : ι → EReal) (k : ι) (h : IsReal (ds k)) : dlnR x g b ds k = dln x g b ds k := by
  have h1 := gate_law (ln x g b k) (ds k) 1 h ⟨1, EReal.coe_one.symm⟩
  unfold gA at h1
  rw [mul_one] at h1
  exact h1.symm

/-- It is finite then. -/
theorem dln_real (x g b ds : ι → EReal) (k : ι) (h : IsReal (ds k)) : IsReal (dln x g b ds k) := by
  unfold dln
  refine h.mul ?_
  generalize ln x g b k = a
  induction a using EReal.rec with
  | bot => rw [sg_bot, zero_mul]; exact ⟨0, rfl⟩
  | top =>
    have h1 : (1 : EReal) - 1 = 0 := by rw [← EReal.coe_one, ← EReal.coe_sub, sub_self, EReal.coe_zero]
    rw [sg_top, h1, mul_zero, add_zero, mul_one]; exact ⟨1, EReal.coe_one.symm⟩
  | coe r =>
    rw [sg_coe, ← EReal.coe_one, ← EReal.coe_sub, ← EReal.coe_mul, ← EReal.coe_add, ← EReal.coe_mul]
    exact ⟨_, rfl⟩

theorem real_of_add {a b : EReal} (h : IsReal (a + b)) : IsReal a ∧ IsReal b := by
  obtain ⟨r, h⟩ := h
  induction a using EReal.rec with
  | bot => rw [EReal.bot_add] at h; exact absurd h.symm (EReal.coe_ne_bot r)
  | top =>
    induction b using EReal.rec with
    | bot => rw [EReal.add_bot] at h; exact absurd h.symm (EReal.coe_ne_bot r)
    | top => exact absurd h.symm (EReal.coe_ne_top r)
    | coe y => rw [EReal.top_add_coe] at h; exact absurd h.symm (EReal.coe_ne_top r)
  | coe x =>
    induction b using EReal.rec with
    | bot => rw [EReal.add_bot] at h; exact absurd h.symm (EReal.coe_ne_bot r)
    | top => rw [EReal.coe_add_top] at h; exact absurd h.symm (EReal.coe_ne_top r)
    | coe y => exact ⟨⟨x, rfl⟩, ⟨y, rfl⟩⟩

/-- A finite sum has finite terms. -/
theorem real_of_sum (s : Finset ι) (f : ι → EReal) (h : IsReal (∑ k ∈ s, f k)) : ∀ k ∈ s, IsReal (f k) := by
  classical
  induction s using Finset.induction_on with
  | empty => exact fun k hk => absurd hk (Finset.notMem_empty k)
  | insert a s ha ih =>
    rw [Finset.sum_insert ha] at h
    obtain ⟨h1, h2⟩ := real_of_add h
    intro k hk
    rcases Finset.mem_insert.mp hk with rfl | hk
    · exact h1
    · exact ih h2 k hk

/-- A row with an infinite element has an infinite variance. -/
theorem var_top (x : ι → EReal) (i : ι) (hx : ¬∀ k, IsReal (x k)) : var x = ⊤ := by
  have hs : ¬IsReal (∑ k, x k) := fun h => hx fun k => real_of_sum _ _ h k (Finset.mem_univ k)
  have hm : mu x = ⊤ ∨ mu x = ⊥ := by
    unfold mu
    rw [div_N]
    generalize ∑ k, x k = s at hs
    induction s using EReal.rec with
    | bot => exact .inr (EReal.bot_mul_coe_of_pos (by norm_num))
    | top => exact .inl (EReal.top_mul_coe_of_pos (by norm_num))
    | coe r => exact absurd ⟨r, rfl⟩ hs
  have hc : xc x i = ⊤ ∨ xc x i = ⊥ := by
    unfold xc
    generalize x i = z
    rcases hm with h | h <;> rw [h] <;> induction z using EReal.rec <;> simp
  obtain ⟨e, he, hE⟩ := cV_eq
  unfold var
  rw [sum_sq_top (xc x) i hc, hE, div_N, EReal.top_mul_coe_of_pos (by norm_num), EReal.top_add_coe]

theorem rs_zero (x : ι → EReal) (i : ι) (hx : ¬∀ k, IsReal (x k)) : rs x = 0 := by
  unfold rs; rw [var_top x i hx]; rfl

/-- The two forms of the gradient through the normalisation agree, for a finite gradient of the normalised row; the row
    itself may hold anything. -/
theorem ln_law (hn : Fintype.card ι = 1024) (x u : ι → EReal) (hu : ∀ k, IsReal (u k)) (j : ι) : dvR x u j = dvK x u j := by
  by_cases hx : ∀ k, IsReal (x k)
  · choose y hy using hx
    obtain rfl : x = fun k => (y k : EReal) := funext hy
    choose w hw using hu
    obtain rfl : u = fun k => (w k : EReal) := funext hw
    have hmu : mu (fun k => (y k : EReal)) = (((∑ k, y k) * (1 / 1024) : ℝ) : EReal) := by
      unfold mu; rw [div_N, coe_sum, ← EReal.coe_mul]
    obtain ⟨z, hz, hz0⟩ : ∃ z : ι → ℝ, (∀ k, xc (fun k => (y k : EReal)) k = (z k : EReal)) ∧ ∑ k, z k = 0 := by
      refine ⟨fun k => y k - (∑ k, y k) * (1 / 1024), fun k => ?_, ?_⟩
      · unfold xc; rw [hmu, ← EReal.coe_sub]
      · rw [Finset.sum_sub_distrib, Finset.sum_const, Finset.card_univ, hn, nsmul_eq_mul]; push_cast; ring
    obtain ⟨q, hq, hv⟩ : ∃ q : ℝ, 0 < q ∧ var (fun k => (y k : EReal)) = (q : EReal) := by
      obtain ⟨e, he, hE⟩ := cV_eq
      refine ⟨(∑ k, z k * z k) * (1 / 1024) + e, ?_, ?_⟩
      · have : 0 ≤ ∑ k, z k * z k := Finset.sum_nonneg fun k _ => mul_self_nonneg (z k)
        positivity
      · unfold var
        simp only [hz]
        rw [div_N, hE]
        simp only [← EReal.coe_mul]
        rw [coe_sum, ← EReal.coe_mul, ← EReal.coe_add]
    have hr : rs (fun k => (y k : EReal)) = (((Real.sqrt q)⁻¹ : ℝ) : EReal) := by
      unfold rs
      rw [hv]
      show (if q < 0 then (⊥ : EReal) else if q = 0 then ⊤ else (((Real.sqrt q)⁻¹ : ℝ) : EReal)) = _
      rw [if_neg (not_lt.mpr hq.le), if_neg hq.ne']
    have hrq : q⁻¹ = (Real.sqrt q)⁻¹ * (Real.sqrt q)⁻¹ := by rw [← mul_inv, Real.mul_self_sqrt hq.le]
    have hq0 : ((q : ℝ) : EReal) ≠ 0 := by exact_mod_cast hq.ne'
    have hd : Ideal.div (((Real.sqrt q)⁻¹ : ℝ) : EReal) (q : EReal)
        = (((Real.sqrt q)⁻¹ * ((Real.sqrt q)⁻¹ * (Real.sqrt q)⁻¹) : ℝ) : EReal) := by
      unfold Ideal.div
      rw [if_neg hq0, ← EReal.coe_inv, hrq, ← EReal.coe_mul]
    unfold dvR dvK dxcR qR xh
    simp only [hz, hr, hv, hd, div_N, cH_eq, ← EReal.coe_mul, coe_sum, ← EReal.coe_add, ← EReal.coe_neg, ← EReal.coe_sub]
    congr 1
    generalize (Real.sqrt q)⁻¹ = r
    have hS : ∑ k, w k * (z k * r) = r * ∑ k, z k * w k := by
      rw [Finset.mul_sum]; exact Finset.sum_congr rfl fun k _ => by ring
    rw [hS]
    generalize ∑ k, z k * w k = S
    have hT : ∀ a : ℝ, ∑ k, -(w k * r + z k * a + a * z k) = -(r * ∑ k, w k) := by
      intro a
      have : ∀ k, -(w k * r + z k * a + a * z k) = -(r * w k) + (-2 * a) * z k := fun k => by ring
      simp only [this]
      rw [Finset.sum_add_distrib, ← Finset.mul_sum, hz0, Finset.sum_neg_distrib, ← Finset.mul_sum]; ring
    rw [hT]
    ring
  · have h0 := rs_zero x j hx
    have hQ : qR x u = 0 := by
      unfold qR
      rw [h0, div_N]
      have : Ideal.div 0 (var x) = 0 := by rw [var_top x j hx]; simp [Ideal.div]
      rw [this, mul_zero, mul_zero, zero_mul]
    have hX : ∀ k, dxcR x u k = 0 := fun k => by
      unfold dxcR; rw [hQ, h0]; simp
    unfold dvR dvK
    simp only [hX, h0, zero_mul, neg_zero, Finset.sum_const_zero, div_N]
    simp

end Cert.ConvLn

end
-- ==== Proof.ConvLn.lean ====
/-
  The gradient through the convolution's normalisation and swish: a block of rows at each grid point, and the three sums over
  the rows — the gain's gradient, the bias's and the convolution's bias's — added up over the points, each on its own row.
-/
module

public import proofs.«01_k».proof.Defs
public import proofs.«01_k».proof.Proof.Tiles
public import proofs.«01_k».proof.Proof.ConvLnLaw
public import proofs.«01_k».proof.Proof.Gen.Kernel7Ideal.Value
public import Idealize.ShloMosaic.Lib.Claim

@[expose] public section

set_option maxRecDepth 16384

noncomputable section

namespace Cert.ConvLn

open Cert.Common Cert.Gate Cert.Rms Cert.Kernel7Ideal Cert.Kernel7Ideal.Gen Idealize.ShloMosaic Idealize.ShloMosaic.TcCoe Idealize.SL.Sem

theorem hz : (![0, 0] : Fin 2 → Nat) = fun _ => 0 := funext fun a => by fin_cases a <;> rfl

/-- A row of a block. -/
def row {n : ℕ} (x : (⟨2, ![n, 1024]⟩ : Shape).Idx → EReal) (p : Fin n) (k : Fin 1024) : EReal := x (ix2 p k)

/-- Row `p`'s gradient before the gain and the bias, … -/
def dl {n : ℕ} (x0 x1 : (⟨2, ![n, 1024]⟩ : Shape).Idx → EReal) (x2 x3 : (⟨2, ![1, 1024]⟩ : Shape).Idx → EReal) (p : Fin n)
    (j : Fin 1024) : EReal := dln (row x0 p) (row x2 0) (row x3 0) (row x1 p) j

/-- … and with respect to the row that was normalised. -/
def dv {n : ℕ} (x0 x1 : (⟨2, ![n, 1024]⟩ : Shape).Idx → EReal) (x2 x3 : (⟨2, ![1, 1024]⟩ : Shape).Idx → EReal) (p : Fin n)
    (j : Fin 1024) : EReal := dvK (row x0 p) (fun k => dl x0 x1 x2 x3 p k * x2 (ix2 0 k)) j

/-- What row `p` adds to sum `k` of the three. -/
def term {n : ℕ} (x0 x1 : (⟨2, ![n, 1024]⟩ : Shape).Idx → EReal) (x2 x3 : (⟨2, ![1, 1024]⟩ : Shape).Idx → EReal) (k : Fin 3)
    (j : Fin 1024) (p : Fin n) : EReal :=
  if k.val = 0 then dl x0 x1 x2 x3 p j * xh (row x0 p) j else if k.val = 1 then dl x0 x1 x2 x3 p j else dv x0 x1 x2 x3 p j

theorem pay11_apply (x : Vec Ideal S256x1024 .f32) (p : Fin 256) (j : Fin 1024) :
    (k0_pay11 x (ix2 p j) : EReal) = xc (row x p) j := by
  pointwise [k0_pay11, xc, mu, row, cN]

theorem pay12_apply (x : Vec Ideal S256x1024 .f32) (p : Fin 256) (o : Fin 1) :
    (k0_pay12 x (ix2 p o) : EReal) = rs (row x p) := by
  unfold k0_pay12
  pointwise [pay11_apply, rs, var, cN, cV]

theorem pay13_apply (x : Vec Ideal S256x1024 .f32) (p : Fin 256) (j : Fin 1024) :
    (k0_pay13 x (ix2 p j) : EReal) = xh (row x p) j := by
  unfold k0_pay13
  pointwise [pay11_apply, pay12_apply, xh]

section
variable (x0 x1 : Vec Ideal S256x1024 .f32) (x2 x3 : Vec Ideal S1x1024 .f32)

theorem pay14_apply (p : Fin 256) (j : Fin 1024) : (k0_pay14 x0 x2 x3 x1 (ix2 p j) : EReal) = dl x0 x1 x2 x3 p j := by
  unfold k0_pay14
  pointwise [pay13_apply, dl, dln, ln, row, sg, zero_sub]

theorem pay1_apply (p : Fin 256) (j : Fin 1024) :
    (k0_pay1 (k0_pay12 x0) (k0_pay13 x0) (k0_pay14 x0 x2 x3 x1) x2 (ix2 p j) : EReal) = dv x0 x1 x2 x3 p j := by
  unfold k0_pay1
  pointwise [pay12_apply, pay13_apply, pay14_apply, dv, dvK, cN]

theorem pay2_apply (o : Fin 1) (j : Fin 1024) :
    (k0_pay2 (k0_pay13 x0) (k0_pay14 x0 x2 x3 x1) (ix2 o j) : EReal) = ∑ p : Fin 256, term x0 x1 x2 x3 0 j p := by
  unfold k0_pay2
  pointwise [pay13_apply, pay14_apply, term]

theorem pay3_apply (o : Fin 1) (j : Fin 1024) :
    (k0_pay3 (k0_pay14 x0 x2 x3 x1) (ix2 o j) : EReal) = ∑ p : Fin 256, term x0 x1 x2 x3 1 j p := by
  unfold k0_pay3
  pointwise [pay14_apply, term]

theorem pay4_apply (o : Fin 1) (j : Fin 1024) :
    (k0_pay4 (k0_pay12 x0) (k0_pay13 x0) (k0_pay14 x0 x2 x3 x1) x2 (ix2 o j) : EReal)
      = ∑ p : Fin 256, term x0 x1 x2 x3 2 j p := by
  unfold k0_pay4
  pointwise [pay1_apply, term]

/-- What a block of rows adds to the three sums. -/
def tile (y : S3x1x1024.Idx) : EReal := ∑ p : Fin 256, term x0 x1 x2 x3 (y 0) (y 2) p

theorem tile_emb_0 (x : S1x1x1024.Idx) :
    tile x0 x1 x2 x3 ((Rect.unit (s := S3x1x1024) ![0, 0, 0] S1x1x1024.size inb_S3x1x1024_S1x1x1024_0_0_0).emb x)
      = ∑ p : Fin 256, term x0 x1 x2 x3 0 (x 2) p := by
  unfold tile
  have e : (Rect.unit (s := S3x1x1024) ![0, 0, 0] S1x1x1024.size inb_S3x1x1024_S1x1x1024_0_0_0).emb x = ix3 0 0 (x 2) := by
    have hx := (x 0).isLt
    have hy := (x 1).isLt
    have hx' : (x 0).val < 1 := hx
    have hy' : (x 1).val < 1 := hy
    funext a; fin_cases a <;> apply Fin.ext
    · show 0 + 1 * (x 0).val = 0; omega
    · show 0 + 1 * (x 1).val = 0; omega
    · show 0 + 1 * (x 2).val = (x 2).val; omega
  rw [e]; rfl

theorem tile_emb_1 (x : S1x1x1024.Idx) :
    tile x0 x1 x2 x3 ((Rect.unit (s := S3x1x1024) ![1, 0, 0] S1x1x1024.size inb_S3x1x1024_S1x1x1024_1_0_0).emb x)
      = ∑ p : Fin 256, term x0 x1 x2 x3 1 (x 2) p := by
  unfold tile
  have e : (Rect.unit (s := S3x1x1024) ![1, 0, 0] S1x1x1024.size inb_S3x1x1024_S1x1x1024_1_0_0).emb x = ix3 1 0 (x 2) := by
    have hx := (x 0).isLt
    have hy := (x 1).isLt
    have hx' : (x 0).val < 1 := hx
    have hy' : (x 1).val < 1 := hy
    funext a; fin_cases a <;> apply Fin.ext
    · show 1 + 1 * (x 0).val = 1; omega
    · show 0 + 1 * (x 1).val = 0; omega
    · show 0 + 1 * (x 2).val = (x 2).val; omega
  rw [e]; rfl

theorem tile_emb_2 (x : S1x1x1024.Idx) :
    tile x0 x1 x2 x3 ((Rect.unit (s := S3x1x1024) ![2, 0, 0] S1x1x1024.size inb_S3x1x1024_S1x1x1024_2_0_0).emb x)
      = ∑ p : Fin 256, term x0 x1 x2 x3 2 (x 2) p := by
  unfold tile
  have e : (Rect.unit (s := S3x1x1024) ![2, 0, 0] S1x1x1024.size inb_S3x1x1024_S1x1x1024_2_0_0).emb x = ix3 2 0 (x 2) := by
    have hx := (x 0).isLt
    have hy := (x 1).isLt
    have hx' : (x 0).val < 1 := hx
    have hy' : (x 1).val < 1 := hy
    funext a; fin_cases a <;> apply Fin.ext
    · show 2 + 1 * (x 0).val = 2; omega
    · show 0 + 1 * (x 1).val = 0; omega
    · show 0 + 1 * (x 2).val = (x 2).val; omega
  rw [e]; rfl

theorem pay5_apply (x : S1x1x1024.Idx) :
    (k0_pay5 (k0_pay13 x0) (k0_pay14 x0 x2 x3 x1) x : EReal)
      = tile x0 x1 x2 x3 ((Rect.unit (s := S3x1x1024) ![0, 0, 0] S1x1x1024.size inb_S3x1x1024_S1x1x1024_0_0_0).emb x) := by
  rw [tile_emb_0]
  idx_vars x
  unfold k0_pay5
  pointwise [pay2_apply]

theorem pay6_apply (x : S1x1x1024.Idx) :
    (k0_pay6 (k0_pay14 x0 x2 x3 x1) x : EReal)
      = tile x0 x1 x2 x3 ((Rect.unit (s := S3x1x1024) ![1, 0, 0] S1x1x1024.size inb_S3x1x1024_S1x1x1024_1_0_0).emb x) := by
  rw [tile_emb_1]
  idx_vars x
  unfold k0_pay6
  pointwise [pay3_apply]

theorem pay7_apply (x : S1x1x1024.Idx) :
    (k0_pay7 (k0_pay12 x0) (k0_pay13 x0) (k0_pay14 x0 x2 x3 x1) x2 x : EReal)
      = tile x0 x1 x2 x3 ((Rect.unit (s := S3x1x1024) ![2, 0, 0] S1x1x1024.size inb_S3x1x1024_S1x1x1024_2_0_0).emb x) := by
  rw [tile_emb_2]
  idx_vars x
  unfold k0_pay7
  pointwise [pay4_apply]

theorem pay8_apply (w : Vec Ideal S1x1x1024 .f32) (x : S1x1x1024.Idx) :
    (k0_pay8 (k0_pay13 x0) (k0_pay14 x0 x2 x3 x1) w x : EReal)
      = w x + tile x0 x1 x2 x3 ((Rect.unit (s := S3x1x1024) ![0, 0, 0] S1x1x1024.size inb_S3x1x1024_S1x1x1024_0_0_0).emb x) := by
  rw [tile_emb_0]
  idx_vars x
  obtain rfl := Subsingleton.elim x0 0
  obtain rfl := Subsingleton.elim x1 0
  unfold k0_pay8
  pointwise [pay2_apply]

theorem pay9_apply (w : Vec Ideal S1x1x1024 .f32) (x : S1x1x1024.Idx) :
    (k0_pay9 (k0_pay14 x0 x2 x3 x1) w x : EReal)
      = w x + tile x0 x1 x2 x3 ((Rect.unit (s := S3x1x1024) ![1, 0, 0] S1x1x1024.size inb_S3x1x1024_S1x1x1024_1_0_0).emb x) := by
  rw [tile_emb_1]
  idx_vars x
  obtain rfl := Subsingleton.elim x0 0
  obtain rfl := Subsingleton.elim x1 0
  unfold k0_pay9
  pointwise [pay3_apply]

theorem pay10_apply (w : Vec Ideal S1x1x1024 .f32) (x : S1x1x1024.Idx) :
    (k0_pay10 (k0_pay12 x0) (k0_pay13 x0) (k0_pay14 x0 x2 x3 x1) x2 w x : EReal)
      = w x + tile x0 x1 x2 x3 ((Rect.unit (s := S3x1x1024) ![2, 0, 0] S1x1x1024.size inb_S3x1x1024_S1x1x1024_2_0_0).emb x) := by
  rw [tile_emb_2]
  idx_vars x
  obtain rfl := Subsingleton.elim x0 0
  obtain rfl := Subsingleton.elim x1 0
  unfold k0_pay10
  pointwise [pay4_apply]

end

/-! ## What a grid point leaves -/

section
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S1x1024 .f32) (h3 : a3.IsWhole)
  (a4 : Memref sig .tc .vmem S1x1024 .f32) (h4 : a4.IsWhole) (a5 : Memref sig .tc .vmem S256x1024 .f32) (h5 : a5.IsWhole)
  (a6 : Memref sig .tc .vmem S3x1x1024 .f32) (h6 : a6.IsWhole)
  (x0 x1 : Vec Ideal S256x1024 .f32) (x2 x3 : Vec Ideal S1x1024 .f32) (xo : Vec Ideal S3x1x1024 .f32)

theorem out_A_4 (hc0 : cond0_0 i) (hc1 : ¬cond0_1 i) :
    out0_A_4 c i a1 h1 a2 h2 a3 h3 a4 h4 a5 h5 a6 h6 hc0 hc1 x0 x1 x2 x3
      = k0_pay1 (k0_pay12 x0) (k0_pay13 x0) (k0_pay14 x0 x2 x3 x1) x2 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  sl_unfold_words
  rw [View.canon_unit_zero hz]
  simp only [View.readAt_eq_ld, h1.read_unread, h2.read_unread, h3.read_unread, h4.read_unread, h6.read_unread,
    View.ld_unit_zero (S := S256x1024) hz, View.ld_unit_zero (S := S1x1024) hz]

theorem out_B_4 (hc0 : ¬cond0_0 i) (hc1 : cond0_1 i) :
    out0_B_4 c i a1 h1 a2 h2 a3 h3 a4 h4 a5 h5 a6 h6 hc0 hc1 x0 x1 x2 x3 xo
      = k0_pay1 (k0_pay12 x0) (k0_pay13 x0) (k0_pay14 x0 x2 x3 x1) x2 := by
  unfold out0_B_4
  rw [View.read_writes_eq_canon _ _ _ (cover0_B_4 c i a1 h1 a2 h2 a3 h3 a4 h4 a5 h5 a6 h6 hc0 hc1 x0 x1 x2 x3 xo)]
  unfold kernelRun0_B
  dsimp only
  sl_unfold_words
  rw [View.canon_unit_zero hz]
  simp only [View.readAt_eq_ld, h1.read_unread, h2.read_unread, h3.read_unread, h4.read_unread, h6.read_unread,
    View.ld_unit_zero (S := S256x1024) hz, View.ld_unit_zero (S := S1x1024) hz]

theorem out_A_5 (hc0 : cond0_0 i) (hc1 : ¬cond0_1 i) :
    out0_A_5 c i a1 h1 a2 h2 a3 h3 a4 h4 a5 h5 a6 h6 hc0 hc1 x0 x1 x2 x3 = tile x0 x1 x2 x3 := by
  have hcov := cover0_A_5 c i a1 h1 a2 h2 a3 h3 a4 h4 a5 h5 a6 h6 hc0 hc1 x0 x1 x2 x3
  unfold out0_A_5
  rw [View.read_writes_eq_canon _ _ _ hcov]
  funext y
  refine View.canon_apply_of_pieces (tile x0 x1 x2 x3) _ ?_ y (hcov y)
  clear hcov y
  unfold kernelRun0_A
  dsimp only
  sl_unfold_words
  simp only [View.readAt_eq_ld, h1.read_unread, h2.read_unread, h3.read_unread, h4.read_unread, h6.read_unread,
    View.ld_unit_zero (S := S256x1024) hz, View.ld_unit_zero (S := S1x1024) hz]
  intro p hp x
  simp only [List.mem_cons, List.mem_nil_iff, or_false] at hp
  rcases hp with rfl | rfl | rfl
  · exact pay7_apply x0 x1 x2 x3 x
  · exact pay6_apply x0 x1 x2 x3 x
  · exact pay5_apply x0 x1 x2 x3 x

theorem out_B_5 (hc0 : ¬cond0_0 i) (hc1 : cond0_1 i) :
    out0_B_5 c i a1 h1 a2 h2 a3 h3 a4 h4 a5 h5 a6 h6 hc0 hc1 x0 x1 x2 x3 xo = fun y => xo y + tile x0 x1 x2 x3 y := by
  have hcov := cover0_B_5 c i a1 h1 a2 h2 a3 h3 a4 h4 a5 h5 a6 h6 hc0 hc1 x0 x1 x2 x3 xo
  unfold out0_B_5
  rw [View.read_writes_eq_canon _ _ _ hcov]
  funext y
  refine View.canon_apply_of_pieces (fun y => xo y + tile x0 x1 x2 x3 y) _ ?_ y (hcov y)
  clear hcov y
  unfold kernelRun0_B
  dsimp only
  sl_unfold_words
  simp only [View.readAt_eq_ld, h1.read_unread, h2.read_unread, h3.read_unread, h4.read_unread, h6.read_unread,
    View.ld_unit_zero (S := S256x1024) hz, View.ld_unit_zero (S := S1x1024) hz]
  intro p hp x
  simp only [List.mem_cons, List.mem_nil_iff, or_false] at hp
  rcases hp with rfl | rfl | rfl
  · exact pay10_apply x0 x1 x2 x3 _ x
  · exact pay9_apply x0 x1 x2 x3 _ x
  · exact pay8_apply x0 x1 x2 x3 _ x

end

/-! ## The arrays -/

variable (m : (ℓ : Loc nD τ sig) → Buf (Elt Ideal) ℓ)

theorem outs4 (c : Dev nD) (t : Fin cfg0.N) : (outsAt0 m c t.val t.isLt).1
    = k0_pay1 (k0_pay12 (iblk m c 0 t)) (k0_pay13 (iblk m c 0 t))
        (k0_pay14 (iblk m c 0 t) (iblk m c 2 t) (iblk m c 3 t) (iblk m c 1 t)) (iblk m c 2 t) := by
  have hN : t.val < 32 := lt_of_lt_of_eq t.isLt (show cfg0.N = 32 from N_0)
  by_cases h : t.val % 32 = 0
  · rw [outsAt0_A m c t h (by omega)]
    dsimp only
    rw [out_A_4]
  · rw [outsAt0_B m c t h (by omega)]
    dsimp only
    rw [out_B_4]

/-- What point `n` contributes at place `y` of the three sums. -/
def part (c : Dev nD) (y : S3x1x1024.Idx) (n : ℕ) : EReal :=
  if h : n < cfg0.N then tile (iblk m c 0 ⟨n, h⟩) (iblk m c 1 ⟨n, h⟩) (iblk m c 2 ⟨n, h⟩) (iblk m c 3 ⟨n, h⟩) y else 0

theorem part_eq (c : Dev nD) (y : S3x1x1024.Idx) (t : Fin cfg0.N) :
    part m c y t = tile (iblk m c 0 t) (iblk m c 1 t) (iblk m c 2 t) (iblk m c 3 t) y := dif_pos t.isLt

theorem acc (c : Dev nD) (y : S3x1x1024.Idx) : ∀ n (h : n < cfg0.N), n % 33 ≠ 33 - 1 →
    ((outsAt0 m c n h).2 y : EReal) = ∑ s ∈ Finset.range (n % 33 + 1), part m c y (n - n % 33 + s) := by
  have hN : cfg0.N = 32 := N_0
  refine run_sum 33 (by omega) (fun n h => ((outsAt0 m c n h).2 y : EReal)) (part m c y) ?_ ?_
  · intro n h h0
    rw [outsAt0_A m c ⟨n, h⟩ (by simp only; omega) (by simp only; omega)]
    dsimp only
    rw [out_A_5]
    exact (part_eq m c y ⟨n, h⟩).symm
  · intro n h h' h0 h1
    rw [outsAt0_B m c ⟨n, h⟩ (by simp only; omega) (by simp only; omega)]
    dsimp only
    rw [out_B_5]
    exact congrArg _ (part_eq m c y ⟨n, h⟩).symm

theorem last (c : Dev nD) (y : S3x1x1024.Idx) (t : Fin cfg0.N) (ht : t.val % 32 = 31) :
    ((outsAt0 m c t.val t.isLt).2 y : EReal) = ∑ s ∈ Finset.range 32, part m c y s := by
  have hN : t.val < 32 := lt_of_lt_of_eq t.isLt (show cfg0.N = 32 from N_0)
  rw [acc m c y t.val t.isLt (by omega)]
  have e1 : t.val % 33 = 31 := by omega
  rw [e1]
  exact Finset.sum_congr rfl fun s _ => by rw [show t.val - 31 + s = s by omega]

theorem e0 : ∀ t : Fin cfg0.N, win0_0.index t = ![t.val, 0] :=
  (by decide +kernel : ∀ t : Fin grid0.N, win0_0.index t = ![t.val, 0])
theorem e1 : ∀ t : Fin cfg0.N, win0_1.index t = ![t.val, 0] :=
  (by decide +kernel : ∀ t : Fin grid0.N, win0_1.index t = ![t.val, 0])
theorem e2 : ∀ t : Fin cfg0.N, win0_2.index t = ![0, 0] :=
  (by decide +kernel : ∀ t : Fin grid0.N, win0_2.index t = ![0, 0])
theorem e3 : ∀ t : Fin cfg0.N, win0_3.index t = ![0, 0] :=
  (by decide +kernel : ∀ t : Fin grid0.N, win0_3.index t = ![0, 0])
theorem e4 : ∀ t : Fin cfg0.N, win0_4.index t = ![t.val, 0] :=
  (by decide +kernel : ∀ t : Fin grid0.N, win0_4.index t = ![t.val, 0])
theorem e5 : ∀ t : Fin cfg0.N, win0_5.index t = ![0, 0, 0] :=
  (by decide +kernel : ∀ t : Fin grid0.N, win0_5.index t = ![0, 0, 0])

/-- The gradient as one function of the arrays: `X` the rows, `DS` the gradient that comes in, `G` the gain, `B` the bias. -/
def G4 (X DS : S8192x1024.Idx → EReal) (G B : S1x1024.Idx → EReal) (y : S8192x1024.Idx) : EReal :=
  dv (n := 8192) X DS G B (y 0) (y 1)

/-- The three sums. -/
def G5 (X DS : S8192x1024.Idx → EReal) (G B : S1x1024.Idx → EReal) (y : S3x1x1024.Idx) : EReal :=
  ∑ n : Fin 8192, term (n := 8192) X DS G B (y 0) (y 2) n

/-- The row of the arrays that row `p` of point `t`'s block is. -/
def at_ (t : Fin cfg0.N) (p : Fin 256) : Fin 8192 :=
  ⟨t.val * 256 + p.val, by have h : t.val < 32 := lt_of_lt_of_eq t.isLt (show cfg0.N = 32 from N_0); omega⟩

theorem emb_0 (t : Fin cfg0.N) (p : Fin 256) (k : Fin 1024) : (win0_0.blk t).view.emb (ix2 p k) = ix2 (at_ t p) k := by
  blk_ext [e0, at_]
theorem emb_1 (t : Fin cfg0.N) (p : Fin 256) (k : Fin 1024) : (win0_1.blk t).view.emb (ix2 p k) = ix2 (at_ t p) k := by
  blk_ext [e1, at_]
theorem emb_2 (t : Fin cfg0.N) (p : Fin 1) (k : Fin 1024) : (win0_2.blk t).view.emb (ix2 p k) = ix2 p k := by
  blk_ext [e2]
theorem emb_3 (t : Fin cfg0.N) (p : Fin 1) (k : Fin 1024) : (win0_3.blk t).view.emb (ix2 p k) = ix2 p k := by
  blk_ext [e3]
theorem emb_4 (t : Fin cfg0.N) (p : Fin 256) (k : Fin 1024) : (win0_4.blk t).view.emb (ix2 p k) = ix2 (at_ t p) k := by
  blk_ext [e4, at_]
theorem emb_5 (t : Fin cfg0.N) (q : Fin 3) (o : Fin 1) (k : Fin 1024) : (win0_5.blk t).view.emb (ix3 q o k) = ix3 q o k := by
  blk_ext [e5]

theorem blk_0 (c : Dev nD) (t : Fin cfg0.N) (p : Fin 256) (k : Fin 1024) :
    @Eq EReal (iblk m c 0 t (ix2 p k)) (V m c main_v1 (ix2 (at_ t p) k)) := by
  blk_simp [iblk]; rw [emb_0]
theorem blk_1 (c : Dev nD) (t : Fin cfg0.N) (p : Fin 256) (k : Fin 1024) :
    @Eq EReal (iblk m c 1 t (ix2 p k)) (V m c main_arg4 (ix2 (at_ t p) k)) := by
  blk_simp [iblk]; rw [emb_1]
theorem blk_2 (c : Dev nD) (t : Fin cfg0.N) (p : Fin 1) (k : Fin 1024) :
    @Eq EReal (iblk m c 2 t (ix2 p k)) (V m c main_arg2 (ix2 p k)) := by
  blk_simp [iblk]; rw [emb_2]
theorem blk_3 (c : Dev nD) (t : Fin cfg0.N) (p : Fin 1) (k : Fin 1024) :
    @Eq EReal (iblk m c 3 t (ix2 p k)) (V m c main_arg3 (ix2 p k)) := by
  blk_simp [iblk]; rw [emb_3]

theorem row_0 (c : Dev nD) (t : Fin cfg0.N) (p : Fin 256) :
    row (n := 256) (iblk m c 0 t) p = row (n := 8192) (V m c main_v1) (at_ t p) := funext fun k => blk_0 m c t p k
theorem row_1 (c : Dev nD) (t : Fin cfg0.N) (p : Fin 256) :
    row (n := 256) (iblk m c 1 t) p = row (n := 8192) (V m c main_arg4) (at_ t p) := funext fun k => blk_1 m c t p k
theorem row_2 (c : Dev nD) (t : Fin cfg0.N) :
    row (n := 1) (iblk m c 2 t) 0 = row (n := 1) (V m c main_arg2) 0 := funext fun k => blk_2 m c t 0 k
theorem row_3 (c : Dev nD) (t : Fin cfg0.N) :
    row (n := 1) (iblk m c 3 t) 0 = row (n := 1) (V m c main_arg3) 0 := funext fun k => blk_3 m c t 0 k

theorem dl_blk (c : Dev nD) (t : Fin cfg0.N) (p : Fin 256) (j : Fin 1024) :
    dl (n := 256) (iblk m c 0 t) (iblk m c 1 t) (iblk m c 2 t) (iblk m c 3 t) p j
      = dl (n := 8192) (V m c main_v1) (V m c main_arg4) (V m c main_arg2) (V m c main_arg3) (at_ t p) j := by
  unfold dl
  rw [row_0, row_1, row_2, row_3]

theorem dv_blk (c : Dev nD) (t : Fin cfg0.N) (p : Fin 256) (j : Fin 1024) :
    dv (n := 256) (iblk m c 0 t) (iblk m c 1 t) (iblk m c 2 t) (iblk m c 3 t) p j
      = dv (n := 8192) (V m c main_v1) (V m c main_arg4) (V m c main_arg2) (V m c main_arg3) (at_ t p) j := by
  unfold dv
  rw [row_0]
  congr 1
  funext k
  rw [dl_blk]
  exact congrArg (fun a : EReal => _ * a) (blk_2 m c t 0 k)

theorem term_blk (c : Dev nD) (t : Fin cfg0.N) (k : Fin 3) (j : Fin 1024) (p : Fin 256) :
    term (n := 256) (iblk m c 0 t) (iblk m c 1 t) (iblk m c 2 t) (iblk m c 3 t) k j p
      = term (n := 8192) (V m c main_v1) (V m c main_arg4) (V m c main_arg2) (V m c main_arg3) k j (at_ t p) := by
  unfold term
  rw [dl_blk, dv_blk, row_0]

theorem arr4 (c : Dev nD) : (dats m 0 c).arrAt 4 cfg0.N
    = G4 (V m c main_v1) (V m c main_arg4) (V m c main_arg2) (V m c main_arg3) := by
  refine (dats m 0 c).arrAt_eq_of_covers 4 _ (by decide +kernel) fun t hf y => ?_
  blk_simp
  rw [after0_4, outs4]
  have hy : y = ix2 (y 0) (y 1) := by funext a; fin_cases a <;> rfl
  rw [hy]
  refine (pay1_apply _ _ _ _ (y 0) (y 1)).trans ((dv_blk m c t (y 0) (y 1)).trans ?_)
  exact (congrArg (G4 (V m c main_v1) (V m c main_arg4) (V m c main_arg2) (V m c main_arg3)) (emb_4 t (y 0) (y 1))).symm

theorem arr5 (c : Dev nD) : (dats m 0 c).arrAt 5 cfg0.N
    = G5 (V m c main_v1) (V m c main_arg4) (V m c main_arg2) (V m c main_arg3) := by
  refine (dats m 0 c).arrAt_eq_of_covers 5 _ (by decide +kernel) fun t hf y => ?_
  have ht : t.val % 32 = 31 := (flush0_5 t).mp hf
  blk_simp
  rw [after0_5]
  have hy : y = ix3 (y 0) (y 1) (y 2) := by funext a; fin_cases a <;> rfl
  rw [hy]
  refine (last m c _ t ht).trans (Eq.trans ?_ (congrArg (G5 (V m c main_v1) (V m c main_arg4) (V m c main_arg2) (V m c main_arg3))
    (emb_5 t (y 0) (y 1) (y 2))).symm)
  unfold G5
  refine tiles_sum 32 256 (by norm_num) _ _ fun s hs => ?_
  have hlt : s < cfg0.N := by have : cfg0.N = 32 := N_0; omega
  refine (part_eq m c _ ⟨s, hlt⟩).trans ?_
  unfold tile
  exact Finset.sum_congr rfl fun p _ => term_blk m c ⟨s, hlt⟩ _ _ p

end Cert.ConvLn

end
-- ==== Proof.ConvLnTie.lean ====
/-
  The reference's gradient through the convolution's normalisation and swish is the kernel's, and the claim.
-/
module

public import proofs.«01_k».proof.Proof.ConvLn
public import proofs.«01_k».proof.Proof.Gen.Reference7Ideal.Run
public import proofs.«01_k».proof.Proof.Gen.Pre_finite_gain_and_ds

@[expose] public section

set_option maxRecDepth 16384

noncomputable section

namespace Cert.ConvLn

open Cert.Common Cert.Gate Cert.Rms Cert.Reference7Ideal Cert.Reference7Ideal.Gen Idealize.ShloMosaic Idealize.ShloMosaic.TcCoe Idealize.SL.Sem

/-- The rows that are normalised: the convolution's output with its bias. -/
def sumH (U : FVec Ideal S8192x1024 .f32) (W : FVec Ideal S1x1024 .f32) : FVec Ideal S8192x1024 .f32 :=
  addf U (broadcastInDim S8192x1024 ![0, 1] bcast_S1x1024_S8192x1024_0_1 W)

variable (X DS : FVec Ideal S8192x1024 .f32) (G B : FVec Ideal S1x1024 .f32)

/-- The centred rows. -/
def xcH : FVec Ideal S8192x1024 .f32 :=
  subf X (broadcastInDim S8192x1024 ![0, 1] bcast_S8192x1_S8192x1024_0_1 (Host.divf (broadcastInDim S8192x1 ![0] bcast_S8192_S8192x1_0
    (Host.reduceAdd X (constant S_ .f32 0x00000000#32) reducesTo_S8192x1024_S8192_d1 h_S_))
    (broadcastInDim S8192x1 ![] bcast_S_S8192x1 (constant S_ .f32 0x44800000#32))))

theorem xcH_apply (n : Fin 8192) (j : Fin 1024) : (xcH X (ix2 n j) : EReal) = xc (row X n) j := by
  pointwise [xcH, xc, mu, row, cN]

/-- Each row's regularised variance. -/
def varH : FVec Ideal S8192x1 .f32 :=
  addf (Host.divf (broadcastInDim S8192x1 ![0] bcast_S8192_S8192x1_0
      (Host.reduceAdd (mulf (xcH X) (xcH X)) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x3727C5AC#32))

theorem varH_apply (n : Fin 8192) (o : Fin 1) : (varH X (ix2 n o) : EReal) = var (row X n) := by
  unfold varH
  pointwise [xcH_apply, var, cN, cV]

def rsH : FVec Ideal S8192x1 .f32 := Host.rsqrt (varH X)

theorem rsH_apply (n : Fin 8192) (o : Fin 1) : (rsH X (ix2 n o) : EReal) = rs (row X n) := by
  unfold rsH
  pointwise [varH_apply, rs]

/-- The normalised rows. -/
def xhH : FVec Ideal S8192x1024 .f32 := mulf (xcH X) (broadcastInDim S8192x1024 ![0, 1] bcast_S8192x1_S8192x1024_0_1 (rsH X))

theorem xhH_apply (n : Fin 8192) (j : Fin 1024) : (xhH X (ix2 n j) : EReal) = xh (row X n) j := by
  unfold xhH
  pointwise [xcH_apply, rsH_apply, xh]

def lnH : FVec Ideal S8192x1024 .f32 :=
  addf (mulf (xhH X) (broadcastInDim S8192x1024 ![0, 1] bcast_S1x1024_S8192x1024_0_1 G))
    (broadcastInDim S8192x1024 ![0, 1] bcast_S1x1024_S8192x1024_0_1 B)

theorem lnH_apply (n : Fin 8192) (j : Fin 1024) : (lnH X G B (ix2 n j) : EReal) = ln (row X n) (row G 0) (row B 0) j := by
  unfold lnH
  pointwise [xhH_apply, ln, row]

def sgH : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf (lnH X G B))))

theorem sgH_apply (n : Fin 8192) (j : Fin 1024) :
    (sgH X G B (ix2 n j) : EReal) = sg (ln (row X n) (row G 0) (row B 0) j) := by
  unfold sgH
  pointwise [lnH_apply, sg]

/-- The gradient through swish. -/
def dlnH : FVec Ideal S8192x1024 .f32 :=
  addf (mulf DS (sgH X G B)) (mulf (mulf (lnH X G B) DS) (mulf (sgH X G B)
    (subf (broadcastInDim S8192x1024 ![] bcast_S_S8192x1024 (constant S_ .f32 0x3F800000#32)) (sgH X G B))))

theorem dlnH_apply (hd : ∀ n j, IsReal (DS (ix2 n j))) (n : Fin 8192) (j : Fin 1024) :
    (dlnH X DS G B (ix2 n j) : EReal) = dl X DS G B n j := by
  refine Eq.trans ?_ (dln_law (row X n) (row G 0) (row B 0) (row DS n) j (hd n j))
  unfold dlnH
  pointwise [lnH_apply, sgH_apply, dlnR, row]

def dxhH : FVec Ideal S8192x1024 .f32 :=
  mulf (dlnH X DS G B) (broadcastInDim S8192x1024 ![0, 1] bcast_S1x1024_S8192x1024_0_1 G)

theorem dxhH_apply (hd : ∀ n j, IsReal (DS (ix2 n j))) (n : Fin 8192) (j : Fin 1024) :
    (dxhH X DS G B (ix2 n j) : EReal) = dl X DS G B n j * G (ix2 0 j) := by
  unfold dxhH
  pointwise [dlnH_apply X DS G B hd]

def qH : FVec Ideal S8192x1024 .f32 :=
  broadcastInDim S8192x1024 ![0] bcast_S8192_S8192x1024_0 (Host.reduceAdd (Host.divf (mulf (shapeCast _ (Host.reduceAdd
      (mulf (xcH X) (dxhH X DS G B)) (constant S_ .f32 0x00000000#32) reducesTo_S8192x1024_S8192_d1 h_S_) shapeCasts_S8192_S8192x1)
    (mulf (broadcastInDim S8192x1 ![] bcast_S_S8192x1 (constant S_ .f32 0xBF000000#32)) (Host.divf (rsH X) (varH X))))
    (broadcastInDim S8192x1 ![] bcast_S_S8192x1 (constant S_ .f32 0x44800000#32))) (constant S_ .f32 0x00000000#32)
    reducesTo_S8192x1_S8192_d1 h_S_)

theorem qH_apply (hd : ∀ n j, IsReal (DS (ix2 n j))) (n : Fin 8192) (j : Fin 1024) :
    (qH X DS G B (ix2 n j) : EReal) = qR (row X n) (fun k => dl X DS G B n k * G (ix2 0 k)) := by
  unfold qH
  pointwise [xcH_apply, rsH_apply, varH_apply, dxhH_apply X DS G B hd, qR, cN, cH]
  exact Fin.sum_univ_one _

def dxcH : FVec Ideal S8192x1024 .f32 :=
  addf (addf (mulf (dxhH X DS G B) (broadcastInDim S8192x1024 ![0, 1] bcast_S8192x1_S8192x1024_0_1 (rsH X)))
    (mulf (xcH X) (qH X DS G B))) (mulf (qH X DS G B) (xcH X))

theorem dxcH_apply (hd : ∀ n j, IsReal (DS (ix2 n j))) (n : Fin 8192) (j : Fin 1024) :
    (dxcH X DS G B (ix2 n j) : EReal) = dxcR (row X n) (fun k => dl X DS G B n k * G (ix2 0 k)) j := by
  unfold dxcH
  pointwise [xcH_apply, rsH_apply, dxhH_apply X DS G B hd, qH_apply X DS G B hd, dxcR]

/-- The gradient with respect to the rows. -/
def duH : FVec Ideal S8192x1024 .f32 :=
  addf (dxcH X DS G B) (broadcastInDim S8192x1024 ![0] bcast_S8192_S8192x1024_0 (Host.reduceAdd (Host.divf (shapeCast _
    (Host.reduceAdd (Host.negf (dxcH X DS G B)) (constant S_ .f32 0x00000000#32) reducesTo_S8192x1024_S8192_d1 h_S_) shapeCasts_S8192_S8192x1)
    (broadcastInDim S8192x1 ![] bcast_S_S8192x1 (constant S_ .f32 0x44800000#32))) (constant S_ .f32 0x00000000#32)
    reducesTo_S8192x1_S8192_d1 h_S_))

theorem duH_apply (hd : ∀ n j, IsReal (DS (ix2 n j))) (hg : ∀ o j, IsReal (G (ix2 o j))) (n : Fin 8192) (j : Fin 1024) :
    (duH X DS G B (ix2 n j) : EReal) = dv X DS G B n j := by
  have hu : ∀ k : Fin 1024, IsReal (dl X DS G B n k * G (ix2 0 k)) := fun k =>
    IsReal.mul (dln_real (row X n) (row G 0) (row B 0) (row DS n) k (hd n k)) (hg 0 k)
  have hl := ln_law (ι := Fin 1024) (Fintype.card_fin 1024) (row X n) (fun k => dl X DS G B n k * G (ix2 0 k)) hu j
  unfold dv
  rw [← hl]
  unfold duH
  pointwise [dxcH_apply X DS G B hd, dvR, cN]
  exact congrArg _ (Fin.sum_univ_one _)

theorem tie4 (hd : ∀ n j, IsReal (DS (ix2 n j))) (hg : ∀ o j, IsReal (G (ix2 o j))) : duH X DS G B = G4 X DS G B := by
  funext y; idx_vars y
  exact duH_apply X DS G B hd hg y0 y1

/-- The three sums, one after the other. -/
def redH : FVec Ideal S3x1x1024 .f32 :=
  concatenate S3x1x1024 0
    [⟨S1x1x1024, broadcastInDim S1x1x1024 ![1, 2] bcast_S1x1024_S1x1x1024_1_2 (shapeCast _ (Host.reduceAdd (mulf (xhH X) (dlnH X DS G B))
        (constant S_ .f32 0x00000000#32) reducesTo_S8192x1024_S1024_d0 h_S_) shapeCasts_S1024_S1x1024)⟩,
     ⟨S1x1x1024, broadcastInDim S1x1x1024 ![1, 2] bcast_S1x1024_S1x1x1024_1_2 (shapeCast _ (Host.reduceAdd (dlnH X DS G B)
        (constant S_ .f32 0x00000000#32) reducesTo_S8192x1024_S1024_d0 h_S_) shapeCasts_S1024_S1x1024)⟩,
     ⟨S1x1x1024, broadcastInDim S1x1x1024 ![1, 2] bcast_S1x1024_S1x1x1024_1_2 (shapeCast _ (Host.reduceAdd (duH X DS G B)
        (constant S_ .f32 0x00000000#32) reducesTo_S8192x1024_S1024_d0 h_S_) shapeCasts_S1024_S1x1024)⟩]
    concatenates_S1x1x1024_S1x1x1024_S1x1x1024_S3x1x1024_d0

theorem tie5 (hd : ∀ n j, IsReal (DS (ix2 n j))) (hg : ∀ o j, IsReal (G (ix2 o j))) : redH X DS G B = G5 X DS G B := by
  funext y; idx_vars y
  have hy : y0 = 0 ∨ y0 = 1 ∨ y0 = 2 := by omega
  unfold redH
  rcases hy with rfl | rfl | rfl
  · pointwise [xhH_apply, dlnH_apply X DS G B hd, G5, term]
    exact Finset.sum_congr rfl fun k _ => mul_comm _ _
  · pointwise [dlnH_apply X DS G B hd, G5, term]
  · pointwise [duH_apply X DS G B hd hg, G5, term]

theorem V1 (m : (ℓ : Loc Kernel7Ideal.nD Kernel7Ideal.τ Kernel7Ideal.sig) → Buf (Elt Ideal) ℓ) (c : Dev Kernel7Ideal.nD) :
    @Eq (FVec Ideal S8192x1024 .f32) (Kernel7Ideal.Gen.V m c Kernel7Ideal.main_v1)
      (sumH (m ((c : Thread Kernel7Ideal.nD Kernel7Ideal.τ).loc Kernel7Ideal.main_arg0))
        (m ((c : Thread Kernel7Ideal.nD Kernel7Ideal.τ).loc Kernel7Ideal.main_arg1))) := by
  entry_read
  rfl

/-- The claim of values: both programs end with the gradient and the three sums. -/
theorem algebraic : Cert.algebraic_Kernel7Ideal_Reference7Ideal_pre_finite_gain_and_ds := by
  intro m g m' g' hpre hagree
  refine ⟨fun c => G4 (Kernel7Ideal.Gen.V m c Kernel7Ideal.main_v1) (Kernel7Ideal.Gen.V m c Kernel7Ideal.main_arg4)
      (Kernel7Ideal.Gen.V m c Kernel7Ideal.main_arg2) (Kernel7Ideal.Gen.V m c Kernel7Ideal.main_arg3),
    fun c => G5 (Kernel7Ideal.Gen.V m c Kernel7Ideal.main_v1) (Kernel7Ideal.Gen.V m c Kernel7Ideal.main_arg4)
      (Kernel7Ideal.Gen.V m c Kernel7Ideal.main_arg2) (Kernel7Ideal.Gen.V m c Kernel7Ideal.main_arg3), ?_, ?_⟩
  · exact (θ_run _ _ _).mono (fun r h c => ⟨(h c).1.trans (arr4 m c), (h c).2.1.trans (arr5 m c), (h c).2.2⟩)
      (Cert.Kernel7Ideal.Value.run_blocks m g)
  · refine (θ_run _ _ _).mono ?_ (Cert.Reference7Ideal.Value.run m' g')
    intro r h c
    obtain ⟨p2, p4⟩ := hpre c
    have f2 : ∀ i j, IsReal (m ((c : Thread Kernel7Ideal.nD Kernel7Ideal.τ).loc Kernel7Ideal.main_arg2) (ix2 i j)) := fun i j => by
      have h := congrFun p2 (ix2 i j)
      pointwise [Cert.Pre_finite_gain_and_ds.fn] at h
      exact finite_of_lt h
    have f4 : ∀ i j, IsReal (m ((c : Thread Kernel7Ideal.nD Kernel7Ideal.τ).loc Kernel7Ideal.main_arg4) (ix2 i j)) := fun i j => by
      have h := congrFun p4 (ix2 i j)
      pointwise [Cert.Pre_finite_gain_and_ds.fn] at h
      exact finite_of_lt h
    obtain ⟨h0, h1, h2, h3, h4⟩ := hagree c
    refine ⟨(h c).1.trans ?_, (h c).2.1.trans ?_, (h c).2.2⟩
    all_goals
      clear h
      beta_reduce
      rw [V1, Kernel7Ideal.Gen.V_main_arg2, Kernel7Ideal.Gen.V_main_arg3, Kernel7Ideal.Gen.V_main_arg4]
      rw [← h0, ← h1, ← h3]
    · refine Eq.trans ?_ (tie4 _ _ _ _ f4 f2)
      rw [← h2, ← h4]
      rfl
    · refine Eq.trans ?_ (tie5 _ _ _ _ f4 f2)
      rw [← h2, ← h4]
      rfl

end Cert.ConvLn

end
-- ==== Proof.Dh.lean ====
/-
  The gradient over the normalised rows: da · Wgᵀ + db · Wuᵀ, the two products being two grid points of one block.
-/
module

public import proofs.«01_k».proof.Defs
public import proofs.«01_k».proof.Proof.Tiles
public import proofs.«01_k».proof.Proof.Gen.Kernel5Ideal.Value
public import proofs.«01_k».proof.Proof.Gen.Reference5Ideal.Run
public import Idealize.ShloMosaic.Lib.Claim

@[expose] public section

set_option maxRecDepth 16384

noncomputable section

namespace Cert.Dh

open Cert.Common Cert.Kernel5Ideal Cert.Kernel5Ideal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-! ## What a grid point leaves -/

section
variable (c : Dev nD) (i : grid0.Coords) (a3 : Memref sig .tc .vmem S1x1024x2816 .bf16) (h3 : a3.IsWhole)
  (a4 : Memref sig .tc .vmem S1x1024x2816 .bf16) (h4 : a4.IsWhole) (a5 : Memref sig .tc .vmem S1024x1024 .f32)
  (h5 : a5.IsWhole) (a6 : Memref sig .tc .vmem S1024x1024 .f32) (h6 : a6.IsWhole)
  (x0 x1 : Vec Ideal S1x1024x2816 .bf16) (xs : Vec Ideal S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1x1024x2816) hz3]

theorem out_B (hc0 : ¬cond0_0 i) (hc1 : cond0_1 i) (hc2 : cond0_2 i) :
    out0_B_2 c i a3 h3 a4 h4 a5 h5 a6 h6 hc0 hc1 hc2 x0 x1 xs = k0_pay2 xs x0 x1 := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz, View.readCov_unit_zero (S := S1024x1024) _ hz]
  simp only [View.readAt_eq_ld, h3.read_unread, h4.read_unread, h6.read_unread,
    View.ld_unit_zero (S := S1x1024x2816) hz3, View.ld_unit_zero (S := S1024x1024) hz]

end

/-- The product of two tiles at an index. -/
def tile (x0 x1 : Vec Ideal S1x1024x2816 .bf16) (i j : Fin 1024) : EReal :=
  ∑ k : Fin 2816, x0 (ix3 0 i k) * x1 (ix3 0 j k)

theorem pay1_apply (x0 x1 : Vec Ideal S1x1024x2816 .bf16) (i j : Fin 1024) :
    k0_pay1 x0 x1 (ix2 i j) = tile x0 x1 i j := by
  pointwise [k0_pay1, tile]

theorem pay2_apply (xs : Vec Ideal S1024x1024 .f32) (x0 x1 : Vec Ideal S1x1024x2816 .bf16) (i j : Fin 1024) :
    k0_pay2 xs x0 x1 (ix2 i j) = (xs (ix2 i j) + tile x0 x1 i j : EReal) := by
  pointwise [k0_pay2, tile]

/-! ## The array -/

variable (m : (ℓ : Loc nD τ sig) → Buf (Elt Ideal) ℓ)

theorem last (c : Dev nD) (i j : Fin 1024) (t t' : Fin cfg0.N) (ht : t.val % 2 = 1) (ht' : t'.val = t.val - 1) :
    ((outsAt0 m c t.val t.isLt).1 (ix2 i j) : EReal)
      = tile (iblk m c 0 t') (iblk m c 1 t') i j + tile (iblk m c 0 t) (iblk m c 1 t) i j := by
  rw [outsAt0_B m c t (by omega) ht ht]
  dsimp only
  rw [out_B, pay2_apply]
  congr 1
  obtain ⟨n, hn⟩ := t'
  obtain rfl : n = t.val - 1 := ht'
  rw [outsAt0_A m c ⟨t.val - 1, hn⟩ (by simp only; omega) (by simp only; omega) (by simp only; omega)]
  dsimp only
  rw [sout_A, pay1_apply]

theorem e0 : ∀ t : Fin cfg0.N, win0_0.index t = ![t.val % 2, t.val / 2, 0] :=
  (by decide +kernel : ∀ t : Fin grid0.N, win0_0.index t = ![t.val % 2, t.val / 2, 0])
theorem e1 : ∀ t : Fin cfg0.N, win0_1.index t = ![t.val % 2, 0, 0] :=
  (by decide +kernel : ∀ t : Fin grid0.N, win0_1.index t = ![t.val % 2, 0, 0])
theorem e2 : ∀ t : Fin cfg0.N, win0_2.index t = ![t.val / 2, 0] :=
  (by decide +kernel : ∀ t : Fin grid0.N, win0_2.index t = ![t.val / 2, 0])

/-- The product of slice `j` of two stacked arrays at an index. -/
def dot2 (A0 : S2x8192x2816.Idx → EReal) (A1 : S2x1024x2816.Idx → EReal) (j : Fin 2) (p : Fin 8192) (q : Fin 1024) : EReal :=
  ∑ k : Fin 2816, A0 (ix3 j p k) * A1 (ix3 j q k)

/-- The result as one function of the arrays the region finds. -/
def G2 (A0 : S2x8192x2816.Idx → EReal) (A1 : S2x1024x2816.Idx → EReal) (y : S8192x1024.Idx) : EReal :=
  dot2 A0 A1 0 (y 0) (y 1) + dot2 A0 A1 1 (y 0) (y 1)

theorem emb_0 (t t' : Fin cfg0.N) (j : Fin 2) (hm : t'.val % 2 = j.val) (hd : t'.val / 2 = t.val / 2)
    (k : Fin 2816) (y : S1024x1024.Idx) : (win0_0.blk t').view.emb (ix3 0 (y 0) k)
      = ix3 j ((win0_2.blk t).view.emb y 0) k := by blk_ext [e0, e2, hm, hd]

theorem emb_1 (t t' : Fin cfg0.N) (j : Fin 2) (hm : t'.val % 2 = j.val) (hd : t'.val / 2 = t.val / 2)
    (k : Fin 2816) (y : S1024x1024.Idx) : (win0_1.blk t').view.emb (ix3 0 (y 1) k)
      = ix3 j ((win0_2.blk t).view.emb y 1) k := by blk_ext [e1, e2, hm, hd]

theorem tile_blk (c : Dev nD) (t t' : Fin cfg0.N) (j : Fin 2) (hm : t'.val % 2 = j.val) (hd : t'.val / 2 = t.val / 2)
    (y : S1024x1024.Idx) : tile (iblk m c 0 t') (iblk m c 1 t') (y 0) (y 1)
      = dot2 (V m c main_v8) (V m c main_v4) j ((win0_2.blk t).view.emb y 0) ((win0_2.blk t).view.emb y 1) := by
  unfold tile dot2
  refine Finset.sum_congr rfl fun k _ => ?_
  blk_simp [iblk]
  rw [emb_0 t t' j hm hd k y, emb_1 t t' j hm hd k y]
  rfl

theorem arr2 (c : Dev nD) : (dats m 0 c).arrAt 2 cfg0.N = G2 (V m c main_v8) (V m c main_v4) := by
  refine (dats m 0 c).arrAt_eq_of_covers 2 _ (by decide +kernel) fun t hf y => ?_
  have ht : t.val % 2 = 1 := (flush0_2 t).mp hf
  have hN : t.val < 16 := lt_of_lt_of_eq t.isLt (show cfg0.N = 16 from N_0)
  have hlt : t.val - 1 < cfg0.N := by have : cfg0.N = 16 := N_0; omega
  blk_simp
  rw [after0_2]
  have hy : y = ix2 (y 0) (y 1) := by funext a; fin_cases a <;> rfl
  refine (congrArg _ hy).trans ((last m c (y 0) (y 1) t ⟨t.val - 1, hlt⟩ ht rfl).trans ?_)
  unfold G2
  rw [tile_blk m c t ⟨t.val - 1, hlt⟩ 0 (by simp only [Fin.val_zero]; omega) (by simp only; omega) y,
    tile_blk m c t t 1 (by simp only [Fin.val_one]; omega) rfl y]

/-! ## The claim -/

theorem V8 (c : Dev nD) : @Eq (FVec Ideal S2x8192x2816 .bf16) (V m c main_v8)
    (truncf .bf16 (φ := .f32) (concatenate S2x8192x2816 0
      [⟨S1x8192x2816, broadcastInDim S1x8192x2816 ![1, 2] bcast_S8192x2816_S1x8192x2816_1_2 (m ((c : Thread nD τ).loc main_arg3))⟩,
       ⟨S1x8192x2816, broadcastInDim S1x8192x2816 ![1, 2] bcast_S8192x2816_S1x8192x2816_1_2 (m ((c : Thread nD τ).loc main_arg4))⟩]
      concatenates_S1x8192x2816_S1x8192x2816_S2x8192x2816_d0) bitsLt_bf16_f32) := by
  entry_read
  rfl
theorem V4 (c : Dev nD) : @Eq (FVec Ideal S2x1024x2816 .bf16) (V m c main_v4)
    (concatenate S2x1024x2816 0
      [⟨S1x1024x2816, broadcastInDim S1x1024x2816 ![1, 2] bcast_S1024x2816_S1x1024x2816_1_2
        (truncf .bf16 (φ := .f32) (m ((c : Thread nD τ).loc main_arg1)) bitsLt_bf16_f32)⟩,
       ⟨S1x1024x2816, broadcastInDim S1x1024x2816 ![1, 2] bcast_S1024x2816_S1x1024x2816_1_2
        (truncf .bf16 (φ := .f32) (m ((c : Thread nD τ).loc main_arg2)) bitsLt_bf16_f32)⟩]
      concatenates_S1x1024x2816_S1x1024x2816_S2x1024x2816_d0) := by
  entry_read
  rfl

/-- The reference's two products are the kernel's result over the stacked arrays. -/
theorem tie (da db : FVec Ideal S8192x2816 .f32) (wg wu : FVec Ideal S1024x2816 .f32) :
    addf (Host.dotGeneral Cert.Reference5Ideal.dot_S8192x2816_S1024x2816_S8192x1024_1_1_0_0_n_n none db wu)
      (Host.dotGeneral Cert.Reference5Ideal.dot_S8192x2816_S1024x2816_S8192x1024_1_1_0_0_n_n none da wg)
    = G2 (truncf .bf16 (φ := .f32) (concatenate S2x8192x2816 0
      [⟨S1x8192x2816, broadcastInDim S1x8192x2816 ![1, 2] bcast_S8192x2816_S1x8192x2816_1_2 da⟩,
       ⟨S1x8192x2816, broadcastInDim S1x8192x2816 ![1, 2] bcast_S8192x2816_S1x8192x2816_1_2 db⟩]
      concatenates_S1x8192x2816_S1x8192x2816_S2x8192x2816_d0) bitsLt_bf16_f32)
      (concatenate S2x1024x2816 0
      [⟨S1x1024x2816, broadcastInDim S1x1024x2816 ![1, 2] bcast_S1024x2816_S1x1024x2816_1_2
        (truncf .bf16 (φ := .f32) wg bitsLt_bf16_f32)⟩,
       ⟨S1x1024x2816, broadcastInDim S1x1024x2816 ![1, 2] bcast_S1024x2816_S1x1024x2816_1_2
        (truncf .bf16 (φ := .f32) wu bitsLt_bf16_f32)⟩]
      concatenates_S1x1024x2816_S1x1024x2816_S2x1024x2816_d0) := by
  funext y; idx_vars y
  pointwise [G2, dot2]
  exact add_comm _ _

/-- The claim of values: both programs end with the gradient over the normalised rows. -/
theorem algebraic : Cert.algebraic_Kernel5Ideal_Reference5Ideal := by
  intro m g m' g' hpre hagree
  refine ⟨fun c => G2 (V m c main_v8) (V m c main_v4), ?_, ?_⟩
  · exact (θ_run _ _ _).mono (fun r h c => ⟨(h c).1.trans (arr2 m c), (h c).2⟩)
      (Cert.Kernel5Ideal.Value.run_blocks m g)
  · refine (θ_run _ _ _).mono ?_ (Cert.Reference5Ideal.Value.run m' g')
    intro r h c
    refine ⟨(h c).1.trans ?_, (h c).2⟩
    clear h
    obtain ⟨h0, h1, h2, h3, h4⟩ := hagree c
    rw [h1, h2, h3, h4]
    beta_reduce
    rw [V8, V4]
    exact tie _ _ _ _

end Cert.Dh

end
-- ==== Proof.Down.lean ====
/-
  The down projection with its residual: x + ½ · (gated product) · (down weights), block by block, and the whole arrays.
-/
module

public import proofs.«01_k».proof.Defs
public import proofs.«01_k».proof.Proof.Common
public import proofs.«01_k».proof.Proof.Gen.Kernel6Ideal.Value
public import proofs.«01_k».proof.Proof.Gen.Reference6Ideal.Run
public import Idealize.ShloMosaic.Lib.Claim

@[expose] public section

set_option maxRecDepth 16384

noncomputable section

namespace Cert.Down

open Cert.Common Cert.Kernel6Ideal Cert.Kernel6Ideal.Gen Idealize.ShloMosaic Idealize.ShloMosaic.TcCoe Idealize.SL.Sem

/-- What a grid point stores: 512 rows of the result. -/
def E3 (x0 : Vec Ideal S512x2816 .bf16) (x1 : Vec Ideal S2816x1024 .bf16) (x2 : Vec Ideal S512x1024 .f32) :
    Vec Ideal S512x1024 .f32 := fun y =>
  ((x2 (ix2 (y 0) (y 1)) : EReal) + (∑ k : Fin 2816, x0 (ix2 (y 0) k) * x1 (ix2 k (y 1))) * Ideal.ofBits .f32 0x3F000000#32 : EReal)

theorem out3_apply (x0 : Vec Ideal S512x2816 .bf16) (x1 : Vec Ideal S2816x1024 .bf16) (x2 : Vec Ideal S512x1024 .f32)
    (y : S512x1024.Idx) : out0_3 x0 x1 x2 y = E3 x0 x1 x2 y := by
  unfold out0_3
  refine View.canon_apply_of_pieces (E3 x0 x1 x2) _ ?_ y (cover0_3 _ y)
  intro p hp x
  simp only [List.mem_cons, List.not_mem_nil, or_false] at hp
  rcases hp with rfl
  idx_vars x; unfold_payloads
  rw [emb2 _ _ _ _ x0 x1 (Nat.zero_add _).symm (Nat.zero_add _).symm]
  pointwise [E3]

variable (m : (ℓ : Loc nD τ sig) → Buf (Elt Ideal) ℓ)

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, 0] :=
  (by decide +kernel : ∀ t : Fin grid0.N, win0_1.index t = ![0, 0])
theorem e2 : ∀ t : Fin cfg0.N, win0_2.index t = ![(grid0.coords t 0).val, 0] :=
  (by decide +kernel : ∀ t : Fin grid0.N, win0_2.index t = ![(grid0.coords t 0).val, 0])
theorem e3 : ∀ t : Fin cfg0.N, win0_3.index t = ![(grid0.coords t 0).val, 0] :=
  (by decide +kernel : ∀ t : Fin grid0.N, win0_3.index t = ![(grid0.coords t 0).val, 0])

/-- The result as one function of the arrays the region finds. -/
def G3 (A0 : S8192x2816.Idx → EReal) (A1 : S2816x1024.Idx → EReal) (A2 : S8192x1024.Idx → EReal)
    (y : S8192x1024.Idx) : EReal :=
  A2 (ix2 (y 0) (y 1)) + (∑ k : Fin 2816, A0 (ix2 (y 0) k) * A1 (ix2 k (y 1))) * Ideal.ofBits .f32 0x3F000000#32

theorem arr3 (c : Dev nD) :
    (dats m 0 c).arrAt 3 cfg0.N = G3 (V m c main_v4) (V m c main_v5) (V m c main_arg0) := by
  refine (dats m 0 c).arrAt_eq_of_covers 3 _ (by decide +kernel) fun t hf y => ?_
  blk_simp
  rw [after0_3, out3_apply]
  unfold E3 G3
  blk_simp [iblk]
  have h0 : ∀ k : Fin 2816, (win0_0.blk t).view.emb (ix2 (y 0) k) = ix2 ((win0_3.blk t).view.emb y 0) k :=
    fun k => by blk_ext [e0, e3]
  have h1 : ∀ k : Fin 2816, (win0_1.blk t).view.emb (ix2 k (y 1)) = ix2 k ((win0_3.blk t).view.emb y 1) :=
    fun k => by blk_ext [e1, e3]
  have h2 : (win0_2.blk t).view.emb (ix2 (y 0) (y 1))
      = ix2 ((win0_3.blk t).view.emb y 0) ((win0_3.blk t).view.emb y 1) := by blk_ext [e2, e3]
  simp only [h0, h1, h2]
  rfl

/-- The gated product, as the host computes it before the kernel. -/
def gated (h : FVec Ideal S8192x1024 .f32) (wg wu : FVec Ideal S1024x2816 .f32) : FVec Ideal S8192x2816 .f32 :=
  mulf (mulf (Host.dotGeneral dot_S8192x1024_S1024x2816_S8192x2816_1_0_0_1_n_n none h wg)
      (Host.divf (broadcastInDim S8192x2816 ![] bcast_S_S8192x2816 (constant S_ .f32 0x3F800000#32))
        (addf (broadcastInDim S8192x2816 ![] bcast_S_S8192x2816 (constant S_ .f32 0x3F800000#32))
          (Host.exp (Host.negf (Host.dotGeneral dot_S8192x1024_S1024x2816_S8192x2816_1_0_0_1_n_n none h wg))))))
    (Host.dotGeneral dot_S8192x1024_S1024x2816_S8192x2816_1_0_0_1_n_n none h wu)

theorem V4 (c : Dev nD) : @Eq (FVec Ideal S8192x2816 .bf16) (V m c main_v4)
    (truncf .bf16 (φ := .f32) (gated (m ((c : Thread nD τ).loc main_arg1)) (m ((c : Thread nD τ).loc main_arg2))
      (m ((c : Thread nD τ).loc main_arg3))) bitsLt_bf16_f32) := by
  entry_read
  rfl
theorem V5 (c : Dev nD) : @Eq (FVec Ideal S2816x1024 .bf16) (V m c main_v5)
    (truncf .bf16 (φ := .f32) (m ((c : Thread nD τ).loc main_arg4)) bitsLt_bf16_f32) := by
  entry_read
  rfl
/-- The reference's last step over the gated product is the kernel's result. -/
theorem tie (x : FVec Ideal S8192x1024 .f32) (A : FVec Ideal S8192x2816 .f32) (wd : FVec Ideal S2816x1024 .f32) :
    addf x (mulf (broadcastInDim S8192x1024 ![] Cert.Reference6Ideal.Gen.bcast_S_S8192x1024 (constant S_ .f32 0x3F000000#32))
      (Host.dotGeneral Cert.Reference6Ideal.dot_S8192x2816_S2816x1024_S8192x1024_1_0_0_1_n_n none A wd))
    = G3 (truncf .bf16 (φ := .f32) A bitsLt_bf16_f32) (truncf .bf16 (φ := .f32) wd bitsLt_bf16_f32) x := by
  funext y; idx_vars y
  pointwise [G3]
  rw [mul_comm]

/-- The claim of values: both programs end with the layer's output. -/
theorem algebraic : Cert.algebraic_Kernel6Ideal_Reference6Ideal := by
  intro m g m' g' hpre hagree
  refine ⟨fun c => G3 (V m c main_v4) (V m c main_v5) (V m c main_arg0), ?_, ?_⟩
  · exact (θ_run _ _ _).mono (fun r h c => ⟨(h c).1.trans (arr3 m c), (h c).2⟩)
      (Cert.Kernel6Ideal.Value.run_blocks m g)
  · refine (θ_run _ _ _).mono ?_ (Cert.Reference6Ideal.Value.run m' g')
    intro r h c
    refine ⟨(h c).1.trans ?_, (h c).2⟩
    clear h
    obtain ⟨h0, h1, h2, h3, h4⟩ := hagree c
    rw [h0, h1, h2, h3, h4]
    beta_reduce
    rw [V4, V5, V_main_arg0]
    exact tie _ (gated _ _ _) _

end Cert.Down

end
-- ==== Proof.Dwd.lean ====
/-
  The gradient of the down weights: ½ · uᵀ · ct, accumulated over sixteen tiles of the rows.
-/
module

public import proofs.«01_k».proof.Defs
public import proofs.«01_k».proof.Proof.Tiles
public import proofs.«01_k».proof.Proof.Gen.Kernel3Ideal.Value
public import proofs.«01_k».proof.Proof.Gen.Reference3Ideal.Run
public import Idealize.ShloMosaic.Lib.Claim

@[expose] public section

set_option maxRecDepth 16384

noncomputable section

namespace Cert.Dwd

open Cert.Common Cert.Kernel3Ideal Cert.Kernel3Ideal.Gen Idealize.ShloMosaic Idealize.ShloMosaic.TcCoe Idealize.SL.Sem

theorem hz : (![0, 0] : Fin 2 → Nat) = fun _ => 0 := funext fun a => by fin_cases a <;> rfl

/-! ## What a grid point leaves -/

section
variable (c : Dev nD) (i : grid0.Coords) (a3 : Memref sig .tc .vmem S512x1408 .bf16) (h3 : a3.IsWhole)
  (a4 : Memref sig .tc .vmem S512x1024 .bf16) (h4 : a4.IsWhole) (a5 : Memref sig .tc .vmem S1408x1024 .f32)
  (h5 : a5.IsWhole) (a6 : Memref sig .tc .vmem S1408x1024 .f32) (h6 : a6.IsWhole)
  (x0 : Vec Ideal S512x1408 .bf16) (x1 : Vec Ideal S512x1024 .bf16) (xs : Vec Ideal S1408x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S512x1408) hz,
    View.ld_unit_zero (S := S512x1024) hz]

theorem sout_B (hc0 : ¬cond0_0 i) (hc1 : cond0_1 i) (hc2 : ¬cond0_2 i) :
    sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S512x1408) hz,
    View.ld_unit_zero (S := S512x1024) hz, View.ld_unit_zero (S := S1408x1024) hz]

theorem out_C (hc0 : ¬cond0_0 i) (hc1 : cond0_1 i) (hc2 : cond0_2 i) :
    out0_C_2 c i a3 h3 a4 h4 a5 h5 a6 h6 hc0 hc1 hc2 x0 x1 xs = k0_pay3 (k0_pay2 xs x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1408x1024) _ hz]
  simp only [View.readAt_eq_ld, h3.read_unread, h4.read_unread, h6.read_unread, View.ld_unit_zero (S := S512x1408) hz,
    View.ld_unit_zero (S := S512x1024) hz, View.ld_unit_zero (S := S1408x1024) hz]

end

/-- The product of two tiles at an index. -/
def tile (x0 : Vec Ideal S512x1408 .bf16) (x1 : Vec Ideal S512x1024 .bf16) (i : Fin 1408) (j : Fin 1024) : EReal :=
  ∑ k : Fin 512, x0 (ix2 k i) * x1 (ix2 k j)

theorem pay1_apply (x0 : Vec Ideal S512x1408 .bf16) (x1 : Vec Ideal S512x1024 .bf16) (i : Fin 1408) (j : Fin 1024) :
    k0_pay1 x0 x1 (ix2 i j) = tile x0 x1 i j := by
  pointwise [k0_pay1, tile]

theorem pay2_apply (xs : Vec Ideal S1408x1024 .f32) (x0 : Vec Ideal S512x1408 .bf16) (x1 : Vec Ideal S512x1024 .bf16)
    (i : Fin 1408) (j : Fin 1024) :
    k0_pay2 xs x0 x1 (ix2 i j) = (xs (ix2 i j) + tile x0 x1 i j : EReal) := by
  pointwise [k0_pay2, tile]

theorem pay3_apply (xs : Vec Ideal S1408x1024 .f32) (i : Fin 1408) (j : Fin 1024) :
    k0_pay3 xs (ix2 i j) = (xs (ix2 i j) * Ideal.ofBits .f32 0x3F000000#32 : EReal) := by
  pointwise [k0_pay3]

/-! ## The running sum, and the array -/

variable (m : (ℓ : Loc nD τ sig) → Buf (Elt Ideal) ℓ)

/-- What point `n` contributes at place `(i, j)` of its block. -/
def part (c : Dev nD) (i : Fin 1408) (j : Fin 1024) (n : ℕ) : EReal :=
  if h : n < cfg0.N then tile (iblk m c 0 ⟨n, h⟩) (iblk m c 1 ⟨n, h⟩) i j else 0

theorem part_eq (c : Dev nD) (i : Fin 1408) (j : Fin 1024) (t : Fin cfg0.N) :
    part m c i j t = tile (iblk m c 0 t) (iblk m c 1 t) i j := dif_pos t.isLt

theorem scratch (c : Dev nD) (i : Fin 1408) (j : Fin 1024) : ∀ n (h : n < cfg0.N), n % 16 ≠ 16 - 1 →
    ((outsAt0 m c n h).2 (ix2 i j) : EReal) = ∑ s ∈ Finset.range (n % 16 + 1), part m c i j (n - n % 16 + s) := by
  refine run_sum 16 (by omega) (fun n h => ((outsAt0 m c n h).2 (ix2 i j) : EReal)) (part m c i j) ?_ ?_
  · intro n h h0
    rw [outsAt0_A m c ⟨n, h⟩ h0 (by simp only; omega) (by simp only; omega)]
    dsimp only
    rw [sout_A, pay1_apply]
    exact (part_eq m c i j ⟨n, h⟩).symm
  · intro n h h' h0 h1
    rw [outsAt0_B m c ⟨n, h⟩ h0 (by simp only; omega) h1]
    dsimp only
    rw [sout_B, pay2_apply]
    exact congrArg _ (part_eq m c i j ⟨n, h⟩).symm

theorem last (c : Dev nD) (i : Fin 1408) (j : Fin 1024) (t : Fin cfg0.N) (ht : t.val % 16 = 15) :
    ((outsAt0 m c t.val t.isLt).1 (ix2 i j) : EReal)
      = (∑ s ∈ Finset.range 16, part m c i j (t.val - 15 + s)) * Ideal.ofBits .f32 0x3F000000#32 := by
  rw [outsAt0_C m c t (by omega) (by omega) ht]
  dsimp only
  rw [out_C, pay3_apply, pay2_apply, scratch m c i j _ _ (by omega), ← part_eq m c i j t, Finset.sum_range_succ _ 15]
  have e1 : (t.val - 1) % 16 = 14 := by omega
  rw [e1, show t.val - 1 - 14 = t.val - 15 by omega, show t.val - 15 + 15 = t.val by omega]

theorem e0 : ∀ t : Fin cfg0.N, win0_0.index t = ![t.val % 16, t.val / 16] :=
  (by decide +kernel : ∀ t : Fin grid0.N, win0_0.index t = ![t.val % 16, t.val / 16])
theorem e1 : ∀ t : Fin cfg0.N, win0_1.index t = ![t.val % 16, 0] :=
  (by decide +kernel : ∀ t : Fin grid0.N, win0_1.index t = ![t.val % 16, 0])
theorem e2 : ∀ t : Fin cfg0.N, win0_2.index t = ![t.val / 16, 0] :=
  (by decide +kernel : ∀ t : Fin grid0.N, win0_2.index t = ![t.val / 16, 0])

/-- The result as one function of the arrays the region finds. -/
def G2 (A0 : S8192x2816.Idx → EReal) (A1 : S8192x1024.Idx → EReal) (y : S2816x1024.Idx) : EReal :=
  (∑ k : Fin 8192, A0 (ix2 k (y 0)) * A1 (ix2 k (y 1))) * Ideal.ofBits .f32 0x3F000000#32

theorem emb_0 (t t' : Fin cfg0.N) (j : ℕ) (hj : j < 16) (hm : t'.val % 16 = j) (hd : t'.val / 16 = t.val / 16)
    (k : Fin 512) (y : S1408x1024.Idx) : (win0_0.blk t').view.emb (ix2 k (y 0))
      = ix2 ⟨j * 512 + k.val, by omega⟩ ((win0_2.blk t).view.emb y 0) := by blk_ext [e0, e2, hm, hd]

theorem emb_1 (t t' : Fin cfg0.N) (j : ℕ) (hj : j < 16) (hm : t'.val % 16 = j) (hd : t'.val / 16 = t.val / 16)
    (k : Fin 512) (y : S1408x1024.Idx) : (win0_1.blk t').view.emb (ix2 k (y 1))
      = ix2 ⟨j * 512 + k.val, by omega⟩ ((win0_2.blk t).view.emb y 1) := by blk_ext [e1, e2, hm, hd]

theorem arr2 (c : Dev nD) : (dats m 0 c).arrAt 2 cfg0.N = G2 (V m c main_v4) (V m c main_v5) := by
  refine (dats m 0 c).arrAt_eq_of_covers 2 _ (by decide +kernel) fun t hf y => ?_
  have ht : t.val % 16 = 15 := (flush0_2 t).mp hf
  have hN : t.val < 32 := lt_of_lt_of_eq t.isLt (show cfg0.N = 32 from N_0)
  blk_simp
  rw [after0_2]
  have hy : y = ix2 (y 0) (y 1) := by funext a; fin_cases a <;> rfl
  refine (congrArg _ hy).trans ((last m c (y 0) (y 1) t ht).trans ?_)
  unfold G2
  congr 1
  refine tiles_sum 16 512 (by norm_num) _ _ fun j hj => ?_
  have hlt : t.val - 15 + j < cfg0.N := by have : cfg0.N = 32 := N_0; omega
  rw [show part m c (y 0) (y 1) (t.val - 15 + j) = _ from part_eq m c (y 0) (y 1) ⟨t.val - 15 + j, hlt⟩]
  unfold tile
  refine Finset.sum_congr rfl fun k _ => ?_
  blk_simp [iblk]
  have hm : (t.val - 15 + j) % 16 = j := by omega
  have hd : (t.val - 15 + j) / 16 = t.val / 16 := by omega
  rw [emb_0 t ⟨_, hlt⟩ j hj hm hd k y, emb_1 t ⟨_, hlt⟩ j hj hm hd k y]
  rfl

/-! ## The claim -/

/-- The gated product, as the host computes it before the kernel. -/
def gated (h : FVec Ideal S8192x1024 .f32) (wg wu : FVec Ideal S1024x2816 .f32) : FVec Ideal S8192x2816 .f32 :=
  mulf (mulf (Host.dotGeneral dot_S8192x1024_S1024x2816_S8192x2816_1_0_0_1_n_n none h wg)
      (Host.divf (broadcastInDim S8192x2816 ![] bcast_S_S8192x2816 (constant S_ .f32 0x3F800000#32))
        (addf (broadcastInDim S8192x2816 ![] bcast_S_S8192x2816 (constant S_ .f32 0x3F800000#32))
          (Host.exp (Host.negf (Host.dotGeneral dot_S8192x1024_S1024x2816_S8192x2816_1_0_0_1_n_n none h wg))))))
    (Host.dotGeneral dot_S8192x1024_S1024x2816_S8192x2816_1_0_0_1_n_n none h wu)

theorem V4 (c : Dev nD) : @Eq (FVec Ideal S8192x2816 .bf16) (V m c main_v4)
    (truncf .bf16 (φ := .f32) (gated (m ((c : Thread nD τ).loc main_arg0)) (m ((c : Thread nD τ).loc main_arg1))
      (m ((c : Thread nD τ).loc main_arg2))) bitsLt_bf16_f32) := by
  entry_read
  rfl
theorem V5 (c : Dev nD) : @Eq (FVec Ideal S8192x1024 .bf16) (V m c main_v5)
    (truncf .bf16 (φ := .f32) (m ((c : Thread nD τ).loc main_arg4)) bitsLt_bf16_f32) := by
  entry_read
  rfl

/-- The reference's gradient over the gated product is the kernel's result. -/
theorem tie (A : FVec Ideal S8192x2816 .f32) (ct : FVec Ideal S8192x1024 .f32) :
    transpose S2816x1024 [1, 0] (Host.dotGeneral Cert.Reference3Ideal.dot_S8192x1024_S8192x2816_S1024x2816_0_0_1_1_n_n none
      (mulf (broadcastInDim S8192x1024 ![] Cert.Reference3Ideal.Gen.bcast_S_S8192x1024 (constant S_ .f32 0x3F000000#32)) ct) A)
      Cert.Reference3Ideal.Gen.transposes_S1024x2816_S2816x1024_1_0
    = G2 (truncf .bf16 (φ := .f32) A bitsLt_bf16_f32) (truncf .bf16 (φ := .f32) ct bitsLt_bf16_f32) := by
  funext y; idx_vars y
  pointwise [G2]
  rw [ofBits_half, mul_comm _ (((1 / 2 : ℝ)) : EReal), coe_mul_sum _ _ (by norm_num)]
  exact Finset.sum_congr rfl fun k _ => by rw [mul_assoc, mul_comm (ct _) (A _)]

/-- The claim of values: both programs end with the gradient of the down weights. -/
theorem algebraic : Cert.algebraic_Kernel3Ideal_Reference3Ideal := by
  intro m g m' g' hpre hagree
  refine ⟨fun c => G2 (V m c main_v4) (V m c main_v5), ?_, ?_⟩
  · exact (θ_run _ _ _).mono (fun r h c => ⟨(h c).1.trans (arr2 m c), (h c).2⟩)
      (Cert.Kernel3Ideal.Value.run_blocks m g)
  · refine (θ_run _ _ _).mono ?_ (Cert.Reference3Ideal.Value.run m' g')
    intro r h c
    refine ⟨(h c).1.trans ?_, (h c).2⟩
    clear h
    obtain ⟨h0, h1, h2, h3, h4⟩ := hagree c
    rw [h0, h1, h2, h4]
    beta_reduce
    rw [V4, V5]
    exact tie (gated _ _ _) _

end Cert.Dwd

end
-- ==== Proof.Dwgu.lean ====
/-
  The gradients of the two up weights: hᵀ · [da, db], accumulated over sixteen tiles of the rows.
-/
module

public import proofs.«01_k».proof.Defs
public import proofs.«01_k».proof.Proof.Tiles
public import proofs.«01_k».proof.Proof.Gen.Kernel4Ideal.Value
public import proofs.«01_k».proof.Proof.Gen.Reference4Ideal.Run
public import Idealize.ShloMosaic.Lib.Claim

@[expose] public section

set_option maxRecDepth 16384

noncomputable section

namespace Cert.Dwgu

open Cert.Common Cert.Kernel4Ideal Cert.Kernel4Ideal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-! ## What a grid point leaves -/

section
variable (c : Dev nD) (i : grid0.Coords) (a4 : Memref sig .tc .vmem S512x1024 .bf16) (h4 : a4.IsWhole)
  (a5 : Memref sig .tc .vmem S1x512x1408 .bf16) (h5 : a5.IsWhole) (a6 : Memref sig .tc .vmem S1x1024x1408 .f32)
  (h6 : a6.IsWhole) (a7 : Memref sig .tc .vmem S1024x1408 .f32) (h7 : a7.IsWhole)
  (x0 : Vec Ideal S512x1024 .bf16) (x1 : Vec Ideal S1x512x1408 .bf16) (xs : Vec Ideal S1024x1408 .f32)

theorem sout_A (hc0 : cond0_0 i) (hc1 : ¬cond0_1 i) (hc2 : ¬cond0_2 i) :
    sout0_A_0 c i a4 h4 a5 h5 a6 h6 a7 h7 hc0 hc1 hc2 x0 x1 = k0_pay1 x0 x1 := by
  unfold sout0_A_0
  rw [View.read_writes_eq_canon _ _ _ (scover0_A_0 c i a4 h4 a5 h5 a6 h6 a7 h7 hc0 hc1 hc2 x0 x1)]
  unfold kernelRun0_A
  dsimp only
  rw [View.canon_unit_zero hz]
  simp only [View.readAt_eq_ld, h4.read_unread, h5.read_unread, View.ld_unit_zero (S := S512x1024) hz,
    View.ld_unit_zero (S := S1x512x1408) hz3]

theorem sout_B (hc0 : ¬cond0_0 i) (hc1 : cond0_1 i) (hc2 : ¬cond0_2 i) :
    sout0_B_0 c i a4 h4 a5 h5 a6 h6 a7 h7 hc0 hc1 hc2 x0 x1 xs = k0_pay2 xs x0 x1 := by
  unfold sout0_B_0
  rw [View.read_writes_eq_canon _ _ _ (scover0_B_0 c i a4 h4 a5 h5 a6 h6 a7 h7 hc0 hc1 hc2 x0 x1 xs)]
  unfold kernelRun0_B
  dsimp only
  rw [View.canon_unit_zero hz]
  simp only [View.readAt_eq_ld, h4.read_unread, h5.read_unread, h7.read_unread, View.ld_unit_zero (S := S512x1024) hz,
    View.ld_unit_zero (S := S1x512x1408) hz3, View.ld_unit_zero (S := S1024x1408) hz]

theorem out_C (hc0 : ¬cond0_0 i) (hc1 : cond0_1 i) (hc2 : cond0_2 i) :
    out0_C_2 c i a4 h4 a5 h5 a6 h6 a7 h7 hc0 hc1 hc2 x0 x1 xs = k0_pay3 (k0_pay2 xs x0 x1) := by
  unfold out0_C_2
  rw [View.read_writes_eq_canon _ _ _ (cover0_C_2 c i a4 h4 a5 h5 a6 h6 a7 h7 hc0 hc1 hc2 x0 x1 xs)]
  unfold kernelRun0_C
  dsimp only
  sl_unfold_words
  rw [View.canon_unit_zero hz3, View.readCov_unit_zero (S := S1024x1408) _ hz]
  simp only [View.readAt_eq_ld, h4.read_unread, h5.read_unread, h7.read_unread, View.ld_unit_zero (S := S512x1024) hz,
    View.ld_unit_zero (S := S1x512x1408) hz3, View.ld_unit_zero (S := S1024x1408) hz]

end

/-- The product of two tiles at an index. -/
def tile (x0 : Vec Ideal S512x1024 .bf16) (x1 : Vec Ideal S1x512x1408 .bf16) (i : Fin 1024) (j : Fin 1408) : EReal :=
  ∑ k : Fin 512, x0 (ix2 k i) * x1 (ix3 0 k j)

theorem pay1_apply (x0 : Vec Ideal S512x1024 .bf16) (x1 : Vec Ideal S1x512x1408 .bf16) (i : Fin 1024) (j : Fin 1408) :
    k0_pay1 x0 x1 (ix2 i j) = tile x0 x1 i j := by
  pointwise [k0_pay1, tile]

theorem pay2_apply (xs : Vec Ideal S1024x1408 .f32) (x0 : Vec Ideal S512x1024 .bf16) (x1 : Vec Ideal S1x512x1408 .bf16)
    (i : Fin 1024) (j : Fin 1408) :
    k0_pay2 xs x0 x1 (ix2 i j) = (xs (ix2 i j) + tile x0 x1 i j : EReal) := by
  pointwise [k0_pay2, tile]

theorem pay3_apply (xs : Vec Ideal S1024x1408 .f32) (o : Fin 1) (i : Fin 1024) (j : Fin 1408) :
    k0_pay3 xs (ix3 o i j) = (xs (ix2 i j) : EReal) := by
  pointwise [k0_pay3]

/-! ## The running sum, and the array -/

variable (m : (ℓ : Loc nD τ sig) → Buf (Elt Ideal) ℓ)

/-- What point `n` contributes at place `(i, j)` of its block. -/
def part (c : Dev nD) (i : Fin 1024) (j : Fin 1408) (n : ℕ) : EReal :=
  if h : n < cfg0.N then tile (iblk m c 0 ⟨n, h⟩) (iblk m c 1 ⟨n, h⟩) i j else 0

theorem part_eq (c : Dev nD) (i : Fin 1024) (j : Fin 1408) (t : Fin cfg0.N) :
    part m c i j t = tile (iblk m c 0 t) (iblk m c 1 t) i j := dif_pos t.isLt

theorem scratch (c : Dev nD) (i : Fin 1024) (j : Fin 1408) : ∀ n (h : n < cfg0.N), n % 16 ≠ 16 - 1 →
    ((outsAt0 m c n h).2 (ix2 i j) : EReal) = ∑ s ∈ Finset.range (n % 16 + 1), part m c i j (n - n % 16 + s) := by
  refine run_sum 16 (by omega) (fun n h => ((outsAt0 m c n h).2 (ix2 i j) : EReal)) (part m c i j) ?_ ?_
  · intro n h h0
    rw [outsAt0_A m c ⟨n, h⟩ h0 (by simp only; omega) (by simp only; omega)]
    dsimp only
    rw [sout_A, pay1_apply]
    exact (part_eq m c i j ⟨n, h⟩).symm
  · intro n h h' h0 h1
    rw [outsAt0_B m c ⟨n, h⟩ h0 (by simp only; omega) h1]
    dsimp only
    rw [sout_B, pay2_apply]
    exact congrArg _ (part_eq m c i j ⟨n, h⟩).symm

theorem last (c : Dev nD) (o : Fin 1) (i : Fin 1024) (j : Fin 1408) (t : Fin cfg0.N) (ht : t.val % 16 = 15) :
    ((outsAt0 m c t.val t.isLt).1 (ix3 o i j) : EReal) = ∑ s ∈ Finset.range 16, part m c i j (t.val - 15 + s) := by
  rw [outsAt0_C m c t (by omega) (by omega) ht]
  dsimp only
  rw [out_C, pay3_apply, pay2_apply, scratch m c i j _ _ (by omega), ← part_eq m c i j t, Finset.sum_range_succ _ 15]
  have e1 : (t.val - 1) % 16 = 14 := by omega
  rw [e1, show t.val - 1 - 14 = t.val - 15 by omega, show t.val - 15 + 15 = t.val by omega]

theorem e0 : ∀ t : Fin cfg0.N, win0_0.index t = ![t.val % 16, 0] :=
  (by decide +kernel : ∀ t : Fin grid0.N, win0_0.index t = ![t.val % 16, 0])
theorem e1 : ∀ t : Fin cfg0.N, win0_1.index t = ![t.val / 16 / 2, t.val % 16, t.val / 16 % 2] :=
  (by decide +kernel : ∀ t : Fin grid0.N, win0_1.index t = ![t.val / 16 / 2, t.val % 16, t.val / 16 % 2])
theorem e2 : ∀ t : Fin cfg0.N, win0_2.index t = ![t.val / 16 / 2, 0, t.val / 16 % 2] :=
  (by decide +kernel : ∀ t : Fin grid0.N, win0_2.index t = ![t.val / 16 / 2, 0, t.val / 16 % 2])

/-- The result as one function of the arrays the region finds. -/
def G2 (A0 : S8192x1024.Idx → EReal) (A1 : S2x8192x2816.Idx → EReal) (y : S2x1024x2816.Idx) : EReal :=
  ∑ k : Fin 8192, A0 (ix2 k (y 1)) * A1 (ix3 (y 0) k (y 2))

theorem emb_0 (t t' : Fin cfg0.N) (j : ℕ) (hj : j < 16) (hm : t'.val % 16 = j) (hd : t'.val / 16 = t.val / 16)
    (k : Fin 512) (y : S1x1024x1408.Idx) : (win0_0.blk t').view.emb (ix2 k (y 1))
      = ix2 ⟨j * 512 + k.val, by omega⟩ ((win0_2.blk t).view.emb y 1) := by blk_ext [e0, e2, hm, hd]

theorem emb_1 (t t' : Fin cfg0.N) (j : ℕ) (hj : j < 16) (hm : t'.val % 16 = j) (hd : t'.val / 16 = t.val / 16)
    (k : Fin 512) (y : S1x1024x1408.Idx) : (win0_1.blk t').view.emb (ix3 0 k (y 2))
      = ix3 ((win0_2.blk t).view.emb y 0) ⟨j * 512 + k.val, by omega⟩ ((win0_2.blk t).view.emb y 2) := by
  blk_ext [e1, e2, hm, hd]

theorem arr2 (c : Dev nD) : (dats m 0 c).arrAt 2 cfg0.N = G2 (V m c main_v0) (V m c main_v4) := by
  refine (dats m 0 c).arrAt_eq_of_covers 2 _ (by decide +kernel) fun t hf y => ?_
  have ht : t.val % 16 = 15 := (flush0_2 t).mp hf
  have hN : t.val < 64 := lt_of_lt_of_eq t.isLt (show cfg0.N = 64 from N_0)
  blk_simp
  rw [after0_2]
  have hy : y = ix3 (y 0) (y 1) (y 2) := by funext a; fin_cases a <;> rfl
  refine (congrArg _ hy).trans ((last m c (y 0) (y 1) (y 2) t ht).trans ?_)
  unfold G2
  refine tiles_sum 16 512 (by norm_num) _ _ fun j hj => ?_
  have hlt : t.val - 15 + j < cfg0.N := by have : cfg0.N = 64 := N_0; omega
  rw [show part m c (y 1) (y 2) (t.val - 15 + j) = _ from part_eq m c (y 1) (y 2) ⟨t.val - 15 + j, hlt⟩]
  unfold tile
  refine Finset.sum_congr rfl fun k _ => ?_
  blk_simp [iblk]
  have hm : (t.val - 15 + j) % 16 = j := by omega
  have hd : (t.val - 15 + j) / 16 = t.val / 16 := by omega
  rw [emb_0 t ⟨_, hlt⟩ j hj hm hd k y, emb_1 t ⟨_, hlt⟩ j hj hm hd k y]
  rfl

/-! ## The claim -/

theorem V0 (c : Dev nD) : @Eq (FVec Ideal S8192x1024 .bf16) (V m c main_v0)
    (truncf .bf16 (φ := .f32) (m ((c : Thread nD τ).loc main_arg0)) bitsLt_bf16_f32) := by
  entry_read
  rfl
theorem V4 (c : Dev nD) : @Eq (FVec Ideal S2x8192x2816 .bf16) (V m c main_v4)
    (truncf .bf16 (φ := .f32) (concatenate S2x8192x2816 0
      [⟨S1x8192x2816, broadcastInDim S1x8192x2816 ![1, 2] bcast_S8192x2816_S1x8192x2816_1_2 (m ((c : Thread nD τ).loc main_arg3))⟩,
       ⟨S1x8192x2816, broadcastInDim S1x8192x2816 ![1, 2] bcast_S8192x2816_S1x8192x2816_1_2 (m ((c : Thread nD τ).loc main_arg4))⟩]
      concatenates_S1x8192x2816_S1x8192x2816_S2x8192x2816_d0) bitsLt_bf16_f32) := by
  entry_read
  rfl

/-- The reference's stacked gradients are the kernel's result over the stacked arrays. -/
theorem tie (h : FVec Ideal S8192x1024 .f32) (da db : FVec Ideal S8192x2816 .f32) :
    concatenate Cert.Reference4Ideal.S2x1024x2816 0
      [⟨Cert.Reference4Ideal.S1x1024x2816, broadcastInDim Cert.Reference4Ideal.S1x1024x2816 ![1, 2] Cert.Reference4Ideal.Gen.bcast_S1024x2816_S1x1024x2816_1_2
        (transpose Cert.Reference4Ideal.S1024x2816 [1, 0] (Host.dotGeneral Cert.Reference4Ideal.dot_S8192x2816_S8192x1024_S2816x1024_0_0_1_1_n_n none da h) Cert.Reference4Ideal.Gen.transposes_S2816x1024_S1024x2816_1_0)⟩,
       ⟨Cert.Reference4Ideal.S1x1024x2816, broadcastInDim Cert.Reference4Ideal.S1x1024x2816 ![1, 2] Cert.Reference4Ideal.Gen.bcast_S1024x2816_S1x1024x2816_1_2
        (transpose Cert.Reference4Ideal.S1024x2816 [1, 0] (Host.dotGeneral Cert.Reference4Ideal.dot_S8192x2816_S8192x1024_S2816x1024_0_0_1_1_n_n none db h) Cert.Reference4Ideal.Gen.transposes_S2816x1024_S1024x2816_1_0)⟩]
      Cert.Reference4Ideal.Gen.concatenates_S1x1024x2816_S1x1024x2816_S2x1024x2816_d0
    = G2 (truncf .bf16 (φ := .f32) h bitsLt_bf16_f32) (truncf .bf16 (φ := .f32) (concatenate S2x8192x2816 0
      [⟨S1x8192x2816, broadcastInDim S1x8192x2816 ![1, 2] bcast_S8192x2816_S1x8192x2816_1_2 da⟩,
       ⟨S1x8192x2816, broadcastInDim S1x8192x2816 ![1, 2] bcast_S8192x2816_S1x8192x2816_1_2 db⟩]
      concatenates_S1x8192x2816_S1x8192x2816_S2x8192x2816_d0) bitsLt_bf16_f32) := by
  funext y; idx_vars y
  fin_cases y0
  · pointwise [G2]
    exact Finset.sum_congr rfl fun k _ => mul_comm _ _
  · pointwise [G2]
    exact Finset.sum_congr rfl fun k _ => mul_comm _ _

/-- The claim of values: both programs end with the two gradients of the up weights. -/
theorem algebraic : Cert.algebraic_Kernel4Ideal_Reference4Ideal := by
  intro m g m' g' hpre hagree
  refine ⟨fun c => G2 (V m c main_v0) (V m c main_v4), ?_, ?_⟩
  · exact (θ_run _ _ _).mono (fun r h c => ⟨(h c).1.trans (arr2 m c), (h c).2⟩)
      (Cert.Kernel4Ideal.Value.run_blocks m g)
  · refine (θ_run _ _ _).mono ?_ (Cert.Reference4Ideal.Value.run m' g')
    intro r h c
    refine ⟨(h c).1.trans ?_, (h c).2⟩
    clear h
    obtain ⟨h0, h1, h2, h3, h4⟩ := hagree c
    rw [h0, h3, h4]
    beta_reduce
    rw [V0, V4]
    exact tie _ _ _

end Cert.Dwgu

end
-- ==== Proof.FoxDh.lean ====
/-
  The gradient of the attention's input and gate projections in their input: dqkv · Wᵀ + dfl · Wfᵀ.
-/
module

public import proofs.«01_k».proof.Defs
public import proofs.«01_k».proof.Proof.Common
public import proofs.«01_k».proof.Proof.Gen.Kernel22Ideal.Value
public import proofs.«01_k».proof.Proof.Gen.Reference22Ideal.Run
public import Idealize.ShloMosaic.Lib.Claim

@[expose] public section

set_option maxRecDepth 16384

noncomputable section

namespace Cert.FoxDh

open Cert.Common Cert.Kernel22Ideal Cert.Kernel22Ideal.Gen Idealize.ShloMosaic Idealize.ShloMosaic.TcCoe Idealize.SL.Sem

/-- What a grid point stores. -/
def E4 (x0 : Vec Ideal S1024x3072 .bf16) (x1 : Vec Ideal S1024x3072 .bf16) (x2 : Vec Ideal S1024x128 .f32) (x3 : Vec Ideal S1024x128 .bf16) :
    Vec Ideal S1024x1024 .f32 := fun y =>
  ((∑ k : Fin 3072, x0 (ix2 (y 0) k) * x1 (ix2 (y 1) k)) + ∑ k : Fin 128, x2 (ix2 (y 0) k) * x3 (ix2 (y 1) k) : EReal)

theorem out4_apply (x0 : Vec Ideal S1024x3072 .bf16) (x1 : Vec Ideal S1024x3072 .bf16) (x2 : Vec Ideal S1024x128 .f32) (x3 : Vec Ideal S1024x128 .bf16)
    (y : S1024x1024.Idx) : out0_4 x0 x1 x2 x3 y = E4 x0 x1 x2 x3 y := by
  unfold out0_4
  refine View.canon_apply_of_pieces (E4 x0 x1 x2 x3) _ ?_ y (cover0_4 _ y)
  intro p hp x
  simp only [List.mem_cons, List.not_mem_nil, or_false] at hp
  rcases hp with rfl
  idx_vars x; unfold_payloads
  rw [emb2 _ _ _ _ x0 x1 (Nat.zero_add _).symm (Nat.zero_add _).symm]
  pointwise [E4]

variable (m : (ℓ : Loc nD τ sig) → Buf (Elt Ideal) ℓ)

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![(grid0.coords t 1).val, 0] :=
  (by decide +kernel : ∀ t : Fin grid0.N, win0_1.index t = ![(grid0.coords t 1).val, 0])
theorem e2 : ∀ t : Fin cfg0.N, win0_2.index t = ![(grid0.coords t 0).val, 0] :=
  (by decide +kernel : ∀ t : Fin grid0.N, win0_2.index t = ![(grid0.coords t 0).val, 0])
theorem e3 : ∀ t : Fin cfg0.N, win0_3.index t = ![(grid0.coords t 1).val, 0] :=
  (by decide +kernel : ∀ t : Fin grid0.N, win0_3.index t = ![(grid0.coords t 1).val, 0])
theorem e4 : ∀ t : Fin cfg0.N, win0_4.index t = ![(grid0.coords t 0).val, (grid0.coords t 1).val] :=
  (by decide +kernel : ∀ t : Fin grid0.N, win0_4.index t = ![(grid0.coords t 0).val, (grid0.coords t 1).val])

/-- The result as one function of the arrays the region finds. -/
def G4 (A0 : S8192x3072.Idx → EReal) (A1 : S1024x3072.Idx → EReal) (A2 : S8192x128.Idx → EReal) (A3 : S1024x128.Idx → EReal)
    (y : S8192x1024.Idx) : EReal :=
  ((∑ k : Fin 3072, A0 (ix2 (y 0) k) * A1 (ix2 (y 1) k)) + ∑ k : Fin 128, A2 (ix2 (y 0) k) * A3 (ix2 (y 1) k) : EReal)

theorem arr4 (c : Dev nD) :
    (dats m 0 c).arrAt 4 cfg0.N = G4 (V m c main_v0) (V m c main_v1) (V m c main_arg4) (V m c main_v2) := by
  refine (dats m 0 c).arrAt_eq_of_covers 4 _ (by decide +kernel) fun t hf y => ?_
  blk_simp
  rw [after0_4, out4_apply]
  unfold E4 G4
  blk_simp [iblk]
  have h0 : ∀ k : Fin 3072, (win0_0.blk t).view.emb (ix2 (y 0) k) = ix2 ((win0_4.blk t).view.emb y 0) k :=
    fun k => by blk_ext [e0, e4]
  have h1 : ∀ k : Fin 3072, (win0_1.blk t).view.emb (ix2 (y 1) k) = ix2 ((win0_4.blk t).view.emb y 1) k :=
    fun k => by blk_ext [e1, e4]
  have h2 : ∀ k : Fin 128, (win0_2.blk t).view.emb (ix2 (y 0) k) = ix2 ((win0_4.blk t).view.emb y 0) k :=
    fun k => by blk_ext [e2, e4]
  have h3 : ∀ k : Fin 128, (win0_3.blk t).view.emb (ix2 (y 1) k) = ix2 ((win0_4.blk t).view.emb y 1) k :=
    fun k => by blk_ext [e3, e4]
  simp only [h0, h1, h2, h3]
  rfl

theorem V0 (c : Dev nD) : @Eq (FVec Ideal S8192x3072 .bf16) (V m c main_v0)
    (truncf .bf16 (φ := .f32) (m ((c : Thread nD τ).loc main_arg3)) bitsLt_bf16_f32) := by
  entry_read
  rfl
theorem V1 (c : Dev nD) : @Eq (FVec Ideal S1024x3072 .bf16) (V m c main_v1)
    (truncf .bf16 (φ := .f32) (m ((c : Thread nD τ).loc main_arg1)) bitsLt_bf16_f32) := by
  entry_read
  rfl
theorem V2 (c : Dev nD) : @Eq (FVec Ideal S1024x128 .bf16) (V m c main_v2)
    (truncf .bf16 (φ := .f32) (m ((c : Thread nD τ).loc main_arg2)) bitsLt_bf16_f32) := by
  entry_read
  rfl

/-- The reference's line is the kernel's result. -/
theorem tie (d : FVec Ideal S8192x3072 .f32) (w : FVec Ideal S1024x3072 .f32) (df : FVec Ideal S8192x128 .f32) (wf : FVec Ideal S1024x128 .f32) :
    addf (Host.dotGeneral Cert.Reference22Ideal.dot_S8192x128_S1024x128_S8192x1024_1_1_0_0_n_n none df wf)
      (Host.dotGeneral Cert.Reference22Ideal.dot_S8192x3072_S1024x3072_S8192x1024_1_1_0_0_n_n none d w)
    = G4 (truncf .bf16 (φ := .f32) d bitsLt_bf16_f32) (truncf .bf16 (φ := .f32) w bitsLt_bf16_f32) df (truncf .bf16 (φ := .f32) wf bitsLt_bf16_f32) := by
  funext y; idx_vars y
  pointwise [G4]
  exact add_comm _ _

/-- The claim of values: both programs end with the gradient of the input. -/
theorem algebraic : Cert.algebraic_Kernel22Ideal_Reference22Ideal := by
  intro m g m' g' hpre hagree
  refine ⟨fun c => G4 (V m c main_v0) (V m c main_v1) (V m c main_arg4) (V m c main_v2), ?_, ?_⟩
  · exact (θ_run _ _ _).mono (fun r h c => ⟨(h c).1.trans (arr4 m c), (h c).2⟩)
      (Cert.Kernel22Ideal.Value.run_blocks m g)
  · refine (θ_run _ _ _).mono ?_ (Cert.Reference22Ideal.Value.run m' g')
    intro r h c
    refine ⟨(h c).1.trans ?_, (h c).2⟩
    clear h
    obtain ⟨h0, h1, h2, h3, h4⟩ := hagree c
    rw [h1, h2, h3, h4]
    beta_reduce
    rw [V0, V1, V2, V_main_arg4]
    exact tie _ _ _ _

end Cert.FoxDh

end
-- ==== Proof.FoxDwf.lean ====
/-
  The gradient of the attention's gate weights: hᵀ · dfl, accumulated over sixteen tiles of the rows.
-/
module

public import proofs.«01_k».proof.Defs
public import proofs.«01_k».proof.Proof.Tiles
public import proofs.«01_k».proof.Proof.Gen.Kernel23Ideal.Value
public import proofs.«01_k».proof.Proof.Gen.Reference23Ideal.Run
public import Idealize.ShloMosaic.Lib.Claim

@[expose] public section

set_option maxRecDepth 16384

noncomputable section

namespace Cert.FoxDwf

open Cert.Common Cert.Kernel23Ideal Cert.Kernel23Ideal.Gen Idealize.ShloMosaic Idealize.ShloMosaic.TcCoe Idealize.SL.Sem

theorem hz : (![0, 0] : Fin 2 → Nat) = fun _ => 0 := funext fun a => by fin_cases a <;> rfl

/-! ## What a grid point leaves -/

section
variable (c : Dev nD) (i : grid0.Coords) (a3 : Memref sig .tc .vmem S512x1024 .bf16) (h3 : a3.IsWhole)
  (a4 : Memref sig .tc .vmem S512x128 .f32) (h4 : a4.IsWhole) (a5 : Memref sig .tc .vmem S1024x128 .f32)
  (h5 : a5.IsWhole) (a6 : Memref sig .tc .vmem S1024x128 .f32) (h6 : a6.IsWhole)
  (x0 : Vec Ideal S512x1024 .bf16) (x1 : Vec Ideal S512x128 .f32) (xs : Vec Ideal S1024x128 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S512x1024) hz,
    View.ld_unit_zero (S := S512x128) hz]

theorem sout_B (hc0 : ¬cond0_0 i) (hc1 : cond0_1 i) (hc2 : ¬cond0_2 i) :
    sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S512x1024) hz,
    View.ld_unit_zero (S := S512x128) hz, View.ld_unit_zero (S := S1024x128) hz]

theorem out_C (hc0 : ¬cond0_0 i) (hc1 : cond0_1 i) (hc2 : cond0_2 i) :
    out0_C_2 c i a3 h3 a4 h4 a5 h5 a6 h6 hc0 hc1 hc2 x0 x1 xs = k0_pay2 xs x0 x1 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x128) _ hz]
  simp only [View.readAt_eq_ld, h3.read_unread, h4.read_unread, h6.read_unread, View.ld_unit_zero (S := S512x1024) hz,
    View.ld_unit_zero (S := S512x128) hz, View.ld_unit_zero (S := S1024x128) hz]

end

/-- The product of two tiles at an index. -/
def tile (x0 : Vec Ideal S512x1024 .bf16) (x1 : Vec Ideal S512x128 .f32) (i : Fin 1024) (j : Fin 128) : EReal :=
  ∑ k : Fin 512, x0 (ix2 k i) * x1 (ix2 k j)

theorem pay1_apply (x0 : Vec Ideal S512x1024 .bf16) (x1 : Vec Ideal S512x128 .f32) (i : Fin 1024) (j : Fin 128) :
    k0_pay1 x0 x1 (ix2 i j) = tile x0 x1 i j := by
  pointwise [k0_pay1, tile]

theorem pay2_apply (xs : Vec Ideal S1024x128 .f32) (x0 : Vec Ideal S512x1024 .bf16) (x1 : Vec Ideal S512x128 .f32)
    (i : Fin 1024) (j : Fin 128) :
    k0_pay2 xs x0 x1 (ix2 i j) = (xs (ix2 i j) + tile x0 x1 i j : EReal) := by
  pointwise [k0_pay2, tile]

/-! ## The running sum, and the array -/

variable (m : (ℓ : Loc nD τ sig) → Buf (Elt Ideal) ℓ)

/-- What point `n` contributes at place `(i, j)` of its block. -/
def part (c : Dev nD) (i : Fin 1024) (j : Fin 128) (n : ℕ) : EReal :=
  if h : n < cfg0.N then tile (iblk m c 0 ⟨n, h⟩) (iblk m c 1 ⟨n, h⟩) i j else 0

theorem part_eq (c : Dev nD) (i : Fin 1024) (j : Fin 128) (t : Fin cfg0.N) :
    part m c i j t = tile (iblk m c 0 t) (iblk m c 1 t) i j := dif_pos t.isLt

theorem scratch (c : Dev nD) (i : Fin 1024) (j : Fin 128) : ∀ n (h : n < cfg0.N), n % 16 ≠ 16 - 1 →
    ((outsAt0 m c n h).2 (ix2 i j) : EReal) = ∑ s ∈ Finset.range (n % 16 + 1), part m c i j (n - n % 16 + s) := by
  refine run_sum 16 (by omega) (fun n h => ((outsAt0 m c n h).2 (ix2 i j) : EReal)) (part m c i j) ?_ ?_
  · intro n h h0
    have hN := lt_of_lt_of_eq h (show cfg0.N = 16 from N_0)
    rw [outsAt0_A m c ⟨n, h⟩ h0 (by simp only; omega) (by simp only; omega)]
    dsimp only
    rw [sout_A, pay1_apply]
    exact (part_eq m c i j ⟨n, h⟩).symm
  · intro n h h' h0 h1
    rw [outsAt0_B m c ⟨n, h⟩ h0 (by simp only; omega) h1]
    dsimp only
    rw [sout_B, pay2_apply]
    exact congrArg _ (part_eq m c i j ⟨n, h⟩).symm

theorem last (c : Dev nD) (i : Fin 1024) (j : Fin 128) (t : Fin cfg0.N) (ht : t.val % 16 = 15) :
    ((outsAt0 m c t.val t.isLt).1 (ix2 i j) : EReal) = ∑ s ∈ Finset.range 16, part m c i j (t.val - 15 + s) := by
  rw [outsAt0_C m c t (by omega) (by omega) ht]
  dsimp only
  rw [out_C, pay2_apply, scratch m c i j _ _ (by omega), ← part_eq m c i j t, Finset.sum_range_succ _ 15]
  have e1 : (t.val - 1) % 16 = 14 := by omega
  rw [e1, show t.val - 1 - 14 = t.val - 15 by omega, show t.val - 15 + 15 = t.val by omega]

theorem e0 : ∀ t : Fin cfg0.N, win0_0.index t = ![t.val % 16, 0] :=
  (by decide +kernel : ∀ t : Fin grid0.N, win0_0.index t = ![t.val % 16, 0])
theorem e1 : ∀ t : Fin cfg0.N, win0_1.index t = ![t.val % 16, t.val / 16] :=
  (by decide +kernel : ∀ t : Fin grid0.N, win0_1.index t = ![t.val % 16, t.val / 16])
theorem e2 : ∀ t : Fin cfg0.N, win0_2.index t = ![0, t.val / 16] :=
  (by decide +kernel : ∀ t : Fin grid0.N, win0_2.index t = ![0, t.val / 16])

/-- The result as one function of the arrays the region finds. -/
def G2 (A0 : S8192x1024.Idx → EReal) (A1 : S8192x128.Idx → EReal) (y : S1024x128.Idx) : EReal :=
  ∑ k : Fin 8192, A0 (ix2 k (y 0)) * A1 (ix2 k (y 1))

theorem emb_0 (t t' : Fin cfg0.N) (j : ℕ) (hj : j < 16) (hm : t'.val % 16 = j) (hd : t'.val / 16 = t.val / 16)
    (k : Fin 512) (y : S1024x128.Idx) : (win0_0.blk t').view.emb (ix2 k (y 0))
      = ix2 ⟨j * 512 + k.val, by omega⟩ ((win0_2.blk t).view.emb y 0) := by blk_ext [e0, e2, hm, hd]

theorem emb_1 (t t' : Fin cfg0.N) (j : ℕ) (hj : j < 16) (hm : t'.val % 16 = j) (hd : t'.val / 16 = t.val / 16)
    (k : Fin 512) (y : S1024x128.Idx) : (win0_1.blk t').view.emb (ix2 k (y 1))
      = ix2 ⟨j * 512 + k.val, by omega⟩ ((win0_2.blk t).view.emb y 1) := by blk_ext [e1, e2, hm, hd]

theorem arr2 (c : Dev nD) : (dats m 0 c).arrAt 2 cfg0.N = G2 (V m c main_v0) (V m c main_arg2) := by
  refine (dats m 0 c).arrAt_eq_of_covers 2 _ (by decide +kernel) fun t hf y => ?_
  have ht : t.val % 16 = 15 := (flush0_2 t).mp hf
  have hN : t.val < 16 := lt_of_lt_of_eq t.isLt (show cfg0.N = 16 from N_0)
  blk_simp
  rw [after0_2]
  have hy : y = ix2 (y 0) (y 1) := by funext a; fin_cases a <;> rfl
  refine (congrArg _ hy).trans ((last m c (y 0) (y 1) t ht).trans ?_)
  unfold G2
  refine tiles_sum 16 512 (by norm_num) _ _ fun j hj => ?_
  have hlt : t.val - 15 + j < cfg0.N := by have : cfg0.N = 16 := N_0; omega
  rw [show part m c (y 0) (y 1) (t.val - 15 + j) = _ from part_eq m c (y 0) (y 1) ⟨t.val - 15 + j, hlt⟩]
  unfold tile
  refine Finset.sum_congr rfl fun k _ => ?_
  blk_simp [iblk]
  have hm : (t.val - 15 + j) % 16 = j := by omega
  have hd : (t.val - 15 + j) / 16 = t.val / 16 := by omega
  rw [emb_0 t ⟨_, hlt⟩ j hj hm hd k y, emb_1 t ⟨_, hlt⟩ j hj hm hd k y]
  rfl

/-! ## The claim -/

theorem V0 (c : Dev nD) : @Eq (FVec Ideal S8192x1024 .bf16) (V m c main_v0)
    (truncf .bf16 (φ := .f32) (m ((c : Thread nD τ).loc main_arg0)) bitsLt_bf16_f32) := by
  entry_read
  rfl

/-- The reference's product is the kernel's result. -/
theorem tie (h : FVec Ideal S8192x1024 .f32) (ct : FVec Ideal S8192x128 .f32) :
    transpose S1024x128 [1, 0] (Host.dotGeneral Cert.Reference23Ideal.dot_S8192x128_S8192x1024_S128x1024_0_0_1_1_n_n none ct h)
      Cert.Reference23Ideal.Gen.transposes_S128x1024_S1024x128_1_0
    = G2 (truncf .bf16 (φ := .f32) h bitsLt_bf16_f32) ct := by
  funext y; idx_vars y
  pointwise [G2]
  exact Finset.sum_congr rfl fun k _ => mul_comm _ _

/-- The claim of values: both programs end with the gradient of the weights. -/
theorem algebraic : Cert.algebraic_Kernel23Ideal_Reference23Ideal := by
  intro m g m' g' hpre hagree
  refine ⟨fun c => G2 (V m c main_v0) (V m c main_arg2), ?_, ?_⟩
  · exact (θ_run _ _ _).mono (fun r h c => ⟨(h c).1.trans (arr2 m c), (h c).2⟩)
      (Cert.Kernel23Ideal.Value.run_blocks m g)
  · refine (θ_run _ _ _).mono ?_ (Cert.Reference23Ideal.Value.run m' g')
    intro r h c
    refine ⟨(h c).1.trans ?_, (h c).2⟩
    clear h
    obtain ⟨h0, h1, h2⟩ := hagree c
    rw [h0, h2]
    beta_reduce
    rw [V0, V_main_arg2]
    exact tie _ _

end Cert.FoxDwf

end
-- ==== Proof.FoxDwqkv.lean ====
/-
  The gradient of the attention's input weights: hᵀ · dqkv, accumulated over sixteen tiles of the rows.
-/
module

public import proofs.«01_k».proof.Defs
public import proofs.«01_k».proof.Proof.Tiles
public import proofs.«01_k».proof.Proof.Gen.Kernel21Ideal.Value
public import proofs.«01_k».proof.Proof.Gen.Reference21Ideal.Run
public import Idealize.ShloMosaic.Lib.Claim

@[expose] public section

set_option maxRecDepth 16384

noncomputable section

namespace Cert.FoxDwqkv

open Cert.Common Cert.Kernel21Ideal Cert.Kernel21Ideal.Gen Idealize.ShloMosaic Idealize.ShloMosaic.TcCoe Idealize.SL.Sem

theorem hz : (![0, 0] : Fin 2 → Nat) = fun _ => 0 := funext fun a => by fin_cases a <;> rfl

/-! ## What a grid point leaves -/

section
variable (c : Dev nD) (i : grid0.Coords) (a3 : Memref sig .tc .vmem S512x1024 .bf16) (h3 : a3.IsWhole)
  (a4 : Memref sig .tc .vmem S512x1024 .bf16) (h4 : a4.IsWhole) (a5 : Memref sig .tc .vmem S1024x1024 .f32)
  (h5 : a5.IsWhole) (a6 : Memref sig .tc .vmem S1024x1024 .f32) (h6 : a6.IsWhole)
  (x0 : Vec Ideal S512x1024 .bf16) (x1 : Vec Ideal S512x1024 .bf16) (xs : Vec Ideal S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S512x1024) hz,
    View.ld_unit_zero (S := S512x1024) hz]

theorem sout_B (hc0 : ¬cond0_0 i) (hc1 : cond0_1 i) (hc2 : ¬cond0_2 i) :
    sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S512x1024) hz,
    View.ld_unit_zero (S := S512x1024) hz, View.ld_unit_zero (S := S1024x1024) hz]

theorem out_C (hc0 : ¬cond0_0 i) (hc1 : cond0_1 i) (hc2 : cond0_2 i) :
    out0_C_2 c i a3 h3 a4 h4 a5 h5 a6 h6 hc0 hc1 hc2 x0 x1 xs = k0_pay2 xs x0 x1 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S512x1024) hz,
    View.ld_unit_zero (S := S512x1024) hz, View.ld_unit_zero (S := S1024x1024) hz]

end

/-- The product of two tiles at an index. -/
def tile (x0 : Vec Ideal S512x1024 .bf16) (x1 : Vec Ideal S512x1024 .bf16) (i : Fin 1024) (j : Fin 1024) : EReal :=
  ∑ k : Fin 512, x0 (ix2 k i) * x1 (ix2 k j)

theorem pay1_apply (x0 : Vec Ideal S512x1024 .bf16) (x1 : Vec Ideal S512x1024 .bf16) (i : Fin 1024) (j : Fin 1024) :
    k0_pay1 x0 x1 (ix2 i j) = tile x0 x1 i j := by
  pointwise [k0_pay1, tile]

theorem pay2_apply (xs : Vec Ideal S1024x1024 .f32) (x0 : Vec Ideal S512x1024 .bf16) (x1 : Vec Ideal S512x1024 .bf16)
    (i : Fin 1024) (j : Fin 1024) :
    k0_pay2 xs x0 x1 (ix2 i j) = (xs (ix2 i j) + tile x0 x1 i j : EReal) := by
  pointwise [k0_pay2, tile]

/-! ## The running sum, and the array -/

variable (m : (ℓ : Loc nD τ sig) → Buf (Elt Ideal) ℓ)

/-- What point `n` contributes at place `(i, j)` of its block. -/
def part (c : Dev nD) (i : Fin 1024) (j : Fin 1024) (n : ℕ) : EReal :=
  if h : n < cfg0.N then tile (iblk m c 0 ⟨n, h⟩) (iblk m c 1 ⟨n, h⟩) i j else 0

theorem part_eq (c : Dev nD) (i : Fin 1024) (j : Fin 1024) (t : Fin cfg0.N) :
    part m c i j t = tile (iblk m c 0 t) (iblk m c 1 t) i j := dif_pos t.isLt

theorem scratch (c : Dev nD) (i : Fin 1024) (j : Fin 1024) : ∀ n (h : n < cfg0.N), n % 16 ≠ 16 - 1 →
    ((outsAt0 m c n h).2 (ix2 i j) : EReal) = ∑ s ∈ Finset.range (n % 16 + 1), part m c i j (n - n % 16 + s) := by
  refine run_sum 16 (by omega) (fun n h => ((outsAt0 m c n h).2 (ix2 i j) : EReal)) (part m c i j) ?_ ?_
  · intro n h h0
    rw [outsAt0_A m c ⟨n, h⟩ h0 (by simp only; omega) (by simp only; omega)]
    dsimp only
    rw [sout_A, pay1_apply]
    exact (part_eq m c i j ⟨n, h⟩).symm
  · intro n h h' h0 h1
    rw [outsAt0_B m c ⟨n, h⟩ h0 (by simp only; omega) h1]
    dsimp only
    rw [sout_B, pay2_apply]
    exact congrArg _ (part_eq m c i j ⟨n, h⟩).symm

theorem last (c : Dev nD) (i : Fin 1024) (j : Fin 1024) (t : Fin cfg0.N) (ht : t.val % 16 = 15) :
    ((outsAt0 m c t.val t.isLt).1 (ix2 i j) : EReal) = ∑ s ∈ Finset.range 16, part m c i j (t.val - 15 + s) := by
  rw [outsAt0_C m c t (by omega) (by omega) ht]
  dsimp only
  rw [out_C, pay2_apply, scratch m c i j _ _ (by omega), ← part_eq m c i j t, Finset.sum_range_succ _ 15]
  have e1 : (t.val - 1) % 16 = 14 := by omega
  rw [e1, show t.val - 1 - 14 = t.val - 15 by omega, show t.val - 15 + 15 = t.val by omega]

theorem e0 : ∀ t : Fin cfg0.N, win0_0.index t = ![t.val % 16, 0] :=
  (by decide +kernel : ∀ t : Fin grid0.N, win0_0.index t = ![t.val % 16, 0])
theorem e1 : ∀ t : Fin cfg0.N, win0_1.index t = ![t.val % 16, t.val / 16] :=
  (by decide +kernel : ∀ t : Fin grid0.N, win0_1.index t = ![t.val % 16, t.val / 16])
theorem e2 : ∀ t : Fin cfg0.N, win0_2.index t = ![0, t.val / 16] :=
  (by decide +kernel : ∀ t : Fin grid0.N, win0_2.index t = ![0, t.val / 16])

/-- The result as one function of the arrays the region finds. -/
def G2 (A0 : S8192x1024.Idx → EReal) (A1 : S8192x3072.Idx → EReal) (y : S1024x3072.Idx) : EReal :=
  ∑ k : Fin 8192, A0 (ix2 k (y 0)) * A1 (ix2 k (y 1))

theorem emb_0 (t t' : Fin cfg0.N) (j : ℕ) (hj : j < 16) (hm : t'.val % 16 = j) (hd : t'.val / 16 = t.val / 16)
    (k : Fin 512) (y : S1024x1024.Idx) : (win0_0.blk t').view.emb (ix2 k (y 0))
      = ix2 ⟨j * 512 + k.val, by omega⟩ ((win0_2.blk t).view.emb y 0) := by blk_ext [e0, e2, hm, hd]

theorem emb_1 (t t' : Fin cfg0.N) (j : ℕ) (hj : j < 16) (hm : t'.val % 16 = j) (hd : t'.val / 16 = t.val / 16)
    (k : Fin 512) (y : S1024x1024.Idx) : (win0_1.blk t').view.emb (ix2 k (y 1))
      = ix2 ⟨j * 512 + k.val, by omega⟩ ((win0_2.blk t).view.emb y 1) := by blk_ext [e1, e2, hm, hd]

theorem arr2 (c : Dev nD) : (dats m 0 c).arrAt 2 cfg0.N = G2 (V m c main_v0) (V m c main_v1) := by
  refine (dats m 0 c).arrAt_eq_of_covers 2 _ (by decide +kernel) fun t hf y => ?_
  have ht : t.val % 16 = 15 := (flush0_2 t).mp hf
  have hN : t.val < 48 := lt_of_lt_of_eq t.isLt (show cfg0.N = 48 from N_0)
  blk_simp
  rw [after0_2]
  have hy : y = ix2 (y 0) (y 1) := by funext a; fin_cases a <;> rfl
  refine (congrArg _ hy).trans ((last m c (y 0) (y 1) t ht).trans ?_)
  unfold G2
  refine tiles_sum 16 512 (by norm_num) _ _ fun j hj => ?_
  have hlt : t.val - 15 + j < cfg0.N := by have : cfg0.N = 48 := N_0; omega
  rw [show part m c (y 0) (y 1) (t.val - 15 + j) = _ from part_eq m c (y 0) (y 1) ⟨t.val - 15 + j, hlt⟩]
  unfold tile
  refine Finset.sum_congr rfl fun k _ => ?_
  blk_simp [iblk]
  have hm : (t.val - 15 + j) % 16 = j := by omega
  have hd : (t.val - 15 + j) / 16 = t.val / 16 := by omega
  rw [emb_0 t ⟨_, hlt⟩ j hj hm hd k y, emb_1 t ⟨_, hlt⟩ j hj hm hd k y]
  rfl

/-! ## The claim -/

theorem V0 (c : Dev nD) : @Eq (FVec Ideal S8192x1024 .bf16) (V m c main_v0)
    (truncf .bf16 (φ := .f32) (m ((c : Thread nD τ).loc main_arg0)) bitsLt_bf16_f32) := by
  entry_read
  rfl
theorem V1 (c : Dev nD) : @Eq (FVec Ideal S8192x3072 .bf16) (V m c main_v1)
    (truncf .bf16 (φ := .f32) (m ((c : Thread nD τ).loc main_arg2)) bitsLt_bf16_f32) := by
  entry_read
  rfl

/-- The reference's product is the kernel's result. -/
theorem tie (h : FVec Ideal S8192x1024 .f32) (ct : FVec Ideal S8192x3072 .f32) :
    transpose S1024x3072 [1, 0] (Host.dotGeneral Cert.Reference21Ideal.dot_S8192x3072_S8192x1024_S3072x1024_0_0_1_1_n_n none ct h)
      Cert.Reference21Ideal.Gen.transposes_S3072x1024_S1024x3072_1_0
    = G2 (truncf .bf16 (φ := .f32) h bitsLt_bf16_f32) (truncf .bf16 (φ := .f32) ct bitsLt_bf16_f32) := by
  funext y; idx_vars y
  pointwise [G2]
  exact Finset.sum_congr rfl fun k _ => mul_comm _ _

/-- The claim of values: both programs end with the gradient of the weights. -/
theorem algebraic : Cert.algebraic_Kernel21Ideal_Reference21Ideal := by
  intro m g m' g' hpre hagree
  refine ⟨fun c => G2 (V m c main_v0) (V m c main_v1), ?_, ?_⟩
  · exact (θ_run _ _ _).mono (fun r h c => ⟨(h c).1.trans (arr2 m c), (h c).2⟩)
      (Cert.Kernel21Ideal.Value.run_blocks m g)
  · refine (θ_run _ _ _).mono ?_ (Cert.Reference21Ideal.Value.run m' g')
    intro r h c
    refine ⟨(h c).1.trans ?_, (h c).2⟩
    clear h
    obtain ⟨h0, h1, h2⟩ := hagree c
    rw [h0, h2]
    beta_reduce
    rw [V0, V1]
    exact tie _ _

end Cert.FoxDwqkv

end
-- ==== Proof.FoxQkv.lean ====
/-
  The attention's input projection: h · W.
-/
module

public import proofs.«01_k».proof.Defs
public import proofs.«01_k».proof.Proof.Common
public import proofs.«01_k».proof.Proof.Gen.Kernel20Ideal.Value
public import proofs.«01_k».proof.Proof.Gen.Reference20Ideal.Run
public import Idealize.ShloMosaic.Lib.Claim

@[expose] public section

set_option maxRecDepth 16384

noncomputable section

namespace Cert.FoxQkv

open Cert.Common Cert.Kernel20Ideal Cert.Kernel20Ideal.Gen Idealize.ShloMosaic Idealize.ShloMosaic.TcCoe Idealize.SL.Sem

/-- What a grid point stores. -/
def E2 (x0 : Vec Ideal S1024x1024 .bf16) (x1 : Vec Ideal S1024x1024 .bf16) :
    Vec Ideal S1024x1024 .bf16 := fun y =>
  (∑ k : Fin 1024, x0 (ix2 (y 0) k) * x1 (ix2 k (y 1)) : EReal)

theorem out2_apply (x0 : Vec Ideal S1024x1024 .bf16) (x1 : Vec Ideal S1024x1024 .bf16)
    (y : S1024x1024.Idx) : out0_2 x0 x1 y = E2 x0 x1 y := by
  unfold out0_2
  refine View.canon_apply_of_pieces (E2 x0 x1) _ ?_ y (cover0_2 _ y)
  intro p hp x
  simp only [List.mem_cons, List.not_mem_nil, or_false] at hp
  rcases hp with rfl
  idx_vars x; unfold_payloads
  rw [emb2 _ _ _ _ x0 x1 (Nat.zero_add _).symm (Nat.zero_add _).symm]
  pointwise [E2]

variable (m : (ℓ : Loc nD τ sig) → Buf (Elt Ideal) ℓ)

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, (grid0.coords t 1).val] :=
  (by decide +kernel : ∀ t : Fin grid0.N, win0_1.index t = ![0, (grid0.coords t 1).val])
theorem e2 : ∀ t : Fin cfg0.N, win0_2.index t = ![(grid0.coords t 0).val, (grid0.coords t 1).val] :=
  (by decide +kernel : ∀ t : Fin grid0.N, win0_2.index t = ![(grid0.coords t 0).val, (grid0.coords t 1).val])

/-- The result as one function of the arrays the region finds. -/
def G2 (A0 : S8192x1024.Idx → EReal) (A1 : S1024x3072.Idx → EReal)
    (y : S8192x3072.Idx) : EReal :=
  (∑ k : Fin 1024, A0 (ix2 (y 0) k) * A1 (ix2 k (y 1)) : EReal)

theorem arr2 (c : Dev nD) :
    (dats m 0 c).arrAt 2 cfg0.N = G2 (V m c main_v0) (V m c main_v1) := by
  refine (dats m 0 c).arrAt_eq_of_covers 2 _ (by decide +kernel) fun t hf y => ?_
  blk_simp
  rw [after0_2, out2_apply]
  unfold E2 G2
  blk_simp [iblk]
  have h0 : ∀ k : Fin 1024, (win0_0.blk t).view.emb (ix2 (y 0) k) = ix2 ((win0_2.blk t).view.emb y 0) k :=
    fun k => by blk_ext [e0, e2]
  have h1 : ∀ k : Fin 1024, (win0_1.blk t).view.emb (ix2 k (y 1)) = ix2 k ((win0_2.blk t).view.emb y 1) :=
    fun k => by blk_ext [e1, e2]
  simp only [h0, h1]
  rfl

theorem V0 (c : Dev nD) : @Eq (FVec Ideal S8192x1024 .bf16) (V m c main_v0)
    (truncf .bf16 (φ := .f32) (m ((c : Thread nD τ).loc main_arg0)) bitsLt_bf16_f32) := by
  entry_read
  rfl
theorem V1 (c : Dev nD) : @Eq (FVec Ideal S1024x3072 .bf16) (V m c main_v1)
    (truncf .bf16 (φ := .f32) (m ((c : Thread nD τ).loc main_arg1)) bitsLt_bf16_f32) := by
  entry_read
  rfl

/-- The reference's line is the kernel's result. -/
theorem tie (h : FVec Ideal S8192x1024 .f32) (w : FVec Ideal S1024x3072 .f32) :
    truncf .bf16 (φ := .f32) (Host.dotGeneral Cert.Reference20Ideal.dot_S8192x1024_S1024x3072_S8192x3072_1_0_0_1_n_n none h w) Cert.Reference20Ideal.Gen.bitsLt_bf16_f32
    = G2 (truncf .bf16 (φ := .f32) h bitsLt_bf16_f32) (truncf .bf16 (φ := .f32) w bitsLt_bf16_f32) := by
  funext y; idx_vars y
  pointwise [G2]

/-- The claim of values: both programs end with the projection. -/
theorem algebraic : Cert.algebraic_Kernel20Ideal_Reference20Ideal := by
  intro m g m' g' hpre hagree
  refine ⟨fun c => G2 (V m c main_v0) (V m c main_v1), ?_, ?_⟩
  · exact (θ_run _ _ _).mono (fun r h c => ⟨(h c).1.trans (arr2 m c), (h c).2⟩)
      (Cert.Kernel20Ideal.Value.run_blocks m g)
  · refine (θ_run _ _ _).mono ?_ (Cert.Reference20Ideal.Value.run m' g')
    intro r h c
    refine ⟨(h c).1.trans ?_, (h c).2⟩
    clear h
    obtain ⟨h0, h1⟩ := hagree c
    rw [h0, h1]
    beta_reduce
    rw [V0, V1]
    exact tie _ _

end Cert.FoxQkv

end
-- ==== Proof.Gate.lean ====
/-
  The gate's gradient, read off block by block.

  One grid point of the kernel reads 1024 rows of the cotangent, 256 rows of the down projection and the two slabs
  (gate and up) of the saved products, and stores the two gradients' slabs and the gated product. This module says, index
  by index, what the twelve stores of a grid point leave in the two staging buffers.
-/
module

public import proofs.«01_k».proof.Proof.Gen.KernelIdeal.Value
public import proofs.«01_k».proof.Proof.GateLaw
public import Idealize.ShloMosaic.Lib.Claim

@[expose] public section

set_option maxRecDepth 16384

noncomputable section

namespace Cert.Gate

open Cert.Common Cert.KernelIdeal Cert.KernelIdeal.Gen Idealize.ShloMosaic Idealize.ShloMosaic.TcCoe Idealize.SL.Sem

/-- The gradient of the gated product at row `i`, column `j` of a block: half of the product with the down projection. -/
def blkD (x0 : Vec Ideal S1024x1024 .bf16) (x1 : Vec Ideal S256x1024 .bf16) (i : Fin 1024) (j : Fin 256) : EReal :=
  (∑ k : Fin 1024, x0 (ix2 i k) * x1 (ix2 j k)) * Ideal.ofBits .f32 0x3F000000#32

/-- What the eight stores of the two gradients leave. -/
def E3 (x0 : Vec Ideal S1024x1024 .bf16) (x1 : Vec Ideal S256x1024 .bf16) (x2 : Vec Ideal S2x1024x256 .bf16)
 : Vec Ideal S2x1024x256 .bf16 := fun y =>
  if (y 0 : Nat) = 0 then gA (blkD x0 x1 (y 1) (y 2)) (x2 (ix3 0 (y 1) (y 2))) (x2 (ix3 1 (y 1) (y 2)))
  else gB (blkD x0 x1 (y 1) (y 2)) (x2 (ix3 0 (y 1) (y 2)))

/-- What the four stores of the gated product leave. -/
def E4 (x2 : Vec Ideal S2x1024x256 .bf16) : Vec Ideal S1024x256 .bf16 := fun y =>
  gU (x2 (ix3 0 (y 0) (y 1))) (x2 (ix3 1 (y 0) (y 1)))

theorem out4_apply (x0 : Vec Ideal S1024x1024 .bf16) (x1 : Vec Ideal S256x1024 .bf16) (x2 : Vec Ideal S2x1024x256 .bf16)
    (y : S1024x256.Idx) : out0_4 x0 x1 x2 y = E4 x2 y := by
  unfold_out out0_4
  refine View.canon_apply_of_pieces (E4 x2) _ ?_ y (cover0_4 _ _ _ _ y)
  intro p hp x
  simp only [List.mem_cons, List.mem_singleton, List.not_mem_nil, or_false] at hp
  rcases hp with rfl | rfl | rfl | rfl <;> idx_vars x <;> unfold_payloads
  · rw [emb2 _ _ _ _ ⟨768 + x0, by omega⟩ x1 rfl (Nat.zero_add _).symm]
    pointwise [E4, gU, sg, zero_sub]
  · rw [emb2 _ _ _ _ ⟨512 + x0, by omega⟩ x1 rfl (Nat.zero_add _).symm]
    pointwise [E4, gU, sg, zero_sub]
  · rw [emb2 _ _ _ _ ⟨256 + x0, by omega⟩ x1 rfl (Nat.zero_add _).symm]
    pointwise [E4, gU, sg, zero_sub]
  · rw [emb2 _ _ _ _ ⟨x0, by omega⟩ x1 (Nat.zero_add _).symm (Nat.zero_add _).symm]
    pointwise [E4, gU, sg, zero_sub]

theorem out3_apply (x0 : Vec Ideal S1024x1024 .bf16) (x1 : Vec Ideal S256x1024 .bf16) (x2 : Vec Ideal S2x1024x256 .bf16)
    (y : S2x1024x256.Idx) : out0_3 x0 x1 x2 y = E3 x0 x1 x2 y := by
  unfold_out out0_3
  refine View.canon_apply_of_pieces (E3 x0 x1 x2) _ ?_ y (cover0_3 _ _ _ _ _ _ _ _ y)
  intro p hp x
  simp only [List.mem_cons, List.mem_singleton, List.not_mem_nil, or_false] at hp
  rcases hp with rfl | rfl | rfl | rfl | rfl | rfl | rfl | rfl <;> idx_vars x <;> unfold_payloads
  · rw [emb3 _ _ _ _ 1 ⟨768 + x1, by omega⟩ x2 (by fin_cases x0; rfl) rfl (Nat.zero_add _).symm]
    pointwise [E3, gA, gB, blkD, sg, zero_sub]
  · rw [emb3 _ _ _ _ 0 ⟨768 + x1, by omega⟩ x2 (by fin_cases x0; rfl) rfl (Nat.zero_add _).symm]
    pointwise [E3, gA, gB, blkD, sg, zero_sub]
  · rw [emb3 _ _ _ _ 1 ⟨512 + x1, by omega⟩ x2 (by fin_cases x0; rfl) rfl (Nat.zero_add _).symm]
    pointwise [E3, gA, gB, blkD, sg, zero_sub]
  · rw [emb3 _ _ _ _ 0 ⟨512 + x1, by omega⟩ x2 (by fin_cases x0; rfl) rfl (Nat.zero_add _).symm]
    pointwise [E3, gA, gB, blkD, sg, zero_sub]
  · rw [emb3 _ _ _ _ 1 ⟨256 + x1, by omega⟩ x2 (by fin_cases x0; rfl) rfl (Nat.zero_add _).symm]
    pointwise [E3, gA, gB, blkD, sg, zero_sub]
  · rw [emb3 _ _ _ _ 0 ⟨256 + x1, by omega⟩ x2 (by fin_cases x0; rfl) rfl (Nat.zero_add _).symm]
    pointwise [E3, gA, gB, blkD, sg, zero_sub]
  · rw [emb3 _ _ _ _ 1 ⟨x1, by omega⟩ x2 (by fin_cases x0; rfl) (Nat.zero_add _).symm (Nat.zero_add _).symm]
    pointwise [E3, gA, gB, blkD, sg, zero_sub]
  · rw [emb3 _ _ _ _ 0 ⟨x1, by omega⟩ x2 (by fin_cases x0; rfl) (Nat.zero_add _).symm (Nat.zero_add _).symm]
    pointwise [E3, gA, gB, blkD, sg, zero_sub]

/-! ## From blocks to arrays -/

variable (m : (ℓ : Loc nD τ sig) → Buf (Elt Ideal) ℓ)

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![(grid0.coords t 1).val, 0] :=
  (by decide +kernel : ∀ t : Fin grid0.N, win0_1.index t = ![(grid0.coords t 1).val, 0])
theorem e2 : ∀ t : Fin cfg0.N, win0_2.index t = ![0, (grid0.coords t 0).val, (grid0.coords t 1).val] :=
  (by decide +kernel : ∀ t : Fin grid0.N, win0_2.index t = ![0, (grid0.coords t 0).val, (grid0.coords t 1).val])
theorem e3 : ∀ t : Fin cfg0.N, win0_3.index t = ![0, (grid0.coords t 0).val, (grid0.coords t 1).val] :=
  (by decide +kernel : ∀ t : Fin grid0.N, win0_3.index t = ![0, (grid0.coords t 0).val, (grid0.coords t 1).val])
theorem e4 : ∀ t : Fin cfg0.N, win0_4.index t = ![(grid0.coords t 0).val, (grid0.coords t 1).val] :=
  (by decide +kernel : ∀ t : Fin grid0.N, win0_4.index t = ![(grid0.coords t 0).val, (grid0.coords t 1).val])

/-- The gradient of the gated product, of the whole arrays. -/
def arrD (A0 : S8192x1024.Idx → EReal) (A1 : S2816x1024.Idx → EReal) (i : Fin 8192) (j : Fin 2816) : EReal :=
  (∑ k : Fin 1024, A0 (ix2 i k) * A1 (ix2 j k)) * Ideal.ofBits .f32 0x3F000000#32

/-- The two gradients as one function of the arrays the region finds. -/
def G3 (A0 : S8192x1024.Idx → EReal) (A1 : S2816x1024.Idx → EReal) (A2 : S2x8192x2816.Idx → EReal)
    (y : S2x8192x2816.Idx) : EReal :=
  if (y 0 : Nat) = 0 then gA (arrD A0 A1 (y 1) (y 2)) (A2 (ix3 0 (y 1) (y 2))) (A2 (ix3 1 (y 1) (y 2)))
  else gB (arrD A0 A1 (y 1) (y 2)) (A2 (ix3 0 (y 1) (y 2)))

/-- The gated product as one function of the arrays the region finds. -/
def G4 (A2 : S2x8192x2816.Idx → EReal) (y : S8192x2816.Idx) : EReal :=
  gU (A2 (ix3 0 (y 0) (y 1))) (A2 (ix3 1 (y 0) (y 1)))

theorem arr4 (c : Dev nD) : (dats m 0 c).arrAt 4 cfg0.N = G4 (V m c main_v5) := by
  refine (dats m 0 c).arrAt_eq_of_covers 4 _ (by decide +kernel) fun t hf y => ?_
  blk_simp
  rw [after0_4, out4_apply]
  unfold E4 G4 gU
  blk_simp [iblk]
  have h2 : ∀ s : Fin 2, (win0_2.blk t).view.emb (ix3 s (y 0) (y 1))
      = ix3 s ((win0_4.blk t).view.emb y 0) ((win0_4.blk t).view.emb y 1) := fun s => by blk_ext [e2, e4]
  rw [h2, h2]
  rfl

theorem arr3 (c : Dev nD) : (dats m 0 c).arrAt 3 cfg0.N = G3 (V m c main_v6) (V m c main_v7) (V m c main_v5) := by
  refine (dats m 0 c).arrAt_eq_of_covers 3 _ (by decide +kernel) fun t hf y => ?_
  blk_simp
  rw [after0_3, out3_apply]
  unfold E3 G3 blkD arrD
  blk_simp [iblk]
  have h0 : ∀ k : Fin 1024, (win0_0.blk t).view.emb (ix2 (y 1) k) = ix2 ((win0_3.blk t).view.emb y 1) k :=
    fun k => by blk_ext [e0, e3]
  have h1 : ∀ k : Fin 1024, (win0_1.blk t).view.emb (ix2 (y 2) k) = ix2 ((win0_3.blk t).view.emb y 2) k :=
    fun k => by blk_ext [e1, e3]
  have h2 : ∀ s : Fin 2, (win0_2.blk t).view.emb (ix3 s (y 1) (y 2))
      = ix3 s ((win0_3.blk t).view.emb y 1) ((win0_3.blk t).view.emb y 2) := fun s => by blk_ext [e2, e3]
  have hs : win0_3.index t 0 * 2 + (y 0 : Nat) = y 0 := by rw [e3]; simp
  simp only [h0, h1, h2, hs]
  rfl

/-! ## What the region finds -/

/-- The gate and the up product, as the host computes them before the kernel. -/
def prod (h : FVec Ideal S8192x1024 .f32) (w : FVec Ideal S1024x2816 .f32) : FVec Ideal S8192x2816 .f32 :=
  Host.dotGeneral dot_S8192x1024_S1024x2816_S8192x2816_1_0_0_1_n_n none h w

/-- The two products side by side. -/
def pair (a b : FVec Ideal S8192x2816 .f32) : FVec Ideal S2x8192x2816 .bf16 :=
  truncf .bf16 (concatenate S2x8192x2816 0
    [⟨S1x8192x2816, broadcastInDim S1x8192x2816 ![1, 2] bcast_S8192x2816_S1x8192x2816_1_2 a⟩,
     ⟨S1x8192x2816, broadcastInDim S1x8192x2816 ![1, 2] bcast_S8192x2816_S1x8192x2816_1_2 b⟩]
    concatenates_S1x8192x2816_S1x8192x2816_S2x8192x2816_d0) bitsLt_bf16_f32

theorem V5 (c : Dev nD) : @Eq (FVec Ideal S2x8192x2816 .bf16) (V m c main_v5)
    (pair (prod (m ((c : Thread nD τ).loc main_arg0)) (m ((c : Thread nD τ).loc main_arg1)))
      (prod (m ((c : Thread nD τ).loc main_arg0)) (m ((c : Thread nD τ).loc main_arg2)))) := by
  entry_read
  rfl
theorem V6 (c : Dev nD) : @Eq (FVec Ideal S8192x1024 .bf16) (V m c main_v6)
    (truncf .bf16 (φ := .f32) (m ((c : Thread nD τ).loc main_arg4)) bitsLt_bf16_f32) := by
  entry_read
  rfl
theorem V7 (c : Dev nD) : @Eq (FVec Ideal S2816x1024 .bf16) (V m c main_v7)
    (truncf .bf16 (φ := .f32) (m ((c : Thread nD τ).loc main_arg3)) bitsLt_bf16_f32) := by
  entry_read
  rfl

theorem pair0 (a b : FVec Ideal S8192x2816 .f32) (i : Fin 8192) (j : Fin 2816) :
    pair a b (ix3 0 i j) = a (ix2 i j) := by
  pointwise [pair]
theorem pair1 (a b : FVec Ideal S8192x2816 .f32) (i : Fin 8192) (j : Fin 2816) :
    pair a b (ix3 1 i j) = b (ix2 i j) := by
  pointwise [pair]

end Cert.Gate

end
-- ==== Proof.GateTie.lean ====
/-
  The gate's gradient: the kernel's result is the derivative the reference takes, for finite inputs.
-/
module

public import proofs.«01_k».proof.Defs
public import proofs.«01_k».proof.Proof.Gate
public import proofs.«01_k».proof.Proof.Gen.ReferenceIdeal.Run
public import proofs.«01_k».proof.Proof.Gen.Pre_finite_inputs

@[expose] public section

set_option maxRecDepth 16384

noncomputable section

namespace Cert.Gate

open Cert.Common Idealize.ShloMosaic Idealize.ShloMosaic.TcCoe Idealize.SL.Sem

/-- A product of the host, read at an index. -/
theorem prod_apply (h : FVec Ideal Cert.KernelIdeal.S8192x1024 .f32) (w : FVec Ideal Cert.KernelIdeal.S1024x2816 .f32)
    (i : Fin 8192) (j : Fin 2816) : prod h w (ix2 i j) = (∑ k : Fin 1024, h (ix2 i k) * w (ix2 k j) : EReal) := by
  pointwise [prod]

/-- What the reference's product with the scaled cotangent is: the kernel's, with the scale outside. -/
theorem scaled (A0 : Cert.KernelIdeal.S8192x1024.Idx → EReal) (A1 : Cert.KernelIdeal.S2816x1024.Idx → EReal)
    (i : Fin 8192) (j : Fin 2816) :
    (∑ k : Fin 1024, Ideal.ofBits .f32 0x3F000000#32 * A0 (ix2 i k) * A1 (ix2 j k)) = arrD A0 A1 i j := by
  unfold arrD
  rw [mul_comm, ofBits_half, coe_mul_sum _ _ (by norm_num)]
  exact Finset.sum_congr rfl fun k _ => mul_assoc _ _ _

open Cert.ReferenceIdeal Cert.ReferenceIdeal.Gen in
/-- The two gradients the reference takes are the kernel's, for finite inputs. -/
theorem grads (A0 : FVec Ideal Cert.KernelIdeal.S8192x1024 .f32) (A1 A2 : FVec Ideal Cert.KernelIdeal.S1024x2816 .f32)
    (A3 : FVec Ideal Cert.KernelIdeal.S2816x1024 .f32) (A4 : FVec Ideal Cert.KernelIdeal.S8192x1024 .f32)
    (hp : (Cert.Pre_finite_inputs.fn (F := Ideal) A0 A1 A2 A3 A4).1 = (fun _ => 1#1)
      ∧ (Cert.Pre_finite_inputs.fn (F := Ideal) A0 A1 A2 A3 A4).2.1 = (fun _ => 1#1)
      ∧ (Cert.Pre_finite_inputs.fn (F := Ideal) A0 A1 A2 A3 A4).2.2.1 = (fun _ => 1#1)
      ∧ (Cert.Pre_finite_inputs.fn (F := Ideal) A0 A1 A2 A3 A4).2.2.2 = (fun _ => 1#1)) :
    truncf .bf16 (concatenate S2x8192x2816 0 [⟨S1x8192x2816, (broadcastInDim S1x8192x2816 ![1, 2] bcast_S8192x2816_S1x8192x2816_1_2 (addf (mulf (mulf (Host.dotGeneral dot_S8192x1024_S2816x1024_S8192x2816_1_1_0_0_n_n none (mulf (broadcastInDim S8192x1024 ![] bcast_S_S8192x1024 (constant S_ .f32 0x3F000000#32)) A4) A3) (Host.dotGeneral dot_S8192x1024_S1024x2816_S8192x2816_1_0_0_1_n_n none A0 A2)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (Host.dotGeneral dot_S8192x1024_S1024x2816_S8192x2816_1_0_0_1_n_n none A0 A1)))))) (mulf (mulf (Host.dotGeneral dot_S8192x1024_S1024x2816_S8192x2816_1_0_0_1_n_n none A0 A1) (mulf (Host.dotGeneral dot_S8192x1024_S2816x1024_S8192x2816_1_1_0_0_n_n none (mulf (broadcastInDim S8192x1024 ![] bcast_S_S8192x1024 (constant S_ .f32 0x3F000000#32)) A4) A3) (Host.dotGeneral dot_S8192x1024_S1024x2816_S8192x2816_1_0_0_1_n_n none A0 A2))) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf (Host.dotGeneral dot_S8192x1024_S1024x2816_S8192x2816_1_0_0_1_n_n none A0 A1))))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (Host.dotGeneral dot_S8192x1024_S1024x2816_S8192x2816_1_0_0_1_n_n none A0 A1))))))))))⟩, ⟨S1x8192x2816, (broadcastInDim S1x8192x2816 ![1, 2] bcast_S8192x2816_S1x8192x2816_1_2 (mulf (mulf (Host.dotGeneral dot_S8192x1024_S1024x2816_S8192x2816_1_0_0_1_n_n none A0 A1) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (Host.dotGeneral dot_S8192x1024_S1024x2816_S8192x2816_1_0_0_1_n_n none A0 A1)))))) (Host.dotGeneral dot_S8192x1024_S2816x1024_S8192x2816_1_1_0_0_n_n none (mulf (broadcastInDim S8192x1024 ![] bcast_S_S8192x1024 (constant S_ .f32 0x3F000000#32)) A4) A3)))⟩] concatenates_S1x8192x2816_S1x8192x2816_S2x8192x2816_d0) bitsLt_bf16_f32
    = G3 (truncf .bf16 (φ := .f32) A4 bitsLt_bf16_f32) (truncf .bf16 (φ := .f32) A3 bitsLt_bf16_f32)
        (pair (prod A0 A1) (prod A0 A2)) := by
  obtain ⟨p0, p2, p3, p4⟩ := hp
  have f0 : ∀ i j, IsReal (A0 (ix2 i j)) := fun i j => by
    have h := congrFun p0 (ix2 i j)
    pointwise [Cert.Pre_finite_inputs.fn] at h
    exact finite_of_lt h
  have f2 : ∀ i j, IsReal (A2 (ix2 i j)) := fun i j => by
    have h := congrFun p2 (ix2 i j)
    pointwise [Cert.Pre_finite_inputs.fn] at h
    exact finite_of_lt h
  have f3 : ∀ i j, IsReal (A3 (ix2 i j)) := fun i j => by
    have h := congrFun p3 (ix2 i j)
    pointwise [Cert.Pre_finite_inputs.fn] at h
    exact finite_of_lt h
  have f4 : ∀ i j, IsReal (A4 (ix2 i j)) := fun i j => by
    have h := congrFun p4 (ix2 i j)
    pointwise [Cert.Pre_finite_inputs.fn] at h
    exact finite_of_lt h
  funext y; idx_vars y
  have hc : arrD (truncf .bf16 (φ := .f32) A4 bitsLt_bf16_f32) (truncf .bf16 (φ := .f32) A3 bitsLt_bf16_f32) y1 y2
      = ∑ k : Fin 1024, Ideal.ofBits .f32 0x3F000000#32 * A4 (ix2 y1 k) * A3 (ix2 y2 k) := (scaled A4 A3 y1 y2).symm
  have hy : y0 = 0 ∨ y0 = 1 := by omega
  rcases hy with rfl | rfl
  · pointwise [G3, pair0, pair1]
    rw [gate_law, hc]
    · pointwise [sg, prod]
    · rw [hc, ofBits_half]
      exact IsReal.sum _ _ fun k _ => (IsReal.mul ⟨_, rfl⟩ (f4 _ _)).mul (f3 _ _)
    · rw [prod_apply]
      exact IsReal.sum _ _ fun k _ => (f0 _ _).mul (f2 _ _)
  · pointwise [G3, gB, pair0, pair1, sg, prod]
    rw [hc]
    exact mul_comm _ _

/-- The claim of values: both programs end with the two gradients and the gated product. -/
theorem algebraic : Cert.algebraic_KernelIdeal_ReferenceIdeal_pre_finite_inputs := by
  intro m g m' g' hpre hagree
  refine ⟨fun c => G3 (Cert.KernelIdeal.Gen.V m c Cert.KernelIdeal.main_v6) (Cert.KernelIdeal.Gen.V m c Cert.KernelIdeal.main_v7) (Cert.KernelIdeal.Gen.V m c Cert.KernelIdeal.main_v5), fun c => G4 (Cert.KernelIdeal.Gen.V m c Cert.KernelIdeal.main_v5), ?_, ?_⟩
  · exact (θ_run _ _ _).mono (fun r h c => ⟨(h c).1.trans (arr3 m c), (h c).2.1.trans (arr4 m c), (h c).2.2⟩)
      (Cert.KernelIdeal.Value.run_blocks m g)
  · refine (θ_run _ _ _).mono ?_ (Cert.ReferenceIdeal.Value.run m' g')
    intro r h c
    refine ⟨(h c).1.trans ?_, (h c).2.1.trans ?_, (h c).2.2⟩ <;> clear h
    · obtain ⟨h0, h1, h2, h3, h4⟩ := hagree c
      rw [h0, h1, h2, h3, h4]
      beta_reduce
      rw [V5, V6, V7]
      exact grads _ _ _ _ _ (hpre c)
    · obtain ⟨h0, h1, h2, h3, h4⟩ := hagree c
      rw [h0, h1, h2]
      beta_reduce
      rw [V5]
      funext y; idx_vars y
      pointwise [G4, gU, pair0, pair1, prod, sg]

end Cert.Gate

end
-- ==== Proof.HgrnDh.lean ====
/-
  The gradient of the recurrence's input: the sum of four products dᵢ · Wᵢᵀ, being four grid points of one block.
-/
module

public import proofs.«01_k».proof.Defs
public import proofs.«01_k».proof.Proof.Tiles
public import proofs.«01_k».proof.Proof.Gen.Kernel18Ideal.Value
public import proofs.«01_k».proof.Proof.Gen.Reference18Ideal.Run
public import Idealize.ShloMosaic.Lib.Claim

@[expose] public section

set_option maxRecDepth 16384

noncomputable section

namespace Cert.HgrnDh

open Cert.Common Cert.Kernel18Ideal Cert.Kernel18Ideal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-! ## What a grid point leaves -/

section
variable (c : Dev nD) (i : grid0.Coords) (a3 : Memref sig .tc .vmem S1x1024x1024 .bf16) (h3 : a3.IsWhole)
  (a4 : Memref sig .tc .vmem S1x1024x1024 .bf16) (h4 : a4.IsWhole) (a5 : Memref sig .tc .vmem S1024x1024 .f32)
  (h5 : a5.IsWhole) (a6 : Memref sig .tc .vmem S1024x1024 .f32) (h6 : a6.IsWhole)
  (x0 x1 : Vec Ideal S1x1024x1024 .bf16) (xs : Vec Ideal S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1x1024x1024) hz3]

theorem sout_B (hc0 : ¬cond0_0 i) (hc1 : cond0_1 i) (hc2 : ¬cond0_2 i) :
    sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread,
    View.ld_unit_zero (S := S1x1024x1024) hz3, View.ld_unit_zero (S := S1024x1024) hz]

theorem out_C (hc0 : ¬cond0_0 i) (hc1 : cond0_1 i) (hc2 : cond0_2 i) :
    out0_C_2 c i a3 h3 a4 h4 a5 h5 a6 h6 hc0 hc1 hc2 x0 x1 xs = k0_pay2 xs x0 x1 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread,
    View.ld_unit_zero (S := S1x1024x1024) hz3, View.ld_unit_zero (S := S1024x1024) hz]

end

/-- The product of two tiles at an index. -/
def tile (x0 x1 : Vec Ideal S1x1024x1024 .bf16) (i j : Fin 1024) : EReal :=
  ∑ k : Fin 1024, x0 (ix3 0 i k) * x1 (ix3 0 j k)

theorem pay1_apply (x0 x1 : Vec Ideal S1x1024x1024 .bf16) (i j : Fin 1024) :
    k0_pay1 x0 x1 (ix2 i j) = tile x0 x1 i j := by
  pointwise [k0_pay1, tile]

theorem pay2_apply (xs : Vec Ideal S1024x1024 .f32) (x0 x1 : Vec Ideal S1x1024x1024 .bf16) (i j : Fin 1024) :
    k0_pay2 xs x0 x1 (ix2 i j) = (xs (ix2 i j) + tile x0 x1 i j : EReal) := by
  pointwise [k0_pay2, tile]

/-! ## The running sum, and the array -/

variable (m : (ℓ : Loc nD τ sig) → Buf (Elt Ideal) ℓ)

/-- What point `n` contributes at place `(i, j)` of its block. -/
def part (c : Dev nD) (i j : Fin 1024) (n : ℕ) : EReal :=
  if h : n < cfg0.N then tile (iblk m c 0 ⟨n, h⟩) (iblk m c 1 ⟨n, h⟩) i j else 0

theorem part_eq (c : Dev nD) (i j : Fin 1024) (t : Fin cfg0.N) :
    part m c i j t = tile (iblk m c 0 t) (iblk m c 1 t) i j := dif_pos t.isLt

theorem scratch (c : Dev nD) (i j : Fin 1024) : ∀ n (h : n < cfg0.N), n % 4 ≠ 4 - 1 →
    ((outsAt0 m c n h).2 (ix2 i j) : EReal) = ∑ s ∈ Finset.range (n % 4 + 1), part m c i j (n - n % 4 + s) := by
  refine run_sum 4 (by omega) (fun n h => ((outsAt0 m c n h).2 (ix2 i j) : EReal)) (part m c i j) ?_ ?_
  · intro n h h0
    rw [outsAt0_A m c ⟨n, h⟩ h0 (by simp only; omega) (by simp only; omega)]
    dsimp only
    rw [sout_A, pay1_apply]
    exact (part_eq m c i j ⟨n, h⟩).symm
  · intro n h h' h0 h1
    rw [outsAt0_B m c ⟨n, h⟩ h0 (by simp only; omega) h1]
    dsimp only
    rw [sout_B, pay2_apply]
    exact congrArg _ (part_eq m c i j ⟨n, h⟩).symm

theorem last (c : Dev nD) (i j : Fin 1024) (t : Fin cfg0.N) (ht : t.val % 4 = 3) :
    ((outsAt0 m c t.val t.isLt).1 (ix2 i j) : EReal) = ∑ s ∈ Finset.range 4, part m c i j (t.val - 3 + s) := by
  rw [outsAt0_C m c t (by omega) (by omega) ht]
  dsimp only
  rw [out_C, pay2_apply, scratch m c i j _ _ (by omega), ← part_eq m c i j t, Finset.sum_range_succ _ 3]
  have e1 : (t.val - 1) % 4 = 2 := by omega
  rw [e1, show t.val - 1 - 2 = t.val - 3 by omega, show t.val - 3 + 3 = t.val by omega]

theorem e0 : ∀ t : Fin cfg0.N, win0_0.index t = ![t.val % 4, t.val / 4, 0] :=
  (by decide +kernel : ∀ t : Fin grid0.N, win0_0.index t = ![t.val % 4, t.val / 4, 0])
theorem e1 : ∀ t : Fin cfg0.N, win0_1.index t = ![t.val % 4, 0, 0] :=
  (by decide +kernel : ∀ t : Fin grid0.N, win0_1.index t = ![t.val % 4, 0, 0])
theorem e2 : ∀ t : Fin cfg0.N, win0_2.index t = ![t.val / 4, 0] :=
  (by decide +kernel : ∀ t : Fin grid0.N, win0_2.index t = ![t.val / 4, 0])

/-- The product of slice `j` of two stacked arrays at an index. -/
def dot4 (A0 : S4x8192x1024.Idx → EReal) (A1 : S4x1024x1024.Idx → EReal) (j : Fin 4) (p : Fin 8192) (q : Fin 1024) : EReal :=
  ∑ k : Fin 1024, A0 (ix3 j p k) * A1 (ix3 j q k)

/-- The result as one function of the arrays the region finds. -/
def G2 (A0 : S4x8192x1024.Idx → EReal) (A1 : S4x1024x1024.Idx → EReal) (y : S8192x1024.Idx) : EReal :=
  ∑ s : Fin 4, dot4 A0 A1 s (y 0) (y 1)

theorem emb_0 (t t' : Fin cfg0.N) (j : Fin 4) (hm : t'.val % 4 = j.val) (hd : t'.val / 4 = t.val / 4)
    (k : Fin 1024) (y : S1024x1024.Idx) : (win0_0.blk t').view.emb (ix3 0 (y 0) k)
      = ix3 j ((win0_2.blk t).view.emb y 0) k := by blk_ext [e0, e2, hm, hd]

theorem emb_1 (t t' : Fin cfg0.N) (j : Fin 4) (hm : t'.val % 4 = j.val) (hd : t'.val / 4 = t.val / 4)
    (k : Fin 1024) (y : S1024x1024.Idx) : (win0_1.blk t').view.emb (ix3 0 (y 1) k)
      = ix3 j ((win0_2.blk t).view.emb y 1) k := by blk_ext [e1, e2, hm, hd]

theorem tile_blk (c : Dev nD) (t t' : Fin cfg0.N) (j : Fin 4) (hm : t'.val % 4 = j.val) (hd : t'.val / 4 = t.val / 4)
    (y : S1024x1024.Idx) : tile (iblk m c 0 t') (iblk m c 1 t') (y 0) (y 1)
      = dot4 (V m c main_v5) (V m c main_v11) j ((win0_2.blk t).view.emb y 0) ((win0_2.blk t).view.emb y 1) := by
  unfold tile dot4
  refine Finset.sum_congr rfl fun k _ => ?_
  blk_simp [iblk]
  rw [emb_0 t t' j hm hd k y, emb_1 t t' j hm hd k y]
  rfl

theorem arr2 (c : Dev nD) : (dats m 0 c).arrAt 2 cfg0.N = G2 (V m c main_v5) (V m c main_v11) := by
  refine (dats m 0 c).arrAt_eq_of_covers 2 _ (by decide +kernel) fun t hf y => ?_
  have ht : t.val % 4 = 3 := (flush0_2 t).mp hf
  have hN : t.val < 32 := lt_of_lt_of_eq t.isLt (show cfg0.N = 32 from N_0)
  blk_simp
  rw [after0_2]
  have hy : y = ix2 (y 0) (y 1) := by funext a; fin_cases a <;> rfl
  refine (congrArg _ hy).trans ((last m c (y 0) (y 1) t ht).trans ?_)
  unfold G2
  rw [Finset.sum_range]
  refine Finset.sum_congr rfl fun s _ => ?_
  have hlt : t.val - 3 + s.val < cfg0.N := by have : cfg0.N = 32 := N_0; omega
  rw [show part m c (y 0) (y 1) (t.val - 3 + s.val) = _ from part_eq m c (y 0) (y 1) ⟨t.val - 3 + s.val, hlt⟩,
    tile_blk m c t ⟨_, hlt⟩ s (by simp only; omega) (by simp only; omega) y]

/-! ## The claim -/

theorem V0 (c : Dev nD) : @Eq (FVec Ideal S4x8192x1024 .bf16) (V m c main_v5)
    (truncf .bf16 (φ := .f32) (concatenate S4x8192x1024 0
      [⟨S1x8192x1024, broadcastInDim S1x8192x1024 ![1, 2] bcast_S8192x1024_S1x8192x1024_1_2 (m ((c : Thread nD τ).loc main_arg5))⟩,
       ⟨S1x8192x1024, broadcastInDim S1x8192x1024 ![1, 2] bcast_S8192x1024_S1x8192x1024_1_2 (m ((c : Thread nD τ).loc main_arg6))⟩,
       ⟨S1x8192x1024, broadcastInDim S1x8192x1024 ![1, 2] bcast_S8192x1024_S1x8192x1024_1_2 (m ((c : Thread nD τ).loc main_arg7))⟩,
       ⟨S1x8192x1024, broadcastInDim S1x8192x1024 ![1, 2] bcast_S8192x1024_S1x8192x1024_1_2 (m ((c : Thread nD τ).loc main_arg8))⟩]
      concatenates_S1x8192x1024_S1x8192x1024_S1x8192x1024_S1x8192x1024_S4x8192x1024_d0) bitsLt_bf16_f32) := by
  dsimp only [V]
  after_results <;> rfl
theorem V1 (c : Dev nD) : @Eq (FVec Ideal S4x1024x1024 .bf16) (V m c main_v11)
    (truncf .bf16 (φ := .f32) (concatenate S4x1024x1024 0
      [⟨S1x1024x1024, broadcastInDim S1x1024x1024 ![1, 2] bcast_S1024x1024_S1x1024x1024_1_2 (m ((c : Thread nD τ).loc main_arg1))⟩,
       ⟨S1x1024x1024, broadcastInDim S1x1024x1024 ![1, 2] bcast_S1024x1024_S1x1024x1024_1_2 (m ((c : Thread nD τ).loc main_arg2))⟩,
       ⟨S1x1024x1024, broadcastInDim S1x1024x1024 ![1, 2] bcast_S1024x1024_S1x1024x1024_1_2 (m ((c : Thread nD τ).loc main_arg3))⟩,
       ⟨S1x1024x1024, broadcastInDim S1x1024x1024 ![1, 2] bcast_S1024x1024_S1x1024x1024_1_2 (m ((c : Thread nD τ).loc main_arg4))⟩]
      concatenates_S1x1024x1024_S1x1024x1024_S1x1024x1024_S1x1024x1024_S4x1024x1024_d0) bitsLt_bf16_f32) := by
  dsimp only [V]
  after_results <;> rfl

/-- The reference's products are the kernel's result over the stacked arrays. -/
theorem tie (d0 d1 d2 d3 : FVec Ideal S8192x1024 .f32) (w0 w1 w2 w3 : FVec Ideal S1024x1024 .f32) :
    addf (addf (addf (Host.dotGeneral Cert.Reference18Ideal.dot_S8192x1024_S1024x1024_S8192x1024_1_1_0_0_n_n none d3 w3)
      (Host.dotGeneral Cert.Reference18Ideal.dot_S8192x1024_S1024x1024_S8192x1024_1_1_0_0_n_n none d2 w2))
      (Host.dotGeneral Cert.Reference18Ideal.dot_S8192x1024_S1024x1024_S8192x1024_1_1_0_0_n_n none d1 w1))
      (Host.dotGeneral Cert.Reference18Ideal.dot_S8192x1024_S1024x1024_S8192x1024_1_1_0_0_n_n none d0 w0)
    = G2 (truncf .bf16 (φ := .f32) (concatenate S4x8192x1024 0
      [⟨S1x8192x1024, broadcastInDim S1x8192x1024 ![1, 2] bcast_S8192x1024_S1x8192x1024_1_2 d0⟩,
       ⟨S1x8192x1024, broadcastInDim S1x8192x1024 ![1, 2] bcast_S8192x1024_S1x8192x1024_1_2 d1⟩,
       ⟨S1x8192x1024, broadcastInDim S1x8192x1024 ![1, 2] bcast_S8192x1024_S1x8192x1024_1_2 d2⟩,
       ⟨S1x8192x1024, broadcastInDim S1x8192x1024 ![1, 2] bcast_S8192x1024_S1x8192x1024_1_2 d3⟩]
      concatenates_S1x8192x1024_S1x8192x1024_S1x8192x1024_S1x8192x1024_S4x8192x1024_d0) bitsLt_bf16_f32)
      (truncf .bf16 (φ := .f32) (concatenate S4x1024x1024 0
      [⟨S1x1024x1024, broadcastInDim S1x1024x1024 ![1, 2] bcast_S1024x1024_S1x1024x1024_1_2 w0⟩,
       ⟨S1x1024x1024, broadcastInDim S1x1024x1024 ![1, 2] bcast_S1024x1024_S1x1024x1024_1_2 w1⟩,
       ⟨S1x1024x1024, broadcastInDim S1x1024x1024 ![1, 2] bcast_S1024x1024_S1x1024x1024_1_2 w2⟩,
       ⟨S1x1024x1024, broadcastInDim S1x1024x1024 ![1, 2] bcast_S1024x1024_S1x1024x1024_1_2 w3⟩]
      concatenates_S1x1024x1024_S1x1024x1024_S1x1024x1024_S1x1024x1024_S4x1024x1024_d0) bitsLt_bf16_f32) := by
  funext y; idx_vars y
  unfold G2
  rw [Fin.sum_univ_four]
  pointwise [dot4]
  abel

/-- The claim of values: both programs end with the gradient of the input. -/
theorem algebraic : Cert.algebraic_Kernel18Ideal_Reference18Ideal := by
  intro m g m' g' hpre hagree
  refine ⟨fun c => G2 (V m c main_v5) (V m c main_v11), ?_, ?_⟩
  · exact (θ_run _ _ _).mono (fun r h c => ⟨(h c).1.trans (arr2 m c), (h c).2⟩)
      (Cert.Kernel18Ideal.Value.run_blocks m g)
  · refine (θ_run _ _ _).mono ?_ (Cert.Reference18Ideal.Value.run m' g')
    intro r h c
    refine ⟨(h c).1.trans ?_, (h c).2⟩
    clear h
    obtain ⟨h0, h1, h2, h3, h4, h5, h6, h7, h8⟩ := hagree c
    rw [h1, h2, h3, h4, h5, h6, h7, h8]
    beta_reduce
    rw [V0, V1]
    exact tie _ _ _ _ _ _ _ _

end Cert.HgrnDh

end
-- ==== Proof.HgrnDwin.lean ====
/-
  The gradients of the recurrence's four input weights: hᵀ · [d0, d1, d2, d3], accumulated over sixteen tiles of the rows.
-/
module

public import proofs.«01_k».proof.Defs
public import proofs.«01_k».proof.Proof.Tiles
public import proofs.«01_k».proof.Proof.Gen.Kernel17Ideal.Value
public import proofs.«01_k».proof.Proof.Gen.Reference17Ideal.Run
public import Idealize.ShloMosaic.Lib.Claim

@[expose] public section

set_option maxRecDepth 16384

noncomputable section

namespace Cert.HgrnDwin

open Cert.Common Cert.Kernel17Ideal Cert.Kernel17Ideal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-! ## What a grid point leaves -/

section
variable (c : Dev nD) (i : grid0.Coords) (a4 : Memref sig .tc .vmem S512x1024 .bf16) (h4 : a4.IsWhole)
  (a5 : Memref sig .tc .vmem S1x512x1024 .bf16) (h5 : a5.IsWhole) (a6 : Memref sig .tc .vmem S1x1024x1024 .f32)
  (h6 : a6.IsWhole) (a7 : Memref sig .tc .vmem S1024x1024 .f32) (h7 : a7.IsWhole)
  (x0 : Vec Ideal S512x1024 .bf16) (x1 : Vec Ideal S1x512x1024 .bf16) (xs : Vec Ideal S1024x1024 .f32)

theorem sout_A (hc0 : cond0_0 i) (hc1 : ¬cond0_1 i) (hc2 : ¬cond0_2 i) :
    sout0_A_0 c i a4 h4 a5 h5 a6 h6 a7 h7 hc0 hc1 hc2 x0 x1 = k0_pay1 x0 x1 := by
  unfold sout0_A_0
  rw [View.read_writes_eq_canon _ _ _ (scover0_A_0 c i a4 h4 a5 h5 a6 h6 a7 h7 hc0 hc1 hc2 x0 x1)]
  unfold kernelRun0_A
  dsimp only
  rw [View.canon_unit_zero hz]
  simp only [View.readAt_eq_ld, h4.read_unread, h5.read_unread, View.ld_unit_zero (S := S512x1024) hz,
    View.ld_unit_zero (S := S1x512x1024) hz3]

theorem sout_B (hc0 : ¬cond0_0 i) (hc1 : cond0_1 i) (hc2 : ¬cond0_2 i) :
    sout0_B_0 c i a4 h4 a5 h5 a6 h6 a7 h7 hc0 hc1 hc2 x0 x1 xs = k0_pay2 xs x0 x1 := by
  unfold sout0_B_0
  rw [View.read_writes_eq_canon _ _ _ (scover0_B_0 c i a4 h4 a5 h5 a6 h6 a7 h7 hc0 hc1 hc2 x0 x1 xs)]
  unfold kernelRun0_B
  dsimp only
  rw [View.canon_unit_zero hz]
  simp only [View.readAt_eq_ld, h4.read_unread, h5.read_unread, h7.read_unread, View.ld_unit_zero (S := S512x1024) hz,
    View.ld_unit_zero (S := S1x512x1024) hz3, View.ld_unit_zero (S := S1024x1024) hz]

theorem out_C (hc0 : ¬cond0_0 i) (hc1 : cond0_1 i) (hc2 : cond0_2 i) :
    out0_C_2 c i a4 h4 a5 h5 a6 h6 a7 h7 hc0 hc1 hc2 x0 x1 xs = k0_pay3 (k0_pay2 xs x0 x1) := by
  unfold out0_C_2
  rw [View.read_writes_eq_canon _ _ _ (cover0_C_2 c i a4 h4 a5 h5 a6 h6 a7 h7 hc0 hc1 hc2 x0 x1 xs)]
  unfold kernelRun0_C
  dsimp only
  sl_unfold_words
  rw [View.canon_unit_zero hz3, View.readCov_unit_zero (S := S1024x1024) _ hz]
  simp only [View.readAt_eq_ld, h4.read_unread, h5.read_unread, h7.read_unread, View.ld_unit_zero (S := S512x1024) hz,
    View.ld_unit_zero (S := S1x512x1024) hz3, View.ld_unit_zero (S := S1024x1024) hz]

end

/-- The product of two tiles at an index. -/
def tile (x0 : Vec Ideal S512x1024 .bf16) (x1 : Vec Ideal S1x512x1024 .bf16) (i : Fin 1024) (j : Fin 1024) : EReal :=
  ∑ k : Fin 512, x0 (ix2 k i) * x1 (ix3 0 k j)

theorem pay1_apply (x0 : Vec Ideal S512x1024 .bf16) (x1 : Vec Ideal S1x512x1024 .bf16) (i : Fin 1024) (j : Fin 1024) :
    k0_pay1 x0 x1 (ix2 i j) = tile x0 x1 i j := by
  pointwise [k0_pay1, tile]

theorem pay2_apply (xs : Vec Ideal S1024x1024 .f32) (x0 : Vec Ideal S512x1024 .bf16) (x1 : Vec Ideal S1x512x1024 .bf16)
    (i : Fin 1024) (j : Fin 1024) :
    k0_pay2 xs x0 x1 (ix2 i j) = (xs (ix2 i j) + tile x0 x1 i j : EReal) := by
  pointwise [k0_pay2, tile]

theorem pay3_apply (xs : Vec Ideal S1024x1024 .f32) (o : Fin 1) (i : Fin 1024) (j : Fin 1024) :
    k0_pay3 xs (ix3 o i j) = (xs (ix2 i j) : EReal) := by
  pointwise [k0_pay3]

/-! ## The running sum, and the array -/

variable (m : (ℓ : Loc nD τ sig) → Buf (Elt Ideal) ℓ)

/-- What point `n` contributes at place `(i, j)` of its block. -/
def part (c : Dev nD) (i : Fin 1024) (j : Fin 1024) (n : ℕ) : EReal :=
  if h : n < cfg0.N then tile (iblk m c 0 ⟨n, h⟩) (iblk m c 1 ⟨n, h⟩) i j else 0

theorem part_eq (c : Dev nD) (i : Fin 1024) (j : Fin 1024) (t : Fin cfg0.N) :
    part m c i j t = tile (iblk m c 0 t) (iblk m c 1 t) i j := dif_pos t.isLt

theorem scratch (c : Dev nD) (i : Fin 1024) (j : Fin 1024) : ∀ n (h : n < cfg0.N), n % 16 ≠ 16 - 1 →
    ((outsAt0 m c n h).2 (ix2 i j) : EReal) = ∑ s ∈ Finset.range (n % 16 + 1), part m c i j (n - n % 16 + s) := by
  refine run_sum 16 (by omega) (fun n h => ((outsAt0 m c n h).2 (ix2 i j) : EReal)) (part m c i j) ?_ ?_
  · intro n h h0
    rw [outsAt0_A m c ⟨n, h⟩ h0 (by simp only; omega) (by simp only; omega)]
    dsimp only
    rw [sout_A, pay1_apply]
    exact (part_eq m c i j ⟨n, h⟩).symm
  · intro n h h' h0 h1
    rw [outsAt0_B m c ⟨n, h⟩ h0 (by simp only; omega) h1]
    dsimp only
    rw [sout_B, pay2_apply]
    exact congrArg _ (part_eq m c i j ⟨n, h⟩).symm

theorem last (c : Dev nD) (o : Fin 1) (i : Fin 1024) (j : Fin 1024) (t : Fin cfg0.N) (ht : t.val % 16 = 15) :
    ((outsAt0 m c t.val t.isLt).1 (ix3 o i j) : EReal) = ∑ s ∈ Finset.range 16, part m c i j (t.val - 15 + s) := by
  rw [outsAt0_C m c t (by omega) (by omega) ht]
  dsimp only
  rw [out_C, pay3_apply, pay2_apply, scratch m c i j _ _ (by omega), ← part_eq m c i j t, Finset.sum_range_succ _ 15]
  have e1 : (t.val - 1) % 16 = 14 := by omega
  rw [e1, show t.val - 1 - 14 = t.val - 15 by omega, show t.val - 15 + 15 = t.val by omega]

theorem e0 : ∀ t : Fin cfg0.N, win0_0.index t = ![t.val % 16, 0] :=
  (by decide +kernel : ∀ t : Fin grid0.N, win0_0.index t = ![t.val % 16, 0])
theorem e1 : ∀ t : Fin cfg0.N, win0_1.index t = ![t.val / 16, t.val % 16, 0] :=
  (by decide +kernel : ∀ t : Fin grid0.N, win0_1.index t = ![t.val / 16, t.val % 16, 0])
theorem e2 : ∀ t : Fin cfg0.N, win0_2.index t = ![t.val / 16, 0, 0] :=
  (by decide +kernel : ∀ t : Fin grid0.N, win0_2.index t = ![t.val / 16, 0, 0])

/-- The result as one function of the arrays the region finds. -/
def G2 (A0 : S8192x1024.Idx → EReal) (A1 : S4x8192x1024.Idx → EReal) (y : S4x1024x1024.Idx) : EReal :=
  ∑ k : Fin 8192, A0 (ix2 k (y 1)) * A1 (ix3 (y 0) k (y 2))

theorem emb_0 (t t' : Fin cfg0.N) (j : ℕ) (hj : j < 16) (hm : t'.val % 16 = j) (hd : t'.val / 16 = t.val / 16)
    (k : Fin 512) (y : S1x1024x1024.Idx) : (win0_0.blk t').view.emb (ix2 k (y 1))
      = ix2 ⟨j * 512 + k.val, by omega⟩ ((win0_2.blk t).view.emb y 1) := by blk_ext [e0, e2, hm, hd]

theorem emb_1 (t t' : Fin cfg0.N) (j : ℕ) (hj : j < 16) (hm : t'.val % 16 = j) (hd : t'.val / 16 = t.val / 16)
    (k : Fin 512) (y : S1x1024x1024.Idx) : (win0_1.blk t').view.emb (ix3 0 k (y 2))
      = ix3 ((win0_2.blk t).view.emb y 0) ⟨j * 512 + k.val, by omega⟩ ((win0_2.blk t).view.emb y 2) := by
  blk_ext [e1, e2, hm, hd]

theorem arr2 (c : Dev nD) : (dats m 0 c).arrAt 2 cfg0.N = G2 (V m c main_v0) (V m c main_v6) := by
  refine (dats m 0 c).arrAt_eq_of_covers 2 _ (by decide +kernel) fun t hf y => ?_
  have ht : t.val % 16 = 15 := (flush0_2 t).mp hf
  have hN : t.val < 64 := lt_of_lt_of_eq t.isLt (show cfg0.N = 64 from N_0)
  blk_simp
  rw [after0_2]
  have hy : y = ix3 (y 0) (y 1) (y 2) := by funext a; fin_cases a <;> rfl
  refine (congrArg _ hy).trans ((last m c (y 0) (y 1) (y 2) t ht).trans ?_)
  unfold G2
  refine tiles_sum 16 512 (by norm_num) _ _ fun j hj => ?_
  have hlt : t.val - 15 + j < cfg0.N := by have : cfg0.N = 64 := N_0; omega
  rw [show part m c (y 1) (y 2) (t.val - 15 + j) = _ from part_eq m c (y 1) (y 2) ⟨t.val - 15 + j, hlt⟩]
  unfold tile
  refine Finset.sum_congr rfl fun k _ => ?_
  blk_simp [iblk]
  have hm : (t.val - 15 + j) % 16 = j := by omega
  have hd : (t.val - 15 + j) / 16 = t.val / 16 := by omega
  rw [emb_0 t ⟨_, hlt⟩ j hj hm hd k y, emb_1 t ⟨_, hlt⟩ j hj hm hd k y]
  rfl

/-! ## The claim -/

theorem V0 (c : Dev nD) : @Eq (FVec Ideal S8192x1024 .bf16) (V m c main_v0)
    (truncf .bf16 (φ := .f32) (m ((c : Thread nD τ).loc main_arg0)) bitsLt_bf16_f32) := by
  entry_read
  rfl
theorem V1 (c : Dev nD) : @Eq (FVec Ideal S4x8192x1024 .bf16) (V m c main_v6)
    (truncf .bf16 (φ := .f32) (concatenate S4x8192x1024 0
      [⟨S1x8192x1024, broadcastInDim S1x8192x1024 ![1, 2] bcast_S8192x1024_S1x8192x1024_1_2 (m ((c : Thread nD τ).loc main_arg5))⟩,
       ⟨S1x8192x1024, broadcastInDim S1x8192x1024 ![1, 2] bcast_S8192x1024_S1x8192x1024_1_2 (m ((c : Thread nD τ).loc main_arg6))⟩,
       ⟨S1x8192x1024, broadcastInDim S1x8192x1024 ![1, 2] bcast_S8192x1024_S1x8192x1024_1_2 (m ((c : Thread nD τ).loc main_arg7))⟩,
       ⟨S1x8192x1024, broadcastInDim S1x8192x1024 ![1, 2] bcast_S8192x1024_S1x8192x1024_1_2 (m ((c : Thread nD τ).loc main_arg8))⟩]
      concatenates_S1x8192x1024_S1x8192x1024_S1x8192x1024_S1x8192x1024_S4x8192x1024_d0) bitsLt_bf16_f32) := by
  dsimp only [V]
  after_results <;> rfl

/-- The reference's stacked gradients are the kernel's result over the stacked arrays. -/
theorem tie (h : FVec Ideal S8192x1024 .f32) (d0 d1 d2 d3 : FVec Ideal S8192x1024 .f32) :
    concatenate Cert.Reference17Ideal.S4x1024x1024 0
      [⟨Cert.Reference17Ideal.S1x1024x1024, broadcastInDim Cert.Reference17Ideal.S1x1024x1024 ![1, 2] Cert.Reference17Ideal.Gen.bcast_S1024x1024_S1x1024x1024_1_2
        (transpose Cert.Reference17Ideal.S1024x1024 [1, 0] (Host.dotGeneral Cert.Reference17Ideal.dot_S8192x1024_S8192x1024_S1024x1024_0_0_1_1_n_n none d0 h) Cert.Reference17Ideal.Gen.transposes_S1024x1024_S1024x1024_1_0)⟩,
       ⟨Cert.Reference17Ideal.S1x1024x1024, broadcastInDim Cert.Reference17Ideal.S1x1024x1024 ![1, 2] Cert.Reference17Ideal.Gen.bcast_S1024x1024_S1x1024x1024_1_2
        (transpose Cert.Reference17Ideal.S1024x1024 [1, 0] (Host.dotGeneral Cert.Reference17Ideal.dot_S8192x1024_S8192x1024_S1024x1024_0_0_1_1_n_n none d1 h) Cert.Reference17Ideal.Gen.transposes_S1024x1024_S1024x1024_1_0)⟩,
       ⟨Cert.Reference17Ideal.S1x1024x1024, broadcastInDim Cert.Reference17Ideal.S1x1024x1024 ![1, 2] Cert.Reference17Ideal.Gen.bcast_S1024x1024_S1x1024x1024_1_2
        (transpose Cert.Reference17Ideal.S1024x1024 [1, 0] (Host.dotGeneral Cert.Reference17Ideal.dot_S8192x1024_S8192x1024_S1024x1024_0_0_1_1_n_n none d2 h) Cert.Reference17Ideal.Gen.transposes_S1024x1024_S1024x1024_1_0)⟩,
       ⟨Cert.Reference17Ideal.S1x1024x1024, broadcastInDim Cert.Reference17Ideal.S1x1024x1024 ![1, 2] Cert.Reference17Ideal.Gen.bcast_S1024x1024_S1x1024x1024_1_2
        (transpose Cert.Reference17Ideal.S1024x1024 [1, 0] (Host.dotGeneral Cert.Reference17Ideal.dot_S8192x1024_S8192x1024_S1024x1024_0_0_1_1_n_n none d3 h) Cert.Reference17Ideal.Gen.transposes_S1024x1024_S1024x1024_1_0)⟩]
      Cert.Reference17Ideal.Gen.concatenates_S1x1024x1024_S1x1024x1024_S1x1024x1024_S1x1024x1024_S4x1024x1024_d0
    = G2 (truncf .bf16 (φ := .f32) h bitsLt_bf16_f32) (truncf .bf16 (φ := .f32) (concatenate S4x8192x1024 0
      [⟨S1x8192x1024, broadcastInDim S1x8192x1024 ![1, 2] bcast_S8192x1024_S1x8192x1024_1_2 d0⟩,
       ⟨S1x8192x1024, broadcastInDim S1x8192x1024 ![1, 2] bcast_S8192x1024_S1x8192x1024_1_2 d1⟩,
       ⟨S1x8192x1024, broadcastInDim S1x8192x1024 ![1, 2] bcast_S8192x1024_S1x8192x1024_1_2 d2⟩,
       ⟨S1x8192x1024, broadcastInDim S1x8192x1024 ![1, 2] bcast_S8192x1024_S1x8192x1024_1_2 d3⟩]
      concatenates_S1x8192x1024_S1x8192x1024_S1x8192x1024_S1x8192x1024_S4x8192x1024_d0) bitsLt_bf16_f32) := by
  funext y; idx_vars y
  fin_cases y0
  · pointwise [G2]
    exact Finset.sum_congr rfl fun k _ => mul_comm _ _
  · pointwise [G2]
    exact Finset.sum_congr rfl fun k _ => mul_comm _ _
  · pointwise [G2]
    exact Finset.sum_congr rfl fun k _ => mul_comm _ _
  · pointwise [G2]
    exact Finset.sum_congr rfl fun k _ => mul_comm _ _

/-- The claim of values: both programs end with the gradients of the weights. -/
theorem algebraic : Cert.algebraic_Kernel17Ideal_Reference17Ideal := by
  intro m g m' g' hpre hagree
  refine ⟨fun c => G2 (V m c main_v0) (V m c main_v6), ?_, ?_⟩
  · exact (θ_run _ _ _).mono (fun r h c => ⟨(h c).1.trans (arr2 m c), (h c).2⟩)
      (Cert.Kernel17Ideal.Value.run_blocks m g)
  · refine (θ_run _ _ _).mono ?_ (Cert.Reference17Ideal.Value.run m' g')
    intro r h c
    refine ⟨(h c).1.trans ?_, (h c).2⟩
    clear h
    obtain ⟨h0, h1, h2, h3, h4, h5, h6, h7, h8⟩ := hagree c
    rw [h0, h5, h6, h7, h8]
    beta_reduce
    rw [V0, V1]
    exact tie _ _ _ _ _

end Cert.HgrnDwin

end
-- ==== Proof.HgrnIn.lean ====
/-
  The recurrence's input projection: h · W.
-/
module

public import proofs.«01_k».proof.Defs
public import proofs.«01_k».proof.Proof.Common
public import proofs.«01_k».proof.Proof.Gen.Kernel19Ideal.Value
public import proofs.«01_k».proof.Proof.Gen.Reference19Ideal.Run
public import Idealize.ShloMosaic.Lib.Claim

@[expose] public section

set_option maxRecDepth 16384

noncomputable section

namespace Cert.HgrnIn

open Cert.Common Cert.Kernel19Ideal Cert.Kernel19Ideal.Gen Idealize.ShloMosaic Idealize.ShloMosaic.TcCoe Idealize.SL.Sem

/-- What a grid point stores. -/
def E2 (x0 : Vec Ideal S1024x1024 .bf16) (x1 : Vec Ideal S1024x1024 .bf16) :
    Vec Ideal S1024x1024 .f32 := fun y =>
  (∑ k : Fin 1024, x0 (ix2 (y 0) k) * x1 (ix2 k (y 1)) : EReal)

theorem out2_apply (x0 : Vec Ideal S1024x1024 .bf16) (x1 : Vec Ideal S1024x1024 .bf16)
    (y : S1024x1024.Idx) : out0_2 x0 x1 y = E2 x0 x1 y := by
  unfold out0_2
  refine View.canon_apply_of_pieces (E2 x0 x1) _ ?_ y (cover0_2 _ y)
  intro p hp x
  simp only [List.mem_cons, List.not_mem_nil, or_false] at hp
  rcases hp with rfl
  idx_vars x; unfold_payloads
  rw [emb2 _ _ _ _ x0 x1 (Nat.zero_add _).symm (Nat.zero_add _).symm]
  pointwise [E2]

variable (m : (ℓ : Loc nD τ sig) → Buf (Elt Ideal) ℓ)

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, (grid0.coords t 1).val] :=
  (by decide +kernel : ∀ t : Fin grid0.N, win0_1.index t = ![0, (grid0.coords t 1).val])
theorem e2 : ∀ t : Fin cfg0.N, win0_2.index t = ![(grid0.coords t 0).val, (grid0.coords t 1).val] :=
  (by decide +kernel : ∀ t : Fin grid0.N, win0_2.index t = ![(grid0.coords t 0).val, (grid0.coords t 1).val])

/-- The result as one function of the arrays the region finds. -/
def G2 (A0 : S8192x1024.Idx → EReal) (A1 : S1024x4096.Idx → EReal)
    (y : S8192x4096.Idx) : EReal :=
  (∑ k : Fin 1024, A0 (ix2 (y 0) k) * A1 (ix2 k (y 1)) : EReal)

theorem arr2 (c : Dev nD) :
    (dats m 0 c).arrAt 2 cfg0.N = G2 (V m c main_v0) (V m c main_v1) := by
  refine (dats m 0 c).arrAt_eq_of_covers 2 _ (by decide +kernel) fun t hf y => ?_
  blk_simp
  rw [after0_2, out2_apply]
  unfold E2 G2
  blk_simp [iblk]
  have h0 : ∀ k : Fin 1024, (win0_0.blk t).view.emb (ix2 (y 0) k) = ix2 ((win0_2.blk t).view.emb y 0) k :=
    fun k => by blk_ext [e0, e2]
  have h1 : ∀ k : Fin 1024, (win0_1.blk t).view.emb (ix2 k (y 1)) = ix2 k ((win0_2.blk t).view.emb y 1) :=
    fun k => by blk_ext [e1, e2]
  simp only [h0, h1]
  rfl

theorem V0 (c : Dev nD) : @Eq (FVec Ideal S8192x1024 .bf16) (V m c main_v0)
    (truncf .bf16 (φ := .f32) (m ((c : Thread nD τ).loc main_arg0)) bitsLt_bf16_f32) := by
  entry_read
  rfl
theorem V1 (c : Dev nD) : @Eq (FVec Ideal S1024x4096 .bf16) (V m c main_v1)
    (truncf .bf16 (φ := .f32) (m ((c : Thread nD τ).loc main_arg1)) bitsLt_bf16_f32) := by
  entry_read
  rfl

/-- The reference's line is the kernel's result. -/
theorem tie (h : FVec Ideal S8192x1024 .f32) (w : FVec Ideal S1024x4096 .f32) :
    Host.dotGeneral Cert.Reference19Ideal.dot_S8192x1024_S1024x4096_S8192x4096_1_0_0_1_n_n none h w
    = G2 (truncf .bf16 (φ := .f32) h bitsLt_bf16_f32) (truncf .bf16 (φ := .f32) w bitsLt_bf16_f32) := by
  funext y; idx_vars y
  pointwise [G2]

/-- The claim of values: both programs end with the projection. -/
theorem algebraic : Cert.algebraic_Kernel19Ideal_Reference19Ideal := by
  intro m g m' g' hpre hagree
  refine ⟨fun c => G2 (V m c main_v0) (V m c main_v1), ?_, ?_⟩
  · exact (θ_run _ _ _).mono (fun r h c => ⟨(h c).1.trans (arr2 m c), (h c).2⟩)
      (Cert.Kernel19Ideal.Value.run_blocks m g)
  · refine (θ_run _ _ _).mono ?_ (Cert.Reference19Ideal.Value.run m' g')
    intro r h c
    refine ⟨(h c).1.trans ?_, (h c).2⟩
    clear h
    obtain ⟨h0, h1⟩ := hagree c
    rw [h0, h1]
    beta_reduce
    rw [V0, V1]
    exact tie _ _

end Cert.HgrnIn

end
-- ==== Proof.MixDs.lean ====
/-
  The gradient of a mixer's output projection in its input: dx · Wᵀ.
-/
module

public import proofs.«01_k».proof.Defs
public import proofs.«01_k».proof.Proof.Common
public import proofs.«01_k».proof.Proof.Gen.Kernel12Ideal.Value
public import proofs.«01_k».proof.Proof.Gen.Reference12Ideal.Run
public import Idealize.ShloMosaic.Lib.Claim

@[expose] public section

set_option maxRecDepth 16384

noncomputable section

namespace Cert.MixDs

open Cert.Common Cert.Kernel12Ideal Cert.Kernel12Ideal.Gen Idealize.ShloMosaic Idealize.ShloMosaic.TcCoe Idealize.SL.Sem

/-- What a grid point stores. -/
def E2 (x0 : Vec Ideal S1024x1024 .bf16) (x1 : Vec Ideal S1024x1024 .bf16) :
    Vec Ideal S1024x1024 .f32 := fun y =>
  (∑ k : Fin 1024, x0 (ix2 (y 0) k) * x1 (ix2 (y 1) k) : EReal)

theorem out2_apply (x0 : Vec Ideal S1024x1024 .bf16) (x1 : Vec Ideal S1024x1024 .bf16)
    (y : S1024x1024.Idx) : out0_2 x0 x1 y = E2 x0 x1 y := by
  unfold out0_2
  refine View.canon_apply_of_pieces (E2 x0 x1) _ ?_ y (cover0_2 _ y)
  intro p hp x
  simp only [List.mem_cons, List.not_mem_nil, or_false] at hp
  rcases hp with rfl
  idx_vars x; unfold_payloads
  rw [emb2 _ _ _ _ x0 x1 (Nat.zero_add _).symm (Nat.zero_add _).symm]
  pointwise [E2]

variable (m : (ℓ : Loc nD τ sig) → Buf (Elt Ideal) ℓ)

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![(grid0.coords t 1).val, 0] :=
  (by decide +kernel : ∀ t : Fin grid0.N, win0_1.index t = ![(grid0.coords t 1).val, 0])
theorem e2 : ∀ t : Fin cfg0.N, win0_2.index t = ![(grid0.coords t 0).val, (grid0.coords t 1).val] :=
  (by decide +kernel : ∀ t : Fin grid0.N, win0_2.index t = ![(grid0.coords t 0).val, (grid0.coords t 1).val])

/-- The result as one function of the arrays the region finds. -/
def G2 (A0 : S8192x1024.Idx → EReal) (A1 : S1024x1024.Idx → EReal)
    (y : S8192x1024.Idx) : EReal :=
  (∑ k : Fin 1024, A0 (ix2 (y 0) k) * A1 (ix2 (y 1) k) : EReal)

theorem arr2 (c : Dev nD) :
    (dats m 0 c).arrAt 2 cfg0.N = G2 (V m c main_v0) (V m c main_v1) := by
  refine (dats m 0 c).arrAt_eq_of_covers 2 _ (by decide +kernel) fun t hf y => ?_
  blk_simp
  rw [after0_2, out2_apply]
  unfold E2 G2
  blk_simp [iblk]
  have h0 : ∀ k : Fin 1024, (win0_0.blk t).view.emb (ix2 (y 0) k) = ix2 ((win0_2.blk t).view.emb y 0) k :=
    fun k => by blk_ext [e0, e2]
  have h1 : ∀ k : Fin 1024, (win0_1.blk t).view.emb (ix2 (y 1) k) = ix2 ((win0_2.blk t).view.emb y 1) k :=
    fun k => by blk_ext [e1, e2]
  simp only [h0, h1]
  rfl

theorem V0 (c : Dev nD) : @Eq (FVec Ideal S8192x1024 .bf16) (V m c main_v0)
    (truncf .bf16 (φ := .f32) (m ((c : Thread nD τ).loc main_arg2)) bitsLt_bf16_f32) := by
  entry_read
  rfl
theorem V1 (c : Dev nD) : @Eq (FVec Ideal S1024x1024 .bf16) (V m c main_v1)
    (truncf .bf16 (φ := .f32) (m ((c : Thread nD τ).loc main_arg1)) bitsLt_bf16_f32) := by
  entry_read
  rfl

/-- The reference's line is the kernel's result. -/
theorem tie (dx : FVec Ideal S8192x1024 .f32) (w : FVec Ideal S1024x1024 .f32) :
    Host.dotGeneral Cert.Reference12Ideal.dot_S8192x1024_S1024x1024_S8192x1024_1_1_0_0_n_n none dx w
    = G2 (truncf .bf16 (φ := .f32) dx bitsLt_bf16_f32) (truncf .bf16 (φ := .f32) w bitsLt_bf16_f32) := by
  funext y; idx_vars y
  pointwise [G2]

/-- The claim of values: both programs end with the gradient of the projection's input. -/
theorem algebraic : Cert.algebraic_Kernel12Ideal_Reference12Ideal := by
  intro m g m' g' hpre hagree
  refine ⟨fun c => G2 (V m c main_v0) (V m c main_v1), ?_, ?_⟩
  · exact (θ_run _ _ _).mono (fun r h c => ⟨(h c).1.trans (arr2 m c), (h c).2⟩)
      (Cert.Kernel12Ideal.Value.run_blocks m g)
  · refine (θ_run _ _ _).mono ?_ (Cert.Reference12Ideal.Value.run m' g')
    intro r h c
    refine ⟨(h c).1.trans ?_, (h c).2⟩
    clear h
    obtain ⟨h0, h1, h2⟩ := hagree c
    rw [h1, h2]
    beta_reduce
    rw [V0, V1]
    exact tie _ _

end Cert.MixDs

end
-- ==== Proof.MixDw.lean ====
/-
  The gradient of a mixer's output weights: sᵀ · dx, accumulated over sixteen tiles of the rows.
-/
module

public import proofs.«01_k».proof.Defs
public import proofs.«01_k».proof.Proof.Tiles
public import proofs.«01_k».proof.Proof.Gen.Kernel13Ideal.Value
public import proofs.«01_k».proof.Proof.Gen.Reference13Ideal.Run
public import Idealize.ShloMosaic.Lib.Claim

@[expose] public section

set_option maxRecDepth 16384

noncomputable section

namespace Cert.MixDw

open Cert.Common Cert.Kernel13Ideal Cert.Kernel13Ideal.Gen Idealize.ShloMosaic Idealize.ShloMosaic.TcCoe Idealize.SL.Sem

theorem hz : (![0, 0] : Fin 2 → Nat) = fun _ => 0 := funext fun a => by fin_cases a <;> rfl

/-! ## What a grid point leaves -/

section
variable (c : Dev nD) (i : grid0.Coords) (a3 : Memref sig .tc .vmem S512x1024 .bf16) (h3 : a3.IsWhole)
  (a4 : Memref sig .tc .vmem S512x1024 .bf16) (h4 : a4.IsWhole) (a5 : Memref sig .tc .vmem S1024x1024 .f32)
  (h5 : a5.IsWhole) (a6 : Memref sig .tc .vmem S1024x1024 .f32) (h6 : a6.IsWhole)
  (x0 : Vec Ideal S512x1024 .bf16) (x1 : Vec Ideal S512x1024 .bf16) (xs : Vec Ideal S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S512x1024) hz,
    View.ld_unit_zero (S := S512x1024) hz]

theorem sout_B (hc0 : ¬cond0_0 i) (hc1 : cond0_1 i) (hc2 : ¬cond0_2 i) :
    sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S512x1024) hz,
    View.ld_unit_zero (S := S512x1024) hz, View.ld_unit_zero (S := S1024x1024) hz]

theorem out_C (hc0 : ¬cond0_0 i) (hc1 : cond0_1 i) (hc2 : cond0_2 i) :
    out0_C_2 c i a3 h3 a4 h4 a5 h5 a6 h6 hc0 hc1 hc2 x0 x1 xs = k0_pay2 xs x0 x1 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S512x1024) hz,
    View.ld_unit_zero (S := S512x1024) hz, View.ld_unit_zero (S := S1024x1024) hz]

end

/-- The product of two tiles at an index. -/
def tile (x0 : Vec Ideal S512x1024 .bf16) (x1 : Vec Ideal S512x1024 .bf16) (i : Fin 1024) (j : Fin 1024) : EReal :=
  ∑ k : Fin 512, x0 (ix2 k i) * x1 (ix2 k j)

theorem pay1_apply (x0 : Vec Ideal S512x1024 .bf16) (x1 : Vec Ideal S512x1024 .bf16) (i : Fin 1024) (j : Fin 1024) :
    k0_pay1 x0 x1 (ix2 i j) = tile x0 x1 i j := by
  pointwise [k0_pay1, tile]

theorem pay2_apply (xs : Vec Ideal S1024x1024 .f32) (x0 : Vec Ideal S512x1024 .bf16) (x1 : Vec Ideal S512x1024 .bf16)
    (i : Fin 1024) (j : Fin 1024) :
    k0_pay2 xs x0 x1 (ix2 i j) = (xs (ix2 i j) + tile x0 x1 i j : EReal) := by
  pointwise [k0_pay2, tile]

/-! ## The running sum, and the array -/

variable (m : (ℓ : Loc nD τ sig) → Buf (Elt Ideal) ℓ)

/-- What point `n` contributes at place `(i, j)` of its block. -/
def part (c : Dev nD) (i : Fin 1024) (j : Fin 1024) (n : ℕ) : EReal :=
  if h : n < cfg0.N then tile (iblk m c 0 ⟨n, h⟩) (iblk m c 1 ⟨n, h⟩) i j else 0

theorem part_eq (c : Dev nD) (i : Fin 1024) (j : Fin 1024) (t : Fin cfg0.N) :
    part m c i j t = tile (iblk m c 0 t) (iblk m c 1 t) i j := dif_pos t.isLt

theorem scratch (c : Dev nD) (i : Fin 1024) (j : Fin 1024) : ∀ n (h : n < cfg0.N), n % 16 ≠ 16 - 1 →
    ((outsAt0 m c n h).2 (ix2 i j) : EReal) = ∑ s ∈ Finset.range (n % 16 + 1), part m c i j (n - n % 16 + s) := by
  refine run_sum 16 (by omega) (fun n h => ((outsAt0 m c n h).2 (ix2 i j) : EReal)) (part m c i j) ?_ ?_
  · intro n h h0
    have hN := lt_of_lt_of_eq h (show cfg0.N = 16 from N_0)
    rw [outsAt0_A m c ⟨n, h⟩ h0 (by simp only; omega) (by simp only; omega)]
    dsimp only
    rw [sout_A, pay1_apply]
    exact (part_eq m c i j ⟨n, h⟩).symm
  · intro n h h' h0 h1
    rw [outsAt0_B m c ⟨n, h⟩ h0 (by simp only; omega) h1]
    dsimp only
    rw [sout_B, pay2_apply]
    exact congrArg _ (part_eq m c i j ⟨n, h⟩).symm

theorem last (c : Dev nD) (i : Fin 1024) (j : Fin 1024) (t : Fin cfg0.N) (ht : t.val % 16 = 15) :
    ((outsAt0 m c t.val t.isLt).1 (ix2 i j) : EReal) = ∑ s ∈ Finset.range 16, part m c i j (t.val - 15 + s) := by
  rw [outsAt0_C m c t (by omega) (by omega) ht]
  dsimp only
  rw [out_C, pay2_apply, scratch m c i j _ _ (by omega), ← part_eq m c i j t, Finset.sum_range_succ _ 15]
  have e1 : (t.val - 1) % 16 = 14 := by omega
  rw [e1, show t.val - 1 - 14 = t.val - 15 by omega, show t.val - 15 + 15 = t.val by omega]

theorem e0 : ∀ t : Fin cfg0.N, win0_0.index t = ![t.val % 16, 0] :=
  (by decide +kernel : ∀ t : Fin grid0.N, win0_0.index t = ![t.val % 16, 0])
theorem e1 : ∀ t : Fin cfg0.N, win0_1.index t = ![t.val % 16, t.val / 16] :=
  (by decide +kernel : ∀ t : Fin grid0.N, win0_1.index t = ![t.val % 16, t.val / 16])
theorem e2 : ∀ t : Fin cfg0.N, win0_2.index t = ![0, t.val / 16] :=
  (by decide +kernel : ∀ t : Fin grid0.N, win0_2.index t = ![0, t.val / 16])

/-- The result as one function of the arrays the region finds. -/
def G2 (A0 : S8192x1024.Idx → EReal) (A1 : S8192x1024.Idx → EReal) (y : S1024x1024.Idx) : EReal :=
  ∑ k : Fin 8192, A0 (ix2 k (y 0)) * A1 (ix2 k (y 1))

theorem emb_0 (t t' : Fin cfg0.N) (j : ℕ) (hj : j < 16) (hm : t'.val % 16 = j) (hd : t'.val / 16 = t.val / 16)
    (k : Fin 512) (y : S1024x1024.Idx) : (win0_0.blk t').view.emb (ix2 k (y 0))
      = ix2 ⟨j * 512 + k.val, by omega⟩ ((win0_2.blk t).view.emb y 0) := by blk_ext [e0, e2, hm, hd]

theorem emb_1 (t t' : Fin cfg0.N) (j : ℕ) (hj : j < 16) (hm : t'.val % 16 = j) (hd : t'.val / 16 = t.val / 16)
    (k : Fin 512) (y : S1024x1024.Idx) : (win0_1.blk t').view.emb (ix2 k (y 1))
      = ix2 ⟨j * 512 + k.val, by omega⟩ ((win0_2.blk t).view.emb y 1) := by blk_ext [e1, e2, hm, hd]

theorem arr2 (c : Dev nD) : (dats m 0 c).arrAt 2 cfg0.N = G2 (V m c main_v0) (V m c main_v1) := by
  refine (dats m 0 c).arrAt_eq_of_covers 2 _ (by decide +kernel) fun t hf y => ?_
  have ht : t.val % 16 = 15 := (flush0_2 t).mp hf
  have hN : t.val < 16 := lt_of_lt_of_eq t.isLt (show cfg0.N = 16 from N_0)
  blk_simp
  rw [after0_2]
  have hy : y = ix2 (y 0) (y 1) := by funext a; fin_cases a <;> rfl
  refine (congrArg _ hy).trans ((last m c (y 0) (y 1) t ht).trans ?_)
  unfold G2
  refine tiles_sum 16 512 (by norm_num) _ _ fun j hj => ?_
  have hlt : t.val - 15 + j < cfg0.N := by have : cfg0.N = 16 := N_0; omega
  rw [show part m c (y 0) (y 1) (t.val - 15 + j) = _ from part_eq m c (y 0) (y 1) ⟨t.val - 15 + j, hlt⟩]
  unfold tile
  refine Finset.sum_congr rfl fun k _ => ?_
  blk_simp [iblk]
  have hm : (t.val - 15 + j) % 16 = j := by omega
  have hd : (t.val - 15 + j) / 16 = t.val / 16 := by omega
  rw [emb_0 t ⟨_, hlt⟩ j hj hm hd k y, emb_1 t ⟨_, hlt⟩ j hj hm hd k y]
  rfl

/-! ## The claim -/

theorem V0 (c : Dev nD) : @Eq (FVec Ideal S8192x1024 .bf16) (V m c main_v0)
    (truncf .bf16 (φ := .f32) (m ((c : Thread nD τ).loc main_arg0)) bitsLt_bf16_f32) := by
  entry_read
  rfl
theorem V1 (c : Dev nD) : @Eq (FVec Ideal S8192x1024 .bf16) (V m c main_v1)
    (truncf .bf16 (φ := .f32) (m ((c : Thread nD τ).loc main_arg2)) bitsLt_bf16_f32) := by
  entry_read
  rfl

/-- The reference's product is the kernel's result. -/
theorem tie (h : FVec Ideal S8192x1024 .f32) (ct : FVec Ideal S8192x1024 .f32) :
    transpose S1024x1024 [1, 0] (Host.dotGeneral Cert.Reference13Ideal.dot_S8192x1024_S8192x1024_S1024x1024_0_0_1_1_n_n none ct h)
      Cert.Reference13Ideal.Gen.transposes_S1024x1024_S1024x1024_1_0
    = G2 (truncf .bf16 (φ := .f32) h bitsLt_bf16_f32) (truncf .bf16 (φ := .f32) ct bitsLt_bf16_f32) := by
  funext y; idx_vars y
  pointwise [G2]
  exact Finset.sum_congr rfl fun k _ => mul_comm _ _

/-- The claim of values: both programs end with the gradient of the weights. -/
theorem algebraic : Cert.algebraic_Kernel13Ideal_Reference13Ideal := by
  intro m g m' g' hpre hagree
  refine ⟨fun c => G2 (V m c main_v0) (V m c main_v1), ?_, ?_⟩
  · exact (θ_run _ _ _).mono (fun r h c => ⟨(h c).1.trans (arr2 m c), (h c).2⟩)
      (Cert.Kernel13Ideal.Value.run_blocks m g)
  · refine (θ_run _ _ _).mono ?_ (Cert.Reference13Ideal.Value.run m' g')
    intro r h c
    refine ⟨(h c).1.trans ?_, (h c).2⟩
    clear h
    obtain ⟨h0, h1, h2⟩ := hagree c
    rw [h0, h2]
    beta_reduce
    rw [V0, V1]
    exact tie _ _

end Cert.MixDw

end
-- ==== Proof.MixOut.lean ====
/-
  A mixer's output projection with its residual: x + s · W.
-/
module

public import proofs.«01_k».proof.Defs
public import proofs.«01_k».proof.Proof.Common
public import proofs.«01_k».proof.Proof.Gen.Kernel14Ideal.Value
public import proofs.«01_k».proof.Proof.Gen.Reference14Ideal.Run
public import Idealize.ShloMosaic.Lib.Claim

@[expose] public section

set_option maxRecDepth 16384

noncomputable section

namespace Cert.MixOut

open Cert.Common Cert.Kernel14Ideal Cert.Kernel14Ideal.Gen Idealize.ShloMosaic Idealize.ShloMosaic.TcCoe Idealize.SL.Sem

/-- What a grid point stores. -/
def E3 (x0 : Vec Ideal S512x1024 .bf16) (x1 : Vec Ideal S1024x1024 .bf16) (x2 : Vec Ideal S512x1024 .f32) :
    Vec Ideal S512x1024 .f32 := fun y =>
  (x2 (ix2 (y 0) (y 1)) + ∑ k : Fin 1024, x0 (ix2 (y 0) k) * x1 (ix2 k (y 1)) : EReal)

theorem out3_apply (x0 : Vec Ideal S512x1024 .bf16) (x1 : Vec Ideal S1024x1024 .bf16) (x2 : Vec Ideal S512x1024 .f32)
    (y : S512x1024.Idx) : out0_3 x0 x1 x2 y = E3 x0 x1 x2 y := by
  unfold out0_3
  refine View.canon_apply_of_pieces (E3 x0 x1 x2) _ ?_ y (cover0_3 _ y)
  intro p hp x
  simp only [List.mem_cons, List.not_mem_nil, or_false] at hp
  rcases hp with rfl
  idx_vars x; unfold_payloads
  rw [emb2 _ _ _ _ x0 x1 (Nat.zero_add _).symm (Nat.zero_add _).symm]
  pointwise [E3]

variable (m : (ℓ : Loc nD τ sig) → Buf (Elt Ideal) ℓ)

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, 0] :=
  (by decide +kernel : ∀ t : Fin grid0.N, win0_1.index t = ![0, 0])
theorem e2 : ∀ t : Fin cfg0.N, win0_2.index t = ![(grid0.coords t 0).val, 0] :=
  (by decide +kernel : ∀ t : Fin grid0.N, win0_2.index t = ![(grid0.coords t 0).val, 0])
theorem e3 : ∀ t : Fin cfg0.N, win0_3.index t = ![(grid0.coords t 0).val, 0] :=
  (by decide +kernel : ∀ t : Fin grid0.N, win0_3.index t = ![(grid0.coords t 0).val, 0])

/-- The result as one function of the arrays the region finds. -/
def G3 (A0 : S8192x1024.Idx → EReal) (A1 : S1024x1024.Idx → EReal) (A2 : S8192x1024.Idx → EReal)
    (y : S8192x1024.Idx) : EReal :=
  (A2 (ix2 (y 0) (y 1)) + ∑ k : Fin 1024, A0 (ix2 (y 0) k) * A1 (ix2 k (y 1)) : EReal)

theorem arr3 (c : Dev nD) :
    (dats m 0 c).arrAt 3 cfg0.N = G3 (V m c main_v0) (V m c main_v1) (V m c main_arg0) := by
  refine (dats m 0 c).arrAt_eq_of_covers 3 _ (by decide +kernel) fun t hf y => ?_
  blk_simp
  rw [after0_3, out3_apply]
  unfold E3 G3
  blk_simp [iblk]
  have h0 : ∀ k : Fin 1024, (win0_0.blk t).view.emb (ix2 (y 0) k) = ix2 ((win0_3.blk t).view.emb y 0) k :=
    fun k => by blk_ext [e0, e3]
  have h1 : ∀ k : Fin 1024, (win0_1.blk t).view.emb (ix2 k (y 1)) = ix2 k ((win0_3.blk t).view.emb y 1) :=
    fun k => by blk_ext [e1, e3]
  have h2 : (win0_2.blk t).view.emb (ix2 (y 0) (y 1))
      = ix2 ((win0_3.blk t).view.emb y 0) ((win0_3.blk t).view.emb y 1) := by blk_ext [e2, e3]
  simp only [h0, h1, h2]
  rfl

theorem V0 (c : Dev nD) : @Eq (FVec Ideal S8192x1024 .bf16) (V m c main_v0)
    (truncf .bf16 (φ := .f32) (m ((c : Thread nD τ).loc main_arg1)) bitsLt_bf16_f32) := by
  entry_read
  rfl
theorem V1 (c : Dev nD) : @Eq (FVec Ideal S1024x1024 .bf16) (V m c main_v1)
    (truncf .bf16 (φ := .f32) (m ((c : Thread nD τ).loc main_arg2)) bitsLt_bf16_f32) := by
  entry_read
  rfl

/-- The reference's line is the kernel's result. -/
theorem tie (x s : FVec Ideal S8192x1024 .f32) (w : FVec Ideal S1024x1024 .f32) :
    addf x (Host.dotGeneral Cert.Reference14Ideal.dot_S8192x1024_S1024x1024_S8192x1024_1_0_0_1_n_n none s w)
    = G3 (truncf .bf16 (φ := .f32) s bitsLt_bf16_f32) (truncf .bf16 (φ := .f32) w bitsLt_bf16_f32) x := by
  funext y; idx_vars y
  pointwise [G3]

/-- The claim of values: both programs end with the mixer's output. -/
theorem algebraic : Cert.algebraic_Kernel14Ideal_Reference14Ideal := by
  intro m g m' g' hpre hagree
  refine ⟨fun c => G3 (V m c main_v0) (V m c main_v1) (V m c main_arg0), ?_, ?_⟩
  · exact (θ_run _ _ _).mono (fun r h c => ⟨(h c).1.trans (arr3 m c), (h c).2⟩)
      (Cert.Kernel14Ideal.Value.run_blocks m g)
  · refine (θ_run _ _ _).mono ?_ (Cert.Reference14Ideal.Value.run m' g')
    intro r h c
    refine ⟨(h c).1.trans ?_, (h c).2⟩
    clear h
    obtain ⟨h0, h1, h2⟩ := hagree c
    rw [h0, h1, h2]
    beta_reduce
    rw [V0, V1, V_main_arg0]
    exact tie _ _ _

end Cert.MixOut

end
-- ==== Proof.Rms.lean ====
/-
  The gradient through the root-mean-square normalisation: a block of rows at each grid point, and the gain's gradient
  added up over the points.
-/
module

public import proofs.«01_k».proof.Defs
public import proofs.«01_k».proof.Proof.Tiles
public import proofs.«01_k».proof.Proof.RmsLaw
public import proofs.«01_k».proof.Proof.Gen.Kernel2Ideal.Value
public import Idealize.ShloMosaic.Lib.Claim

@[expose] public section

set_option maxRecDepth 16384

noncomputable section

namespace Cert.Rms

open Cert.Common Cert.Kernel2Ideal Cert.Kernel2Ideal.Gen Idealize.ShloMosaic Idealize.ShloMosaic.TcCoe Idealize.SL.Sem

theorem hz : (![0, 0] : Fin 2 → Nat) = fun _ => 0 := funext fun a => by fin_cases a <;> rfl

/-! ## What a grid point leaves -/

section
variable (c : Dev nD) (i : grid0.Coords) (a1 : Memref sig .tc .vmem S512x1024 .f32) (h1 : a1.IsWhole)
  (a2 : Memref sig .tc .vmem S512x1024 .f32) (h2 : a2.IsWhole) (a3 : Memref sig .tc .vmem S1x1024 .f32) (h3 : a3.IsWhole)
  (a4 : Memref sig .tc .vmem S512x1024 .f32) (h4 : a4.IsWhole) (a5 : Memref sig .tc .vmem S512x1024 .f32) (h5 : a5.IsWhole)
  (a6 : Memref sig .tc .vmem S512x1024 .bf16) (h6 : a6.IsWhole) (a7 : Memref sig .tc .vmem S1x1024 .f32) (h7 : a7.IsWhole)
  (x0 x1 : Vec Ideal S512x1024 .f32) (x2 : Vec Ideal S1x1024 .f32) (x3 : Vec Ideal S512x1024 .f32)
  (xo : Vec Ideal S1x1024 .f32)

theorem out_A_4 (hc0 : cond0_0 i) (hc1 : ¬cond0_1 i) :
    out0_A_4 c i a1 h1 a2 h2 a3 h3 a4 h4 a5 h5 a6 h6 a7 h7 hc0 hc1 x0 x1 x2 x3 = k0_pay4 x1 x0 x2 x3 := by
  unfold out0_A_4
  rw [View.read_writes_eq_canon _ _ _ (cover0_A_4 c i a1 h1 a2 h2 a3 h3 a4 h4 a5 h5 a6 h6 a7 h7 hc0 hc1 x0 x1 x2 x3)]
  unfold kernelRun0_A
  dsimp only
  rw [View.canon_unit_zero hz]
  simp only [View.readAt_eq_ld, h1.read_unread, h2.read_unread, h3.read_unread, h4.read_unread, h7.read_unread,
    View.ld_unit_zero (S := S512x1024) hz, View.ld_unit_zero (S := S1x1024) hz]

theorem out_A_5 (hc0 : cond0_0 i) (hc1 : ¬cond0_1 i) :
    out0_A_5 c i a1 h1 a2 h2 a3 h3 a4 h4 a5 h5 a6 h6 a7 h7 hc0 hc1 x0 x1 x2 x3 = k0_pay5 x1 x0 x2 x3 := by
  unfold out0_A_5
  rw [View.read_writes_eq_canon _ _ _ (cover0_A_5 c i a1 h1 a2 h2 a3 h3 a4 h4 a5 h5 a6 h6 a7 h7 hc0 hc1 x0 x1 x2 x3)]
  unfold kernelRun0_A
  dsimp only
  rw [View.canon_unit_zero hz]
  simp only [View.readAt_eq_ld, h1.read_unread, h2.read_unread, h3.read_unread, h4.read_unread, h7.read_unread,
    View.ld_unit_zero (S := S512x1024) hz, View.ld_unit_zero (S := S1x1024) hz]

theorem out_A_6 (hc0 : cond0_0 i) (hc1 : ¬cond0_1 i) :
    out0_A_6 c i a1 h1 a2 h2 a3 h3 a4 h4 a5 h5 a6 h6 a7 h7 hc0 hc1 x0 x1 x2 x3 = k0_pay6 x1 x0 := by
  unfold out0_A_6
  rw [View.read_writes_eq_canon _ _ _ (cover0_A_6 c i a1 h1 a2 h2 a3 h3 a4 h4 a5 h5 a6 h6 a7 h7 hc0 hc1 x0 x1 x2 x3)]
  unfold kernelRun0_A
  dsimp only
  rw [View.canon_unit_zero hz]
  simp only [View.readAt_eq_ld, h1.read_unread, h2.read_unread, h3.read_unread, h4.read_unread, h7.read_unread,
    View.ld_unit_zero (S := S512x1024) hz, View.ld_unit_zero (S := S1x1024) hz]

theorem out_B_4 (hc0 : ¬cond0_0 i) (hc1 : cond0_1 i) :
    out0_B_4 c i a1 h1 a2 h2 a3 h3 a4 h4 a5 h5 a6 h6 a7 h7 hc0 hc1 x0 x1 x2 x3 xo = k0_pay4 x1 x0 x2 x3 := by
  unfold out0_B_4
  rw [View.read_writes_eq_canon _ _ _ (cover0_B_4 c i a1 h1 a2 h2 a3 h3 a4 h4 a5 h5 a6 h6 a7 h7 hc0 hc1 x0 x1 x2 x3 xo)]
  unfold kernelRun0_B
  dsimp only
  rw [View.canon_unit_zero hz]
  simp only [View.readAt_eq_ld, h1.read_unread, h2.read_unread, h3.read_unread, h4.read_unread, h7.read_unread,
    View.ld_unit_zero (S := S512x1024) hz, View.ld_unit_zero (S := S1x1024) hz]

theorem out_B_5 (hc0 : ¬cond0_0 i) (hc1 : cond0_1 i) :
    out0_B_5 c i a1 h1 a2 h2 a3 h3 a4 h4 a5 h5 a6 h6 a7 h7 hc0 hc1 x0 x1 x2 x3 xo = k0_pay5 x1 x0 x2 x3 := by
  unfold out0_B_5
  rw [View.read_writes_eq_canon _ _ _ (cover0_B_5 c i a1 h1 a2 h2 a3 h3 a4 h4 a5 h5 a6 h6 a7 h7 hc0 hc1 x0 x1 x2 x3 xo)]
  unfold kernelRun0_B
  dsimp only
  rw [View.canon_unit_zero hz]
  simp only [View.readAt_eq_ld, h1.read_unread, h2.read_unread, h3.read_unread, h4.read_unread, h7.read_unread,
    View.ld_unit_zero (S := S512x1024) hz, View.ld_unit_zero (S := S1x1024) hz]

theorem out_B_6 (hc0 : ¬cond0_0 i) (hc1 : cond0_1 i) :
    out0_B_6 c i a1 h1 a2 h2 a3 h3 a4 h4 a5 h5 a6 h6 a7 h7 hc0 hc1 x0 x1 x2 x3 xo = k0_pay1 (k0_pay6 x1 x0) xo := by
  unfold out0_B_6
  rw [View.read_writes_eq_canon _ _ _ (cover0_B_6 c i a1 h1 a2 h2 a3 h3 a4 h4 a5 h5 a6 h6 a7 h7 hc0 hc1 x0 x1 x2 x3 xo)]
  unfold kernelRun0_B
  dsimp only
  sl_unfold_words
  rw [View.canon_unit_zero hz]
  simp only [View.readAt_eq_ld, h1.read_unread, h2.read_unread, h3.read_unread, h4.read_unread, h7.read_unread,
    View.ld_unit_zero (S := S512x1024) hz, View.ld_unit_zero (S := S1x1024) hz]

end

/-- A row of a block. -/
def row {n : ℕ} (x : (⟨2, ![n, 1024]⟩ : Shape).Idx → EReal) (p : Fin n) (k : Fin 1024) : EReal := x (ix2 p k)

theorem pay2_apply (x : Vec Ideal S512x1024 .f32) (p : Fin 512) (o : Fin 1) : (k0_pay2 x (ix2 p o) : EReal) = rr (row x p) := by
  pointwise [k0_pay2, rr, msq, row, cN, cE]

theorem pay3_apply (x : Vec Ideal S512x1024 .f32) (p : Fin 512) (j : Fin 1024) :
    (k0_pay3 x (ix2 p j) : EReal) = x (ix2 p j) * rr (row x p) := by
  unfold k0_pay3
  pointwise [pay2_apply]

theorem pay4_apply (x0 x1 : Vec Ideal S512x1024 .f32) (x2 : Vec Ideal S1x1024 .f32) (x3 : Vec Ideal S512x1024 .f32)
    (p : Fin 512) (j : Fin 1024) : (k0_pay4 x1 x0 x2 x3 (ix2 p j) : EReal)
      = gK (row x1 p) (row x0 p) (row x2 0) (x3 (ix2 p j)) j := by
  unfold k0_pay4
  pointwise [pay2_apply, pay3_apply, gK, row, cN]

theorem pay6_apply (x0 x1 : Vec Ideal S512x1024 .f32) (o : Fin 1) (j : Fin 1024) :
    (k0_pay6 x1 x0 (ix2 o j) : EReal) = ∑ p : Fin 512, x0 (ix2 p j) * (x1 (ix2 p j) * rr (row x1 p)) := by
  unfold k0_pay6
  pointwise [pay3_apply]

theorem pay1_apply (v w : Vec Ideal S1x1024 .f32) (o : Fin 1) (j : Fin 1024) :
    (k0_pay1 v w (ix2 o j) : EReal) = w (ix2 o j) + v (ix2 o j) := by
  pointwise [k0_pay1]

/-! ## The arrays -/

variable (m : (ℓ : Loc nD τ sig) → Buf (Elt Ideal) ℓ)

theorem outs4 (c : Dev nD) (t : Fin cfg0.N) :
    (outsAt0 m c t.val t.isLt).1 = k0_pay4 (iblk m c 1 t) (iblk m c 0 t) (iblk m c 2 t) (iblk m c 3 t) := by
  have hN : t.val < 16 := lt_of_lt_of_eq t.isLt (show cfg0.N = 16 from N_0)
  by_cases h : t.val % 16 = 0
  · rw [outsAt0_A m c t h (by omega)]
    dsimp only
    rw [out_A_4]
  · rw [outsAt0_B m c t h (by omega)]
    dsimp only
    rw [out_B_4]

theorem outs5 (c : Dev nD) (t : Fin cfg0.N) :
    (outsAt0 m c t.val t.isLt).2.1 = k0_pay5 (iblk m c 1 t) (iblk m c 0 t) (iblk m c 2 t) (iblk m c 3 t) := by
  have hN : t.val < 16 := lt_of_lt_of_eq t.isLt (show cfg0.N = 16 from N_0)
  by_cases h : t.val % 16 = 0
  · rw [outsAt0_A m c t h (by omega)]
    dsimp only
    rw [out_A_5]
  · rw [outsAt0_B m c t h (by omega)]
    dsimp only
    rw [out_B_5]

/-- What a block of rows adds to the gain's gradient. -/
def tile (x0 x1 : Vec Ideal S512x1024 .f32) (j : Fin 1024) : EReal :=
  ∑ p : Fin 512, x0 (ix2 p j) * (x1 (ix2 p j) * rr (row x1 p))

/-- What point `n` contributes at place `j` of the gain's gradient. -/
def part (c : Dev nD) (j : Fin 1024) (n : ℕ) : EReal :=
  if h : n < cfg0.N then tile (iblk m c 0 ⟨n, h⟩) (iblk m c 1 ⟨n, h⟩) j else 0

theorem part_eq (c : Dev nD) (j : Fin 1024) (t : Fin cfg0.N) :
    part m c j t = tile (iblk m c 0 t) (iblk m c 1 t) j := dif_pos t.isLt

theorem acc (c : Dev nD) (o : Fin 1) (j : Fin 1024) : ∀ n (h : n < cfg0.N), n % 17 ≠ 17 - 1 →
    ((outsAt0 m c n h).2.2 (ix2 o j) : EReal) = ∑ s ∈ Finset.range (n % 17 + 1), part m c j (n - n % 17 + s) := by
  have hN : cfg0.N = 16 := N_0
  refine run_sum 17 (by omega) (fun n h => ((outsAt0 m c n h).2.2 (ix2 o j) : EReal)) (part m c j) ?_ ?_
  · intro n h h0
    rw [outsAt0_A m c ⟨n, h⟩ (by simp only; omega) (by simp only; omega)]
    dsimp only
    rw [out_A_6, pay6_apply]
    exact (part_eq m c j ⟨n, h⟩).symm
  · intro n h h' h0 h1
    rw [outsAt0_B m c ⟨n, h⟩ (by simp only; omega) (by simp only; omega)]
    dsimp only
    rw [out_B_6, pay1_apply, pay6_apply]
    exact congrArg _ (part_eq m c j ⟨n, h⟩).symm

theorem last (c : Dev nD) (o : Fin 1) (j : Fin 1024) (t : Fin cfg0.N) (ht : t.val % 16 = 15) :
    ((outsAt0 m c t.val t.isLt).2.2 (ix2 o j) : EReal) = ∑ s ∈ Finset.range 16, part m c j s := by
  have hN : t.val < 16 := lt_of_lt_of_eq t.isLt (show cfg0.N = 16 from N_0)
  have h15 : t.val = 15 := by omega
  rw [acc m c o j t.val t.isLt (by omega)]
  have e1 : t.val % 17 = 15 := by omega
  rw [e1]
  exact Finset.sum_congr rfl fun s _ => by rw [show t.val - 15 + s = s by omega]

theorem e0 : ∀ t : Fin cfg0.N, win0_0.index t = ![t.val, 0] :=
  (by decide +kernel : ∀ t : Fin grid0.N, win0_0.index t = ![t.val, 0])
theorem e1 : ∀ t : Fin cfg0.N, win0_1.index t = ![t.val, 0] :=
  (by decide +kernel : ∀ t : Fin grid0.N, win0_1.index t = ![t.val, 0])
theorem e2 : ∀ t : Fin cfg0.N, win0_2.index t = ![0, 0] :=
  (by decide +kernel : ∀ t : Fin grid0.N, win0_2.index t = ![0, 0])
theorem e3 : ∀ t : Fin cfg0.N, win0_3.index t = ![t.val, 0] :=
  (by decide +kernel : ∀ t : Fin grid0.N, win0_3.index t = ![t.val, 0])
theorem e4 : ∀ t : Fin cfg0.N, win0_4.index t = ![t.val, 0] :=
  (by decide +kernel : ∀ t : Fin grid0.N, win0_4.index t = ![t.val, 0])
theorem e5 : ∀ t : Fin cfg0.N, win0_5.index t = ![t.val, 0] :=
  (by decide +kernel : ∀ t : Fin grid0.N, win0_5.index t = ![t.val, 0])
theorem e6 : ∀ t : Fin cfg0.N, win0_6.index t = ![0, 0] :=
  (by decide +kernel : ∀ t : Fin grid0.N, win0_6.index t = ![0, 0])

/-- The gradient as one function of the arrays: `X` the rows, `G` the gain, `DH` the gradient that comes in, `D` the one
    it is added to. -/
def G4 (X : S8192x1024.Idx → EReal) (G : S1x1024.Idx → EReal) (DH D : S8192x1024.Idx → EReal) (y : S8192x1024.Idx) : EReal :=
  gK (row X (y 0)) (row DH (y 0)) (row G 0) (D (ix2 (y 0) (y 1))) (y 1)

/-- The gain's gradient. -/
def G6 (X DH : S8192x1024.Idx → EReal) (y : S1x1024.Idx) : EReal :=
  ∑ n : Fin 8192, DH (ix2 n (y 1)) * (X (ix2 n (y 1)) * rr (row X n))

/-- The row of the arrays that row `p` of point `t`'s block is. -/
def at_ (t : Fin cfg0.N) (p : Fin 512) : Fin 8192 :=
  ⟨t.val * 512 + p.val, by have h : t.val < 16 := lt_of_lt_of_eq t.isLt (show cfg0.N = 16 from N_0); omega⟩

theorem emb_0 (t : Fin cfg0.N) (p : Fin 512) (k : Fin 1024) : (win0_0.blk t).view.emb (ix2 p k) = ix2 (at_ t p) k := by
  blk_ext [e0, at_]
theorem emb_1 (t : Fin cfg0.N) (p : Fin 512) (k : Fin 1024) : (win0_1.blk t).view.emb (ix2 p k) = ix2 (at_ t p) k := by
  blk_ext [e1, at_]
theorem emb_2 (t : Fin cfg0.N) (p : Fin 1) (k : Fin 1024) : (win0_2.blk t).view.emb (ix2 p k) = ix2 p k := by
  blk_ext [e2]
theorem emb_3 (t : Fin cfg0.N) (p : Fin 512) (k : Fin 1024) : (win0_3.blk t).view.emb (ix2 p k) = ix2 (at_ t p) k := by
  blk_ext [e3, at_]
theorem emb_4 (t : Fin cfg0.N) (p : Fin 512) (k : Fin 1024) : (win0_4.blk t).view.emb (ix2 p k) = ix2 (at_ t p) k := by
  blk_ext [e4, at_]
theorem emb_5 (t : Fin cfg0.N) (p : Fin 512) (k : Fin 1024) : (win0_5.blk t).view.emb (ix2 p k) = ix2 (at_ t p) k := by
  blk_ext [e5, at_]
theorem emb_6 (t : Fin cfg0.N) (p : Fin 1) (k : Fin 1024) : (win0_6.blk t).view.emb (ix2 p k) = ix2 p k := by
  blk_ext [e6]

theorem blk_0 (c : Dev nD) (t : Fin cfg0.N) (p : Fin 512) (k : Fin 1024) :
    @Eq EReal (iblk m c 0 t (ix2 p k)) (V m c main_arg2 (ix2 (at_ t p) k)) := by
  blk_simp [iblk]; rw [emb_0]
theorem blk_1 (c : Dev nD) (t : Fin cfg0.N) (p : Fin 512) (k : Fin 1024) :
    @Eq EReal (iblk m c 1 t (ix2 p k)) (V m c main_arg0 (ix2 (at_ t p) k)) := by
  blk_simp [iblk]; rw [emb_1]
theorem blk_2 (c : Dev nD) (t : Fin cfg0.N) (p : Fin 1) (k : Fin 1024) :
    @Eq EReal (iblk m c 2 t (ix2 p k)) (V m c main_arg1 (ix2 p k)) := by
  blk_simp [iblk]; rw [emb_2]
theorem blk_3 (c : Dev nD) (t : Fin cfg0.N) (p : Fin 512) (k : Fin 1024) :
    @Eq EReal (iblk m c 3 t (ix2 p k)) (V m c main_arg3 (ix2 (at_ t p) k)) := by
  blk_simp [iblk]; rw [emb_3]

theorem row_1 (c : Dev nD) (t : Fin cfg0.N) (p : Fin 512) :
    row (n := 512) (iblk m c 1 t) p = row (n := 8192) (V m c main_arg0) (at_ t p) := funext fun k => blk_1 m c t p k
theorem row_0 (c : Dev nD) (t : Fin cfg0.N) (p : Fin 512) :
    row (n := 512) (iblk m c 0 t) p = row (n := 8192) (V m c main_arg2) (at_ t p) := funext fun k => blk_0 m c t p k
theorem row_2 (c : Dev nD) (t : Fin cfg0.N) :
    row (n := 1) (iblk m c 2 t) 0 = row (n := 1) (V m c main_arg1) 0 := funext fun k => blk_2 m c t 0 k

theorem out4_apply (c : Dev nD) (t : Fin cfg0.N) (p : Fin 512) (j : Fin 1024) :
    @Eq EReal (k0_pay4 (iblk m c 1 t) (iblk m c 0 t) (iblk m c 2 t) (iblk m c 3 t) (ix2 p j))
      (G4 (V m c main_arg0) (V m c main_arg1) (V m c main_arg2) (V m c main_arg3) (ix2 (at_ t p) j)) := by
  refine (pay4_apply _ _ _ _ p j).trans ?_
  rw [row_1, row_0, row_2]
  exact congrArg (fun d => gK _ _ _ d j) (blk_3 m c t p j)

theorem arr4 (c : Dev nD) : (dats m 0 c).arrAt 4 cfg0.N
    = G4 (V m c main_arg0) (V m c main_arg1) (V m c main_arg2) (V m c main_arg3) := by
  refine (dats m 0 c).arrAt_eq_of_covers 4 _ (by decide +kernel) fun t hf y => ?_
  blk_simp
  rw [after0_4, outs4]
  have hy : y = ix2 (y 0) (y 1) := by funext a; fin_cases a <;> rfl
  rw [hy]
  refine (out4_apply m c t (y 0) (y 1)).trans ?_
  exact (congrArg _ (emb_4 t (y 0) (y 1))).symm

theorem arr5 (c : Dev nD) : (dats m 0 c).arrAt 5 cfg0.N
    = G4 (V m c main_arg0) (V m c main_arg1) (V m c main_arg2) (V m c main_arg3) := by
  refine (dats m 0 c).arrAt_eq_of_covers 5 _ (by decide +kernel) fun t hf y => ?_
  blk_simp
  rw [after0_5, outs5]
  have hy : y = ix2 (y 0) (y 1) := by funext a; fin_cases a <;> rfl
  rw [hy]
  refine (out4_apply m c t (y 0) (y 1)).trans ?_
  exact (congrArg _ (emb_5 t (y 0) (y 1))).symm

theorem arr6 (c : Dev nD) : (dats m 0 c).arrAt 6 cfg0.N = G6 (V m c main_arg0) (V m c main_arg2) := by
  refine (dats m 0 c).arrAt_eq_of_covers 6 _ (by decide +kernel) fun t hf y => ?_
  have ht : t.val % 16 = 15 := (flush0_6 t).mp hf
  blk_simp
  rw [after0_6]
  have hy : y = ix2 (y 0) (y 1) := by funext a; fin_cases a <;> rfl
  rw [hy]
  refine (last m c (y 0) (y 1) t ht).trans (Eq.trans ?_ (congrArg (G6 (V m c main_arg0) (V m c main_arg2)) (emb_6 t (y 0) (y 1))).symm)
  unfold G6
  refine tiles_sum 16 512 (by norm_num) _ _ fun s hs => ?_
  have hlt : s < cfg0.N := by have : cfg0.N = 16 := N_0; omega
  rw [show part m c (y 1) s = _ from part_eq m c (y 1) ⟨s, hlt⟩]
  unfold tile
  refine Finset.sum_congr rfl fun p _ => ?_
  rw [row_1]
  exact congrArg₂ (fun a b : EReal => a * (b * _)) (blk_0 m c ⟨s, hlt⟩ p (y 1)) (blk_1 m c ⟨s, hlt⟩ p (y 1))

end Cert.Rms

end
-- ==== Proof.RmsTie.lean ====
/-
  The reference's gradient through the normalisation is the kernel's, and the claim.
-/
module

public import proofs.«01_k».proof.Proof.Rms
public import proofs.«01_k».proof.Proof.Gen.Reference2Ideal.Run

@[expose] public section

set_option maxRecDepth 16384

noncomputable section

namespace Cert.Rms

open Cert.Common Cert.Reference2Ideal Cert.Reference2Ideal.Gen Idealize.ShloMosaic Idealize.ShloMosaic.TcCoe Idealize.SL.Sem

variable (X DH D : FVec Ideal S8192x1024 .f32) (G : FVec Ideal S1x1024 .f32)

/-- The regularised mean square of each row. -/
def msqH : FVec Ideal S8192x1 .f32 :=
  addf (Host.divf (broadcastInDim S8192x1 ![0] bcast_S8192_S8192x1_0
      (Host.reduceAdd (mulf X X) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))

theorem msqH_apply (n : Fin 8192) (o : Fin 1) : (msqH X (ix2 n o) : EReal) = msq (row X n) := by
  pointwise [msqH, msq, row, cN, cE]

/-- The factor of each row. -/
def qH : FVec Ideal S8192 .f32 :=
  Host.reduceAdd (Host.divf (mulf (shapeCast _ (Host.reduceAdd (mulf X (mulf DH
      (broadcastInDim S8192x1024 ![0, 1] bcast_S1x1024_S8192x1024_0_1 G))) (constant S_ .f32 0x00000000#32)
      reducesTo_S8192x1024_S8192_d1 h_S_) shapeCasts_S8192_S8192x1)
    (mulf (broadcastInDim S8192x1 ![] bcast_S_S8192x1 (constant S_ .f32 0xBF000000#32)) (Host.divf (Host.rsqrt (msqH X)) (msqH X))))
    (broadcastInDim S8192x1 ![] bcast_S_S8192x1 (constant S_ .f32 0x44800000#32))) (constant S_ .f32 0x00000000#32)
    reducesTo_S8192x1_S8192_d1 h_S_

theorem qH_apply (n : Fin 8192) : (qH X DH G (ix1 n) : EReal) = gQ (row X n) (row DH n) (row G 0) := by
  unfold qH
  pointwise [msqH_apply, gQ, rr, row, cN, cH]
  exact Fin.sum_univ_one _

/-- The gradient. -/
def dxH : FVec Ideal S8192x1024 .f32 :=
  addf (addf (addf D (mulf (mulf DH (broadcastInDim S8192x1024 ![0, 1] bcast_S1x1024_S8192x1024_0_1 G))
      (broadcastInDim S8192x1024 ![0, 1] bcast_S8192x1_S8192x1024_0_1 (Host.rsqrt (msqH X)))))
    (mulf X (broadcastInDim S8192x1024 ![0] bcast_S8192_S8192x1024_0 (qH X DH G))))
    (mulf (broadcastInDim S8192x1024 ![0] bcast_S8192_S8192x1024_0 (qH X DH G)) X)

theorem tie4 : dxH X DH D G = G4 X G DH D := by
  funext y; idx_vars y
  unfold dxH G4
  refine Eq.trans ?_ (rms_law _ _ _ _ _).symm
  pointwise [msqH_apply, qH_apply, gR, rr, row]

/-- The gain's gradient. -/
def dgH : FVec Ideal S1x1024 .f32 :=
  shapeCast _ (Host.reduceAdd (mulf (mulf X (broadcastInDim S8192x1024 ![0, 1] bcast_S8192x1_S8192x1024_0_1
      (Host.rsqrt (msqH X)))) DH) (constant S_ .f32 0x00000000#32) reducesTo_S8192x1024_S1024_d0 h_S_) shapeCasts_S1024_S1x1024

theorem tie6 : dgH X DH = G6 X DH := by
  funext y; idx_vars y
  unfold dgH
  pointwise [msqH_apply, G6, rr]
  exact Finset.sum_congr rfl fun k _ => mul_comm _ _

/-- The claim of values: both programs end with the gradient, its rounded copy and the gain's gradient. -/
theorem algebraic : Cert.algebraic_Kernel2Ideal_Reference2Ideal := by
  intro m g m' g' hpre hagree
  refine ⟨fun c => G4 (Kernel2Ideal.Gen.V m c Kernel2Ideal.main_arg0) (Kernel2Ideal.Gen.V m c Kernel2Ideal.main_arg1)
      (Kernel2Ideal.Gen.V m c Kernel2Ideal.main_arg2) (Kernel2Ideal.Gen.V m c Kernel2Ideal.main_arg3),
    fun c => G4 (Kernel2Ideal.Gen.V m c Kernel2Ideal.main_arg0) (Kernel2Ideal.Gen.V m c Kernel2Ideal.main_arg1)
      (Kernel2Ideal.Gen.V m c Kernel2Ideal.main_arg2) (Kernel2Ideal.Gen.V m c Kernel2Ideal.main_arg3),
    fun c => G6 (Kernel2Ideal.Gen.V m c Kernel2Ideal.main_arg0) (Kernel2Ideal.Gen.V m c Kernel2Ideal.main_arg2), ?_, ?_⟩
  · exact (θ_run _ _ _).mono (fun r h c => ⟨(h c).1.trans (arr4 m c), (h c).2.1.trans (arr5 m c),
      (h c).2.2.1.trans (arr6 m c), (h c).2.2.2⟩) (Cert.Kernel2Ideal.Value.run_blocks m g)
  · refine (θ_run _ _ _).mono ?_ (Cert.Reference2Ideal.Value.run m' g')
    intro r h c
    refine ⟨(h c).1.trans ?_, (h c).2.1.trans ?_, (h c).2.2.1.trans ?_, (h c).2.2.2⟩
    all_goals
      clear h
      obtain ⟨h0, h1, h2, h3⟩ := hagree c
      beta_reduce
      rw [Kernel2Ideal.Gen.V_main_arg0, Kernel2Ideal.Gen.V_main_arg2]
    · rw [Kernel2Ideal.Gen.V_main_arg1, Kernel2Ideal.Gen.V_main_arg3, h0, h1, h2, h3]
      exact tie4 _ _ _ _
    · rw [Kernel2Ideal.Gen.V_main_arg1, Kernel2Ideal.Gen.V_main_arg3, h0, h1, h2, h3]
      exact tie4 _ _ _ _
    · rw [h0, h2]
      exact tie6 _ _

end Cert.Rms

end
-- ==== Proof.lean ====
/-
  The proof of `Cert.Claim` (proofs.«01_k».proof.Defs).

  A kernel's frame is the generated one. A reference's frame is its generated run read at the arguments; a reference
  declares no semaphore, so every counter stays at zero. `preserves` holds because the idealised program is the printed
  program over the other numbers, with nothing replaced. Each `algebraic` claim is proved in the module of its kernel.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Pre_finite_inputs
public import proofs.«01_k».proof.Proof.Gen.Pre_finite_gain_and_ds
public import proofs.«01_k».proof.Proof.ConvDh
public import proofs.«01_k».proof.Proof.ConvDwTie
public import proofs.«01_k».proof.Proof.ConvDwin
public import proofs.«01_k».proof.Proof.ConvLnTie
public import proofs.«01_k».proof.Proof.Dh
public import proofs.«01_k».proof.Proof.Down
public import proofs.«01_k».proof.Proof.Dwd
public import proofs.«01_k».proof.Proof.Dwgu
public import proofs.«01_k».proof.Proof.FoxDh
public import proofs.«01_k».proof.Proof.FoxDwf
public import proofs.«01_k».proof.Proof.FoxDwqkv
public import proofs.«01_k».proof.Proof.FoxQkv
public import proofs.«01_k».proof.Proof.GateTie
public import proofs.«01_k».proof.Proof.HgrnDh
public import proofs.«01_k».proof.Proof.HgrnDwin
public import proofs.«01_k».proof.Proof.HgrnIn
public import proofs.«01_k».proof.Proof.MixDs
public import proofs.«01_k».proof.Proof.MixDw
public import proofs.«01_k».proof.Proof.MixOut
public import proofs.«01_k».proof.Proof.RmsTie
public import Idealize.ShloMosaic.Lib.Quiescent

@[expose] public section

noncomputable section

namespace Cert.Proof

open Idealize.ShloMosaic Idealize.SL.Sem

theorem frameReferenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frameReference2Ideal : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

theorem frameReference3Ideal : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem frameReference4Ideal : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem frameReference5Ideal : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem frameReference6Ideal : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem frameReference7Ideal : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

theorem frameReference8Ideal : Cert.quiescent_Reference8Ideal := fun m ρ _ =>
  (θ_run Cert.Reference8Ideal.defs _ _).mono (fun r h => ⟨fun c => (h c).2.2,
      Idealize.ShloMosaic.sem_eq_zero_of_no_sems (by decide) r.2⟩)
    (Cert.Reference8Ideal.Value.run (F := Ideal) m ρ)

theorem frameReference12Ideal : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

theorem frameReference13Ideal : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

theorem frameReference14Ideal : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

theorem frameReference15Ideal : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

theorem frameReference16Ideal : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

theorem frameReference17Ideal : Cert.quiescent_Reference17Ideal := fun m ρ _ =>
  (θ_run Cert.Reference17Ideal.defs _ _).mono (fun r h => ⟨fun c => (h c).2,
      Idealize.ShloMosaic.sem_eq_zero_of_no_sems (by decide) r.2⟩)
    (Cert.Reference17Ideal.Value.run (F := Ideal) m ρ)

theorem frameReference18Ideal : Cert.quiescent_Reference18Ideal := fun m ρ _ =>
  (θ_run Cert.Reference18Ideal.defs _ _).mono (fun r h => ⟨fun c => (h c).2,
      Idealize.ShloMosaic.sem_eq_zero_of_no_sems (by decide) r.2⟩)
    (Cert.Reference18Ideal.Value.run (F := Ideal) m ρ)

theorem frameReference19Ideal : Cert.quiescent_Reference19Ideal := fun m ρ _ =>
  (θ_run Cert.Reference19Ideal.defs _ _).mono (fun r h => ⟨fun c => (h c).2,
      Idealize.ShloMosaic.sem_eq_zero_of_no_sems (by decide) r.2⟩)
    (Cert.Reference19Ideal.Value.run (F := Ideal) m ρ)

theorem frameReference20Ideal : Cert.quiescent_Reference20Ideal := fun m ρ _ =>
  (θ_run Cert.Reference20Ideal.defs _ _).mono (fun r h => ⟨fun c => (h c).2,
      Idealize.ShloMosaic.sem_eq_zero_of_no_sems (by decide) r.2⟩)
    (Cert.Reference20Ideal.Value.run (F := Ideal) m ρ)

theorem frameReference21Ideal : Cert.quiescent_Reference21Ideal := fun m ρ _ =>
  (θ_run Cert.Reference21Ideal.defs _ _).mono (fun r h => ⟨fun c => (h c).2,
      Idealize.ShloMosaic.sem_eq_zero_of_no_sems (by decide) r.2⟩)
    (Cert.Reference21Ideal.Value.run (F := Ideal) m ρ)

theorem frameReference22Ideal : Cert.quiescent_Reference22Ideal := fun m ρ _ =>
  (θ_run Cert.Reference22Ideal.defs _ _).mono (fun r h => ⟨fun c => (h c).2,
      Idealize.ShloMosaic.sem_eq_zero_of_no_sems (by decide) r.2⟩)
    (Cert.Reference22Ideal.Value.run (F := Ideal) m ρ)

theorem frameReference23Ideal : Cert.quiescent_Reference23Ideal := fun m ρ _ =>
  (θ_run Cert.Reference23Ideal.defs _ _).mono (fun r h => ⟨fun c => (h c).2,
      Idealize.ShloMosaic.sem_eq_zero_of_no_sems (by decide) r.2⟩)
    (Cert.Reference23Ideal.Value.run (F := Ideal) m ρ)

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel12.Gen.facts, Cert.Kernel12Ideal.Gen.facts, Cert.Reference12Ideal.Gen.facts, Cert.Kernel13.Gen.facts,
  Cert.Kernel13Ideal.Gen.facts, Cert.Reference13Ideal.Gen.facts, Cert.Kernel14.Gen.facts, Cert.Kernel14Ideal.Gen.facts,
  Cert.Reference14Ideal.Gen.facts, Cert.Kernel15.Gen.facts, Cert.Kernel15Ideal.Gen.facts,
  Cert.Reference15Ideal.Gen.facts, Cert.Kernel16.Gen.facts, Cert.Kernel16Ideal.Gen.facts,
  Cert.Reference16Ideal.Gen.facts, Cert.Kernel17.Gen.facts, Cert.Kernel17Ideal.Gen.facts,
  Cert.Reference17Ideal.Gen.facts, Cert.Kernel18.Gen.facts, Cert.Kernel18Ideal.Gen.facts,
  Cert.Reference18Ideal.Gen.facts, Cert.Kernel19.Gen.facts, Cert.Kernel19Ideal.Gen.facts,
  Cert.Reference19Ideal.Gen.facts, Cert.Kernel20.Gen.facts, Cert.Kernel20Ideal.Gen.facts,
  Cert.Reference20Ideal.Gen.facts, Cert.Kernel21.Gen.facts, Cert.Kernel21Ideal.Gen.facts,
  Cert.Reference21Ideal.Gen.facts, Cert.Kernel22.Gen.facts, Cert.Kernel22Ideal.Gen.facts,
  Cert.Reference22Ideal.Gen.facts, Cert.Kernel23.Gen.facts, Cert.Kernel23Ideal.Gen.facts,
  Cert.Reference23Ideal.Gen.facts, Cert.Pre_finite_inputs.Gen.facts, Cert.Pre_finite_gain_and_ds.Gen.facts,
  fun m ρ _ => Cert.Kernel.Gen.frame m ρ,
  fun m ρ _ => Cert.KernelIdeal.Gen.frame m ρ,
  fun m ρ _ => Cert.KernelIdeal.Gen.frame m ρ,
  frameReferenceIdeal,
  fun m ρ _ => frameReferenceIdeal m ρ trivial,
  fun m ρ _ => Cert.Kernel2.Gen.frame m ρ,
  fun m ρ _ => Cert.Kernel2Ideal.Gen.frame m ρ,
  frameReference2Ideal,
  fun m ρ _ => Cert.Kernel3.Gen.frame m ρ,
  fun m ρ _ => Cert.Kernel3Ideal.Gen.frame m ρ,
  frameReference3Ideal,
  fun m ρ _ => Cert.Kernel4.Gen.frame m ρ,
  fun m ρ _ => Cert.Kernel4Ideal.Gen.frame m ρ,
  frameReference4Ideal,
  fun m ρ _ => Cert.Kernel5.Gen.frame m ρ,
  fun m ρ _ => Cert.Kernel5Ideal.Gen.frame m ρ,
  frameReference5Ideal,
  fun m ρ _ => Cert.Kernel6.Gen.frame m ρ,
  fun m ρ _ => Cert.Kernel6Ideal.Gen.frame m ρ,
  frameReference6Ideal,
  fun m ρ _ => Cert.Kernel7.Gen.frame m ρ,
  fun m ρ _ => Cert.Kernel7Ideal.Gen.frame m ρ,
  fun m ρ _ => Cert.Kernel7Ideal.Gen.frame m ρ,
  frameReference7Ideal,
  fun m ρ _ => frameReference7Ideal m ρ trivial,
  fun m ρ _ => Cert.Kernel8.Gen.frame m ρ,
  fun m ρ _ => Cert.Kernel8Ideal.Gen.frame m ρ,
  frameReference8Ideal,
  fun m ρ _ => Cert.Kernel12.Gen.frame m ρ,
  fun m ρ _ => Cert.Kernel12Ideal.Gen.frame m ρ,
  frameReference12Ideal,
  fun m ρ _ => Cert.Kernel13.Gen.frame m ρ,
  fun m ρ _ => Cert.Kernel13Ideal.Gen.frame m ρ,
  frameReference13Ideal,
  fun m ρ _ => Cert.Kernel14.Gen.frame m ρ,
  fun m ρ _ => Cert.Kernel14Ideal.Gen.frame m ρ,
  frameReference14Ideal,
  fun m ρ _ => Cert.Kernel15.Gen.frame m ρ,
  fun m ρ _ => Cert.Kernel15Ideal.Gen.frame m ρ,
  frameReference15Ideal,
  fun m ρ _ => Cert.Kernel16.Gen.frame m ρ,
  fun m ρ _ => Cert.Kernel16Ideal.Gen.frame m ρ,
  frameReference16Ideal,
  fun m ρ _ => Cert.Kernel17.Gen.frame m ρ,
  fun m ρ _ => Cert.Kernel17Ideal.Gen.frame m ρ,
  frameReference17Ideal,
  fun m ρ _ => Cert.Kernel18.Gen.frame m ρ,
  fun m ρ _ => Cert.Kernel18Ideal.Gen.frame m ρ,
  frameReference18Ideal,
  fun m ρ _ => Cert.Kernel19.Gen.frame m ρ,
  fun m ρ _ => Cert.Kernel19Ideal.Gen.frame m ρ,
  frameReference19Ideal,
  fun m ρ _ => Cert.Kernel20.Gen.frame m ρ,
  fun m ρ _ => Cert.Kernel20Ideal.Gen.frame m ρ,
  frameReference20Ideal,
  fun m ρ _ => Cert.Kernel21.Gen.frame m ρ,
  fun m ρ _ => Cert.Kernel21Ideal.Gen.frame m ρ,
  frameReference21Ideal,
  fun m ρ _ => Cert.Kernel22.Gen.frame m ρ,
  fun m ρ _ => Cert.Kernel22Ideal.Gen.frame m ρ,
  frameReference22Ideal,
  fun m ρ _ => Cert.Kernel23.Gen.frame m ρ,
  fun m ρ _ => Cert.Kernel23Ideal.Gen.frame m ρ,
  frameReference23Ideal,
  trivial,
  Cert.Gate.algebraic,
  trivial,
  Cert.Rms.algebraic,
  trivial,
  Cert.Dwd.algebraic,
  trivial,
  Cert.Dwgu.algebraic,
  trivial,
  Cert.Dh.algebraic,
  trivial,
  Cert.Down.algebraic,
  trivial,
  Cert.ConvLn.algebraic,
  trivial,
  Cert.ConvDw.algebraic,
  trivial,
  Cert.MixDs.algebraic,
  trivial,
  Cert.MixDw.algebraic,
  trivial,
  Cert.MixOut.algebraic,
  trivial,
  Cert.ConvDwin.algebraic,
  trivial,
  Cert.ConvDh.algebraic,
  trivial,
  Cert.HgrnDwin.algebraic,
  trivial,
  Cert.HgrnDh.algebraic,
  trivial,
  Cert.HgrnIn.algebraic,
  trivial,
  Cert.FoxQkv.algebraic,
  trivial,
  Cert.FoxDwqkv.algebraic,
  trivial,
  Cert.FoxDh.algebraic,
  trivial,
  Cert.FoxDwf.algebraic⟩

end Cert.Proof

end
